-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def preserves_Kernel_KernelIdeal : Prop :=
  IdealRules.named_const.Statement Cert.KernelIdeal.κ "exp2_scale" .f32 0x3E0293EE#32 (((Real.sqrt 128)⁻¹ * (Real.log 2)⁻¹ : ℝ) : EReal)

def preserves_Reference_ReferenceIdeal : Prop :=
  IdealRules.named_const.Statement Cert.ReferenceIdeal.κ "inv_sqrt_d" .f32 0x3DB504F3#32 (((Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v0_2) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S1x1x8192 : Shape := ⟨3, ![1, 1, 8192]⟩
abbrev S1x1x8x128 : Shape := ⟨4, ![1, 1, 8, 128]⟩
abbrev S1x32768x8x128 : Shape := ⟨4, ![1, 32768, 8, 128]⟩
abbrev S8 : Shape := ⟨1, ![8]⟩
abbrev S64x128 : Shape := ⟨2, ![64, 128]⟩
abbrev S8x128 : Shape := ⟨2, ![8, 128]⟩
abbrev S262144x128 : Shape := ⟨2, ![262144, 128]⟩
abbrev S16384x128 : Shape := ⟨2, ![16384, 128]⟩
abbrev S128x256 : Shape := ⟨2, ![128, 256]⟩
abbrev S2x128x256 : Shape := ⟨3, ![2, 128, 256]⟩
abbrev S512x2x2x8x128 : Shape := ⟨5, ![512, 2, 2, 8, 128]⟩
abbrev S64x256 : Shape := ⟨2, ![64, 256]⟩
abbrev S1 : Shape := ⟨1, ![1]⟩
abbrev S120x128 : Shape := ⟨2, ![120, 128]⟩
abbrev S128x128 : Shape := ⟨2, ![128, 128]⟩
abbrev S1x128x256 : Shape := ⟨3, ![1, 128, 256]⟩
abbrev S16x128 : Shape := ⟨2, ![16, 128]⟩
abbrev S512x128 : Shape := ⟨2, ![512, 128]⟩
abbrev S32x16x128 : Shape := ⟨3, ![32, 16, 128]⟩
abbrev S1x16x128 : Shape := ⟨3, ![1, 16, 128]⟩
abbrev S256x128 : Shape := ⟨2, ![256, 128]⟩
abbrev S256x256 : Shape := ⟨2, ![256, 256]⟩
abbrev S1x1x1x8x128 : Shape := ⟨5, ![1, 1, 1, 8, 128]⟩
abbrev S8x1 : Shape := ⟨2, ![8, 1]⟩
abbrev S64x1 : Shape := ⟨2, ![64, 1]⟩

abbrev nBuf : Space → Nat
  | .hbm => 18
  | .vmem => 17
  | .smem => 2
  | _ => 0

abbrev bufTy : (tb : Table) → Fin (tcTables nBuf tb) → BufTy
  | .hbm, ⟨0, _⟩ => ⟨S1x1x8192, .bf16⟩
  | .hbm, ⟨1, _⟩ => ⟨S1x1x8x128, .bf16⟩
  | .hbm, ⟨2, _⟩ => ⟨S1x1x8x128, .bf16⟩
  | .hbm, ⟨3, _⟩ => ⟨S1x32768x8x128, .fp8e4m3⟩
  | .hbm, ⟨4, _⟩ => ⟨S8, .f32⟩
  | .hbm, ⟨5, _⟩ => ⟨S1x32768x8x128, .fp8e4m3⟩
  | .hbm, ⟨6, _⟩ => ⟨S8, .f32⟩
  | .hbm, ⟨7, _⟩ => ⟨S64x128, .bf16⟩
  | .hbm, ⟨8, _⟩ => ⟨S8x128, .bf16⟩
  | .hbm, ⟨9, _⟩ => ⟨S8x128, .bf16⟩
  | .hbm, ⟨10, _⟩ => ⟨S262144x128, .fp8e4m3⟩
  | .hbm, ⟨11, _⟩ => ⟨S262144x128, .fp8e4m3⟩
  | .hbm, ⟨12, _⟩ => ⟨S64x128, .bf16⟩
  | .hbm, ⟨13, _⟩ => ⟨S8x128, .fp8e4m3⟩
  | .hbm, ⟨14, _⟩ => ⟨S8x128, .fp8e4m3⟩
  | .hbm, ⟨15, _⟩ => ⟨S1x1x8192, .bf16⟩
  | .hbm, ⟨16, _⟩ => ⟨S1x1x8x128, .fp8e4m3⟩
  | .hbm, ⟨17, _⟩ => ⟨S1x1x8x128, .fp8e4m3⟩
  | .local _ .vmem, ⟨0, _⟩ => ⟨S64x128, .bf16⟩
  | .local _ .vmem, ⟨1, _⟩ => ⟨S8x128, .bf16⟩
  | .local _ .vmem, ⟨2, _⟩ => ⟨S8x128, .bf16⟩
  | .local _ .vmem, ⟨3, _⟩ => ⟨S16384x128, .fp8e4m3⟩
  | .local _ .vmem, ⟨4, _⟩ => ⟨S16384x128, .fp8e4m3⟩
  | .local _ .vmem, ⟨5, _⟩ => ⟨S16384x128, .fp8e4m3⟩
  | .local _ .vmem, ⟨6, _⟩ => ⟨S16384x128, .fp8e4m3⟩
  | .local _ .vmem, ⟨7, _⟩ => ⟨S64x128, .bf16⟩
  | .local _ .vmem, ⟨8, _⟩ => ⟨S8x128, .fp8e4m3⟩
  | .local _ .vmem, ⟨9, _⟩ => ⟨S8x128, .fp8e4m3⟩
  | .local _ .vmem, ⟨10, _⟩ => ⟨S128x256, .bf16⟩
  | .local _ .vmem, ⟨11, _⟩ => ⟨S2x128x256, .bf16⟩
  | .local _ .vmem, ⟨12, _⟩ => ⟨S512x2x2x8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S128x256, .f32⟩
  | .local _ .smem, ⟨0, _⟩ => ⟨S8, .f32⟩
  | .local _ .smem, ⟨1, _⟩ => ⟨S8, .f32⟩
  | _, _ => ⟨S1x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c16_i32 : BitVec 32 := 16#32
  let v20 : BitVec 1 := Scalar.cmpi .slt arg0 c16_i32
  let v21 : BitVec 32 := Scalar.extui v20
  let c0_i32_5 : BitVec 32 := 0#32
  let v22 : BitVec 1 := Scalar.cmpi .ne v21 c0_i32_5
  v22

def k0_off1 (i : grid0.Coords) (c0_i32_33 : BitVec 32) : Fin 5 → Nat :=
  let arg0 : BitVec 32 := BitVec.ofNat 32 (i 0).val
  let c32_i32 : BitVec 32 := 32#32
  let v135 : BitVec 32 := Scalar.muli arg0 c32_i32
  let v136 : BitVec 32 := Scalar.addi v135 c0_i32_33
  let v137 : Index := Scalar.indexCast v136
  let c0_34 : Index := 0#32
  let c0_35 : Index := 0#32
  let c0_36 : Index := 0#32
  let c0_37 : Index := 0#32
  ![v137.toNat, 0, 0, 0, 0]
def k0_off2 (i : grid0.Coords) (c0_i32_46 : BitVec 32) : Fin 5 → Nat :=
  let arg0 : BitVec 32 := BitVec.ofNat 32 (i 0).val
  let c32_i32_45 : BitVec 32 := 32#32
  let v172 : BitVec 32 := Scalar.muli arg0 c32_i32_45
  let v173 : BitVec 32 := Scalar.addi v172 c0_i32_46
  let v174 : Index := Scalar.indexCast v173
  let c0_47 : Index := 0#32
  let c1_48 : Index := 1#32
  let c0_49 : Index := 0#32
  let c0_50 : Index := 0#32
  ![v174.toNat, 0, 1, 0, 0]
def k0_off3 (i : grid0.Coords) (c0_i32_59 : BitVec 32) : Fin 5 → Nat :=
  let arg0 : BitVec 32 := BitVec.ofNat 32 (i 0).val
  let c32_i32_58 : BitVec 32 := 32#32
  let v209 : BitVec 32 := Scalar.muli arg0 c32_i32_58
  let v210 : BitVec 32 := Scalar.addi v209 c0_i32_59
  let v211 : Index := Scalar.indexCast v210
  let c1_60 : Index := 1#32
  let c0_61 : Index := 0#32
  let c0_62 : Index := 0#32
  let c0_63 : Index := 0#32
  ![v211.toNat, 1, 0, 0, 0]
def k0_off4 (i : grid0.Coords) (c0_i32_72 : BitVec 32) : Fin 5 → Nat :=
  let arg0 : BitVec 32 := BitVec.ofNat 32 (i 0).val
  let c32_i32_71 : BitVec 32 := 32#32
  let v246 : BitVec 32 := Scalar.muli arg0 c32_i32_71
  let v247 : BitVec 32 := Scalar.addi v246 c0_i32_72
  let v248 : Index := Scalar.indexCast v247
  let c1_73 : Index := 1#32
  let c1_74 : Index := 1#32
  let c0_75 : Index := 0#32
  let c0_76 : Index := 0#32
  ![v248.toNat, 1, 1, 0, 0]
def k0_cond4 (i : grid0.Coords) : BitVec 1 :=
  let arg0 : BitVec 32 := BitVec.ofNat 32 (i 0).val
  let c16_i32_8 : BitVec 32 := 16#32
  let v26 : BitVec 1 := Scalar.cmpi .sge arg0 c16_i32_8
  let v27 : BitVec 32 := Scalar.extui v26
  let c0_i32_9 : BitVec 32 := 0#32
  let v28 : BitVec 1 := Scalar.cmpi .ne v27 c0_i32_9
  v28

def k0_off5 (i : grid0.Coords) (c0_i32_53 : BitVec 32) : Fin 5 → Nat :=
  let arg0 : BitVec 32 := BitVec.ofNat 32 (i 0).val
  let c16_i32_52 : BitVec 32 := 16#32
  let v175 : BitVec 32 := Scalar.subi arg0 c16_i32_52
  let c32_i32 : BitVec 32 := 32#32
  let v176 : BitVec 32 := Scalar.muli v175 c32_i32
  let v177 : BitVec 32 := Scalar.addi v176 c0_i32_53
  let v178 : Index := Scalar.indexCast v177
  let c0_54 : Index := 0#32
  let c0_55 : Index := 0#32
  let c0_56 : Index := 0#32
  let c0_57 : Index := 0#32
  ![v178.toNat, 0, 0, 0, 0]
def k0_off6 (i : grid0.Coords) (c0_i32_61 : BitVec 32) : Fin 5 → Nat :=
  let arg0 : BitVec 32 := BitVec.ofNat 32 (i 0).val
  let c16_i32_59 : BitVec 32 := 16#32
  let v193 : BitVec 32 := Scalar.subi arg0 c16_i32_59
  let c32_i32_60 : BitVec 32 := 32#32
  let v194 : BitVec 32 := Scalar.muli v193 c32_i32_60
  let v195 : BitVec 32 := Scalar.addi v194 c0_i32_61
  let v196 : Index := Scalar.indexCast v195
  let c0_62 : Index := 0#32
  let c1_63 : Index := 1#32
  let c0_64 : Index := 0#32
  let c0_65 : Index := 0#32
  ![v196.toNat, 0, 1, 0, 0]
def k0_off7 (i : grid0.Coords) (c0_i32_69 : BitVec 32) : Fin 5 → Nat :=
  let arg0 : BitVec 32 := BitVec.ofNat 32 (i 0).val
  let c16_i32_67 : BitVec 32 := 16#32
  let v212 : BitVec 32 := Scalar.subi arg0 c16_i32_67
  let c32_i32_68 : BitVec 32 := 32#32
  let v213 : BitVec 32 := Scalar.muli v212 c32_i32_68
  let v214 : BitVec 32 := Scalar.addi v213 c0_i32_69
  let v215 : Index := Scalar.indexCast v214
  let c1_70 : Index := 1#32
  let c0_71 : Index := 0#32
  let c0_72 : Index := 0#32
  let c0_73 : Index := 0#32
  ![v215.toNat, 1, 0, 0, 0]
def k0_off8 (i : grid0.Coords) (c0_i32_77 : BitVec 32) : Fin 5 → Nat :=
  let arg0 : BitVec 32 := BitVec.ofNat 32 (i 0).val
  let c16_i32_75 : BitVec 32 := 16#32
  let v230 : BitVec 32 := Scalar.subi arg0 c16_i32_75
  let c32_i32_76 : BitVec 32 := 32#32
  let v231 : BitVec 32 := Scalar.muli v230 c32_i32_76
  let v232 : BitVec 32 := Scalar.addi v231 c0_i32_77
  let v233 : Index := Scalar.indexCast v232
  let c1_78 : Index := 1#32
  let c1_79 : Index := 1#32
  let c0_80 : Index := 0#32
  let c0_81 : Index := 0#32
  ![v233.toNat, 1, 1, 0, 0]
def k0_cond5 (i : grid0.Coords) : BitVec 1 :=
  let arg0 : BitVec 32 := BitVec.ofNat 32 (i 0).val
  let c31_i32 : BitVec 32 := 31#32
  let v29 : BitVec 1 := Scalar.cmpi .eq arg0 c31_i32
  let v30 : BitVec 32 := Scalar.extui v29
  let c0_i32_10 : BitVec 32 := 0#32
  let v31 : BitVec 1 := Scalar.cmpi .ne v30 c0_i32_10
  v31

def k0_cond1 (i : grid0.Coords) : BitVec 1 :=
  let arg0 : BitVec 32 := BitVec.ofNat 32 (i 0).val
  let c0_i32_3 : BitVec 32 := 0#32
  let v17 : BitVec 1 := Scalar.cmpi .eq arg0 c0_i32_3
  let v18 : BitVec 32 := Scalar.extui v17
  let c0_i32_4 : BitVec 32 := 0#32
  let v19 : BitVec 1 := Scalar.cmpi .ne v18 c0_i32_4
  v19

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16384x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16384x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "exp2_scale" => some (((Real.sqrt 128)⁻¹ * (Real.log 2)⁻¹ : ℝ) : EReal)
  | _ => none
-- ==== ReferenceIdeal.lean ====
variable {F : FTy → Type} [FloatOps F] [Named F]
def κ : String → Option EReal := fun
  | "inv_sqrt_d" => some (((Real.sqrt 128)⁻¹ : ℝ) : EReal)
  | _ => none
-- ==== Reference.lean ====
abbrev S1x1x8192 : Shape := ⟨3, ![1, 1, 8192]⟩
abbrev S1x1x8x128 : Shape := ⟨4, ![1, 1, 8, 128]⟩
abbrev S1x32768x8x128 : Shape := ⟨4, ![1, 32768, 8, 128]⟩
abbrev S8 : Shape := ⟨1, ![8]⟩
abbrev S1x1x8x1 : Shape := ⟨4, ![1, 1, 8, 1]⟩
abbrev S8x8x128 : Shape := ⟨3, ![8, 8, 128]⟩
abbrev S1x32769x8x128 : Shape := ⟨4, ![1, 32769, 8, 128]⟩
abbrev S32769x8x128 : Shape := ⟨3, ![32769, 8, 128]⟩
abbrev S8x8x32769 : Shape := ⟨3, ![8, 8, 32769]⟩
abbrev S8x8 : Shape := ⟨2, ![8, 8]⟩
abbrev S8x8x1 : Shape := ⟨3, ![8, 8, 1]⟩

abbrev nBuf : Space → Nat
  | .hbm => 10
  | .vmem => 10
  | .smem => 0
  | _ => 0

abbrev bufTy : (tb : Table) → Fin (tcTables nBuf tb) → BufTy
  | .hbm, ⟨0, _⟩ => ⟨S1x1x8192, .bf16⟩
  | .hbm, ⟨1, _⟩ => ⟨S1x1x8x128, .bf16⟩
  | .hbm, ⟨2, _⟩ => ⟨S1x1x8x128, .bf16⟩
  | .hbm, ⟨3, _⟩ => ⟨S1x32768x8x128, .fp8e4m3⟩
  | .hbm, ⟨4, _⟩ => ⟨S8, .f32⟩
  | .hbm, ⟨5, _⟩ => ⟨S1x32768x8x128, .fp8e4m3⟩
  | .hbm, ⟨6, _⟩ => ⟨S8, .f32⟩
  | .hbm, ⟨7, _⟩ => ⟨S1x1x8192, .bf16⟩
  | .hbm, ⟨8, _⟩ => ⟨S1x1x8x128, .fp8e4m3⟩
  | .hbm, ⟨9, _⟩ => ⟨S1x1x8x128, .fp8e4m3⟩
  | .local _ .vmem, ⟨0, _⟩ => ⟨S1x1x8192, .bf16⟩
  | .local _ .vmem, ⟨1, _⟩ => ⟨S1x1x8x128, .bf16⟩
  | .local _ .vmem, ⟨2, _⟩ => ⟨S1x1x8x128, .bf16⟩
  | .local _ .vmem, ⟨3, _⟩ => ⟨S1x32768x8x128, .fp8e4m3⟩
  | .local _ .vmem, ⟨4, _⟩ => ⟨S8, .f32⟩
  | .local _ .vmem, ⟨5, _⟩ => ⟨S1x32768x8x128, .fp8e4m3⟩
  | .local _ .vmem, ⟨6, _⟩ => ⟨S8, .f32⟩
  | .local _ .vmem, ⟨7, _⟩ => ⟨S1x1x8192, .bf16⟩
  | .local _ .vmem, ⟨8, _⟩ => ⟨S1x1x8x128, .fp8e4m3⟩
  | .local _ .vmem, ⟨9, _⟩ => ⟨S1x1x8x128, .fp8e4m3⟩
  | _, _ => ⟨S1x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1x1x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x8x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32768x8x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32768x8x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1x8x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1x8x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.Vals.lean ====
/- The values the kernel body computes between its loads and stores, each step of its arithmetic as one named
   function: the scale of a row, the dequantised tile with its two halves side by side, the score tile with the head of
   a lane selected, the weights of a score tile spread to the rows of the heads, the quantised new row, the last
   division. They are the body's own operations, in the body's order. -/
module

public import proofs.«01_k».proof.Proof.Gen.Kernel

@[expose] public section

set_option synthInstance.maxSize 4096

noncomputable section

namespace Cert.Kernel.Hand

open Idealize.ShloMosaic Idealize.SL.Sem Cert.Kernel
open Facts₀ Facts

variable {F : FTy → Type} [FloatOps F]

/-- The remainder of a word by eight as the body computes it (the remainder of the truncating division, corrected by
    eight where its sign differs from the divisor's). -/
def modEight {s : Shape} (x : IVec s 32) (hb : s.Broadcasts s) : IVec s 32 :=
  let d : BitVec 32 := Scalar.select (Scalar.cmpi .eq 8#32 0#32) 1#32 8#32
  let r : IVec s 32 := remsi x (broadcast s d)
  select (andi (xori (cmpi .slt r (broadcast s 0#32)) (broadcastTo s (broadcast s (Scalar.cmpi .slt d 0#32)) hb))
    (cmpi .ne r (broadcast s 0#32))) (addi r (broadcast s d)) r

/-- The head a lane of a score tile belongs to: the lane modulo eight. -/
def laneHead : IVec S8x128 32 := modEight (iota .tc S8x128 32 [1] iota_S8x128_d1_w32) broadcasts_S8x128_S8x128
/-- The head a row of the new token belongs to. -/
def rowHead8 : IVec S8x128 32 := modEight (iota .tc S8x128 32 [0] iota_S8x128_d0_w32) broadcasts_S8x128_S8x128
/-- The head a row of a tile of cache rows belongs to. -/
def rowHead16 : IVec S16x128 32 := modEight (iota .tc S16x128 32 [0] iota_S16x128_d0_w32) broadcasts_S16x128_S16x128
/-- The lane's head once more, over sixteen rows. -/
def laneHead16 : IVec S16x128 32 := modEight (iota .tc S16x128 32 [1] iota_S16x128_d1_w32) broadcasts_S16x128_S16x128

/-- A row over eight, rounded down, as the body computes it. -/
def rowGroup16 : IVec S16x128 32 :=
  let x : IVec S16x128 32 := iota .tc S16x128 32 [0] iota_S16x128_d0_w32
  let q : IVec S16x128 32 := divsi x (broadcast S16x128 8#32)
  let sx : IVec S16x128 32 := subi (extui 32 (cmpi .sgt x (broadcast S16x128 0#32)) natLt_1_32)
    (extui 32 (cmpi .slt x (broadcast S16x128 0#32)) natLt_1_32)
  let sd : BitVec 32 := Scalar.subi (Scalar.extui (Scalar.cmpi .sgt 8#32 0#32)) (Scalar.extui (Scalar.cmpi .slt 8#32 0#32))
  select (andi (cmpi .ne sx (broadcast S16x128 sd)) (cmpi .ne (remsi x (broadcast S16x128 8#32)) (broadcast S16x128 0#32)))
    (subi q (broadcast S16x128 1#32)) q

/-- One where the lane's head is the row's group plus `k`, else zero. -/
def headMask (k : BitVec 32) : FVec F S16x128 .bf16 :=
  truncf .bf16 (select (cmpi .eq laneHead16 (addi rowGroup16 (broadcast S16x128 k)))
    (broadcast S16x128 (Scalar.ofBits .f32 0x3F800000#32)) (broadcast S16x128 (Scalar.ofBits .f32 0x00000000#32))) bitsLt_bf16_f32

/-- The eight head scales laid out along the rows, head `row h` at each place. -/
def rowScale {s : Shape} (h : IVec s 32) (w0 w1 w2 w3 w4 w5 w6 w7 : Elt F .f32) : FVec F s .f32 :=
  select (cmpi .eq h (broadcast s 7#32)) (broadcast s w7)
  (select (cmpi .eq h (broadcast s 6#32)) (broadcast s w6)
  (select (cmpi .eq h (broadcast s 5#32)) (broadcast s w5)
  (select (cmpi .eq h (broadcast s 4#32)) (broadcast s w4)
  (select (cmpi .eq h (broadcast s 3#32)) (broadcast s w3)
  (select (cmpi .eq h (broadcast s 2#32)) (broadcast s w2)
  (select (cmpi .eq h (broadcast s 1#32)) (broadcast s w1)
  (select (cmpi .eq h (broadcast s 0#32)) (broadcast s w0) (broadcast s (Scalar.ofBits .f32 0x00000000#32)))))))))

/-- A tile's scale, in the half-width format. -/
def tileScale (w0 w1 w2 w3 w4 w5 w6 w7 : Elt F .f32) : FVec F S16x128 .bf16 :=
  truncf .bf16 (rowScale rowHead16 w0 w1 w2 w3 w4 w5 w6 w7) bitsLt_bf16_f32

/-- A tile of 512 code rows dequantised, its first 256 rows and its last 256 side by side. -/
def dequantPair (sc : FVec F S16x128 .bf16) (x : Vec F S512x128 .fp8e4m3) : FVec F S256x256 .bf16 :=
  have v99 : FVec F S512x128 .bf16 := shapeCast S512x128 (mulf
      (shapeCast S32x16x128 (extf .bf16 (shapeCast S512x128 x shapeCasts_S512x128_S512x128) bitsLt_fp8e4m3_bf16)
        shapeCasts_S512x128_S32x16x128)
      (broadcastTo S32x16x128 (shapeCast S1x16x128 sc shapeCasts_S16x128_S1x16x128) broadcasts_S1x16x128_S32x16x128))
    shapeCasts_S32x16x128_S512x128
  concatenate S256x256 1 [⟨S256x128, extractStridedSlice S256x128 ![0, 0] v99 slices_S512x128_o0_0_S256x128⟩,
    ⟨S256x128, extractStridedSlice S256x128 ![256, 0] v99 slices_S512x128_o256_0_S256x128⟩] concatenates_S256x128_S256x128_S256x256_d1

/-- The scores of a tile: the query rows of both halves against the dequantised pair. -/
def tileScores (x2 : FVec F S256x256 .bf16) (q2 : Vec F S128x256 .bf16) : FVec F S128x256 .f32 :=
  matmul dot_S128x256_S256x256_S128x256_1_1_0_0_n_n none q2 x2 (constant S128x256 .f32 0x00000000#32)

/-- From 64 query rows (head by head) the eight rows of the lane's head, lane by lane. -/
def selectHeads (x : FVec F S64x128 .f32) : FVec F S8x128 .f32 :=
  select (cmpi .eq laneHead (broadcast S8x128 7#32)) (extractStridedSlice S8x128 ![56, 0] x slices_S64x128_o56_0_S8x128)
  (select (cmpi .eq laneHead (broadcast S8x128 6#32)) (extractStridedSlice S8x128 ![48, 0] x slices_S64x128_o48_0_S8x128)
  (select (cmpi .eq laneHead (broadcast S8x128 5#32)) (extractStridedSlice S8x128 ![40, 0] x slices_S64x128_o40_0_S8x128)
  (select (cmpi .eq laneHead (broadcast S8x128 4#32)) (extractStridedSlice S8x128 ![32, 0] x slices_S64x128_o32_0_S8x128)
  (select (cmpi .eq laneHead (broadcast S8x128 3#32)) (extractStridedSlice S8x128 ![24, 0] x slices_S64x128_o24_0_S8x128)
  (select (cmpi .eq laneHead (broadcast S8x128 2#32)) (extractStridedSlice S8x128 ![16, 0] x slices_S64x128_o16_0_S8x128)
  (select (cmpi .eq laneHead (broadcast S8x128 1#32)) (extractStridedSlice S8x128 ![8, 0] x slices_S64x128_o8_0_S8x128)
    (extractStridedSlice S8x128 ![0, 0] x slices_S64x128_o0_0_S8x128)))))))

/-- The four score blocks of a tile: column half `c`, row half `a`. -/
def score00 (s : FVec F S128x256 .f32) : FVec F S8x128 .f32 :=
  selectHeads (extractStridedSlice S64x128 ![0, 0] s slices_S128x256_o0_0_S64x128)
def score01 (s : FVec F S128x256 .f32) : FVec F S8x128 .f32 :=
  selectHeads (extractStridedSlice S64x128 ![64, 0] s slices_S128x256_o64_0_S64x128)
def score10 (s : FVec F S128x256 .f32) : FVec F S8x128 .f32 :=
  selectHeads (extractStridedSlice S64x128 ![0, 128] s slices_S128x256_o0_128_S64x128)
def score11 (s : FVec F S128x256 .f32) : FVec F S8x128 .f32 :=
  selectHeads (extractStridedSlice S64x128 ![64, 128] s slices_S128x256_o64_128_S64x128)

/-- A score block as it is stored. -/
def asSlice (d : FVec F S8x128 .f32) : FVec F S1x1x1x8x128 .f32 := shapeCast S1x1x1x8x128 d shapeCasts_S8x128_S1x1x1x8x128
/-- A score block as it is loaded back. -/
def ofSlice (d : FVec F S1x1x1x8x128 .f32) : FVec F S8x128 .f32 := shapeCast S8x128 d shapeCasts_S1x1x1x8x128_S8x128

/-- The running maximum after a tile's four score blocks. -/
def tileMax (m : FVec F S8x128 .f32) (s : FVec F S128x256 .f32) : FVec F S8x128 .f32 :=
  maximumf (maximumf (maximumf (maximumf m (score00 s)) (score01 s)) (score10 s)) (score11 s)

/-- The constant the score differences are scaled by. -/
def expScale : F .f32 := Scalar.ofBits .f32 0x3E0293EE#32

/-- The weights of a score block under the maximum `m`. -/
def weights (m d : FVec F S8x128 .f32) : FVec F S8x128 .f32 := exp2 (mulf (subf d m) (broadcast S8x128 expScale))

/-- A block of weights spread to the 64 query rows: row of head `h` keeps the lanes of head `h`. -/
def spreadHeads (p : FVec F S8x128 .f32) : FVec F S64x128 .bf16 :=
  have pp : FVec F S16x128 .bf16 := truncf .bf16 (concatenate S16x128 0 [⟨S8x128, p⟩, ⟨S8x128, p⟩] concatenates_S8x128_S8x128_S16x128_d0) bitsLt_bf16_f32
  concatenate S64x128 0 [⟨S16x128, mulf pp (headMask 0#32)⟩, ⟨S16x128, mulf pp (headMask 2#32)⟩, ⟨S16x128, mulf pp (headMask 4#32)⟩,
    ⟨S16x128, mulf pp (headMask 6#32)⟩] concatenates_S16x128_S16x128_S16x128_S16x128_S64x128_d0

/-- The weight sum after a tile's four weight blocks. -/
def tileSum (l p00 p01 p10 p11 : FVec F S8x128 .f32) : FVec F S8x128 .f32 := addf (addf (addf (addf l p00) p01) p10) p11

/-- The four weight blocks of a tile as the left operand of its value product. -/
def tileWeights (p00 p01 p10 p11 : FVec F S8x128 .f32) : FVec F S128x256 .bf16 :=
  concatenate S128x256 1
    [⟨S128x128, concatenate S128x128 0 [⟨S64x128, spreadHeads p00⟩, ⟨S64x128, spreadHeads p01⟩] concatenates_S64x128_S64x128_S128x128_d0⟩,
     ⟨S128x128, concatenate S128x128 0 [⟨S64x128, spreadHeads p10⟩, ⟨S64x128, spreadHeads p11⟩] concatenates_S64x128_S64x128_S128x128_d0⟩]
    concatenates_S128x128_S128x128_S128x256_d1

/-- The weighted value sum after a tile. -/
def tileAcc (o : FVec F S128x256 .f32) (x2 : FVec F S256x256 .bf16) (p00 p01 p10 p11 : FVec F S8x128 .f32) : FVec F S128x256 .f32 :=
  addf o (matmul dot_S128x256_S256x256_S128x256_1_0_0_1_n_n none (tileWeights p00 p01 p10 p11) x2 (constant S128x256 .f32 0x00000000#32))

/-- The query rows twice: in the first 128 columns for the first half of a tile, in the last for the second. -/
def query2 (q : Vec F S64x128 .bf16) : FVec F S128x256 .bf16 :=
  have q' : FVec F S64x128 .bf16 := shapeCast S64x128 q shapeCasts_S64x128_S64x128
  have z : FVec F S64x128 .bf16 := broadcast S64x128 (Scalar.ofBits .bf16 0x0000#16)
  shapeCast S128x256 (concatenate S128x256 0 [⟨S64x256, concatenate S64x256 1 [⟨S64x128, q'⟩, ⟨S64x128, z⟩] concatenates_S64x128_S64x128_S64x256_d1⟩,
    ⟨S64x256, concatenate S64x256 1 [⟨S64x128, z⟩, ⟨S64x128, q'⟩] concatenates_S64x128_S64x128_S64x256_d1⟩] concatenates_S64x256_S64x256_S128x256_d0)
    shapeCasts_S128x256_S128x256

/-- The new token's row, head by head, quantised by the head's scale. -/
def newCodes (x : Vec F S8x128 .bf16) (sc : FVec F S8x128 .f32) : FVec F S8x128 .fp8e4m3 :=
  truncf .fp8e4m3 (minimumf (broadcast S8x128 (Scalar.ofBits .f32 0x43E00000#32))
    (maximumf (broadcast S8x128 (Scalar.ofBits .f32 0xC3E00000#32))
      (divf (extf .f32 (shapeCast S8x128 x shapeCasts_S8x128_S8x128) bitsLt_bf16_f32) sc))) bitsLt_fp8e4m3_f32

/-- The new token dequantised, padded by zero rows to 128 and by zero columns to 256, as it is stored. -/
def newPair (codes : FVec F S8x128 .fp8e4m3) (sc : FVec F S8x128 .f32) : FVec F S1x128x256 .bf16 :=
  shapeCast S1x128x256 (concatenate S128x256 1
    [⟨S128x128, concatenate S128x128 0 [⟨S8x128, mulf (extf .bf16 codes bitsLt_fp8e4m3_bf16) (truncf .bf16 sc bitsLt_bf16_f32)⟩,
        ⟨S120x128, broadcast S120x128 (Scalar.ofBits .bf16 0x0000#16)⟩] concatenates_S8x128_S120x128_S128x128_d0⟩,
     ⟨S128x128, broadcast S128x128 (Scalar.ofBits .bf16 0x0000#16)⟩] concatenates_S128x128_S128x128_S128x256_d1) shapeCasts_S128x256_S1x128x256

/-- The new token's scores: one lane per head, minus infinity past the eighth. -/
def newScores (q2 : Vec F S128x256 .bf16) (k : Vec F S1x128x256 .bf16) : FVec F S8x128 .f32 :=
  select (cmpi .slt (iota .tc S8x128 32 [1] iota_S8x128_d1_w32) (broadcast S8x128 8#32))
    (selectHeads (extractStridedSlice S64x128 ![0, 0] (matmul dot_S128x256_S128x256_S128x128_1_1_0_0_n_n none q2
      (shapeCast S128x256 k shapeCasts_S1x128x256_S128x256) (constant S128x128 .f32 0x00000000#32)) slices_S128x128_o0_0_S64x128))
    (broadcast S8x128 (Scalar.ofBits .f32 0xFF800000#32))

/-- An eight-row block stored whole. -/
def keep8 (x : FVec F S8x128 .f32) : FVec F S8x128 .f32 := shapeCast S8x128 x shapeCasts_S8x128_S8x128
/-- A value accumulator stored whole. -/
def keepAcc (x : FVec F S128x256 .f32) : FVec F S128x256 .f32 := shapeCast S128x256 x shapeCasts_S128x256_S128x256

/-- The maximum over the lanes of the same head, at every lane: four rotations. -/
def headMax (m : FVec F S8x128 .f32) : FVec F S8x128 .f32 :=
  have v34 : FVec F S8x128 .f32 := maximumf m (dynamicRotate 1 8#32 none m rotates_S8x128_d1)
  have v36 : FVec F S8x128 .f32 := maximumf v34 (dynamicRotate 1 16#32 none v34 rotates_S8x128_d1)
  have v38 : FVec F S8x128 .f32 := maximumf v36 (dynamicRotate 1 32#32 none v36 rotates_S8x128_d1)
  maximumf v38 (dynamicRotate 1 64#32 none v38 rotates_S8x128_d1)

/-- The sum of a block over the lanes of head `h`. -/
def headSum (l : FVec F S8x128 .f32) (h : BitVec 32) : FVec F S8x1 .f32 :=
  shapeCast S8x1 (multiReduction .add [1] S8 (select (cmpi .eq laneHead (broadcast S8x128 h)) l
    (broadcast S8x128 (Scalar.ofBits .f32 0x00000000#32))) 0x00000000#32 reduces_S8x128_S8 (.inl rfl) rfl) shapeCasts_S8_S8x1

/-- The weight sums of all the query rows, along the lanes. -/
def headSums (l : FVec F S8x128 .f32) : FVec F S64x128 .f32 :=
  broadcastTo S64x128 (concatenate S64x1 0 [⟨S8x1, headSum l 0#32⟩, ⟨S8x1, headSum l 1#32⟩, ⟨S8x1, headSum l 2#32⟩, ⟨S8x1, headSum l 3#32⟩,
    ⟨S8x1, headSum l 4#32⟩, ⟨S8x1, headSum l 5#32⟩, ⟨S8x1, headSum l 6#32⟩, ⟨S8x1, headSum l 7#32⟩]
    concatenates_S8x1_S8x1_S8x1_S8x1_S8x1_S8x1_S8x1_S8x1_S64x1_d0) broadcasts_S64x1_S64x128

/-- The result: the two halves' value sums and the new token's, over the weight sums. -/
def finish (dn m l : Vec F S8x128 .f32) (o : Vec F S128x256 .f32) (v : Vec F S1x128x256 .bf16) : FVec F S64x128 .bf16 :=
  have p : FVec F S8x128 .f32 := weights m dn
  truncf .bf16 (divf
    (addf (addf (extractStridedSlice S64x128 ![0, 0] o slices_S128x256_o0_0_S64x128) (extractStridedSlice S64x128 ![64, 128] o slices_S128x256_o64_128_S64x128))
      (extractStridedSlice S64x128 ![0, 0] (matmul dot_S64x128_S128x256_S64x256_1_0_0_1_n_n none (spreadHeads p)
        (shapeCast S128x256 v shapeCasts_S1x128x256_S128x256) (constant S64x256 .f32 0x00000000#32)) slices_S64x256_o0_0_S64x128))
    (headSums (addf l p))) bitsLt_bf16_f32

end Cert.Kernel.Hand

end
-- ==== Proof.Kernel.Prog.lean ====
/- The kernel body over again, its thirty-two unrolled tiles folded: one score tile and one value tile at any tile
   number, the two passes as a recursion over the tiles, and the equation of the whole body with the printed one. The
   functions take what follows them as an argument (`K`), so that a pass is its tiles one after the other. -/
module

public import proofs.«01_k».proof.Proof.Kernel.Vals
public import Idealize.ShloMosaic.Lib.Tactic

@[expose] public section

set_option synthInstance.maxSize 4096

noncomputable section

namespace Cert.Kernel.Hand

open Idealize.ShloMosaic Idealize.SL.Sem Cert.Kernel
open Facts₀ Facts

variable {F : FTy → Type} [FloatOps F]

/-- A program of the core. -/
abbrev Pr (F : FTy → Type) [FloatOps F] : Type 1 := Prog (TpuEff nD τ sig (Elt F) Λ₀ .tc) PUnit

/-- A tile's rows stay inside the block. -/
theorem tile_inb (t : Fin 32) : ∀ a, (![t.val * 512, 0] : Fin 2 → Nat) a + S512x128.size a ≤ S16384x128.size a := by
  have h := t.isLt
  intro a
  fin_cases a
  · show t.val * 512 + 512 ≤ 16384; omega
  · show 0 + 128 ≤ 128; omega

/-- The eight head scales, read one by one. -/
def loadScales (a : Memref sig .tc .smem S8 .f32)
    (K : (w0 w1 w2 w3 w4 w5 w6 w7 : Elt F .f32) → Pr F) : Pr F :=
  smemLoad a (Rect.unit (s := S8) ![0] S1.size inb_S8_S1_0) numel1_S1 rfl >>= fun w0 =>
  smemLoad a (Rect.unit (s := S8) ![1] S1.size inb_S8_S1_1) numel1_S1 rfl >>= fun w1 =>
  smemLoad a (Rect.unit (s := S8) ![2] S1.size inb_S8_S1_2) numel1_S1 rfl >>= fun w2 =>
  smemLoad a (Rect.unit (s := S8) ![3] S1.size inb_S8_S1_3) numel1_S1 rfl >>= fun w3 =>
  smemLoad a (Rect.unit (s := S8) ![4] S1.size inb_S8_S1_4) numel1_S1 rfl >>= fun w4 =>
  smemLoad a (Rect.unit (s := S8) ![5] S1.size inb_S8_S1_5) numel1_S1 rfl >>= fun w5 =>
  smemLoad a (Rect.unit (s := S8) ![6] S1.size inb_S8_S1_6) numel1_S1 rfl >>= fun w6 =>
  smemLoad a (Rect.unit (s := S8) ![7] S1.size inb_S8_S1_7) numel1_S1 rfl >>= fun w7 =>
  K w0 w1 w2 w3 w4 w5 w6 w7

/-- One score tile: the dequantised pair against the query rows, the four score blocks stored, the maximum updated. -/
def scoreTile (i : grid0.Coords) (h2 : k0_cond2 i = 1#1) (arg6 : Memref sig .tc .vmem S16384x128 .fp8e4m3) (arg11 : Memref sig .tc .vmem S128x256 .bf16) (arg13 : Memref sig .tc .vmem S512x2x2x8x128 .f32)
    (sc : FVec F S16x128 .bf16) (t : Fin 32) (m : FVec F S8x128 .f32) (K : FVec F S8x128 .f32 → Pr F) : Pr F :=
  Prog.lift (.load arg6 (Rect.unit (s := S16384x128) ![t.val * 512, 0] S512x128.size (tile_inb t)).toLoadRect (View.loadsAt_vmem h_S512x128)) >>= fun (x : Vec F S512x128 .fp8e4m3) =>
  Prog.lift (.load arg11 (Rect.unit (s := S128x256) ![0, 0] S128x256.size inb_S128x256_S128x256_0_0).toLoadRect (View.loadsAt_vmem h_S128x256)) >>= fun (q2 : Vec F S128x256 .bf16) =>
  Prog.lift (.load arg13 (Rect.unit (s := S512x2x2x8x128) (k0_off1 i (BitVec.ofNat 32 t.val)) S1x1x1x8x128.size (k0_off1_inb i h2 t)).toLoadRect (View.loadsAt_vmem h_S1x1x1x8x128)) >>= fun (_v : Vec F S1x1x1x8x128 .f32) =>
  Prog.lift (.store arg13 (Rect.unit (s := S512x2x2x8x128) (k0_off1 i (BitVec.ofNat 32 t.val)) S1x1x1x8x128.size (k0_off1_inb i h2 t)) (asSlice (score00 (tileScores (dequantPair sc x) q2))) Finset.univ (View.stores_vmem_bits_univ h_S1x1x1x8x128 rfl) (.inl rfl)) >>= fun _ =>
  Prog.lift (.load arg13 (Rect.unit (s := S512x2x2x8x128) (k0_off2 i (BitVec.ofNat 32 t.val)) S1x1x1x8x128.size (k0_off2_inb i h2 t)).toLoadRect (View.loadsAt_vmem h_S1x1x1x8x128)) >>= fun (_v : Vec F S1x1x1x8x128 .f32) =>
  Prog.lift (.store arg13 (Rect.unit (s := S512x2x2x8x128) (k0_off2 i (BitVec.ofNat 32 t.val)) S1x1x1x8x128.size (k0_off2_inb i h2 t)) (asSlice (score01 (tileScores (dequantPair sc x) q2))) Finset.univ (View.stores_vmem_bits_univ h_S1x1x1x8x128 rfl) (.inl rfl)) >>= fun _ =>
  Prog.lift (.load arg13 (Rect.unit (s := S512x2x2x8x128) (k0_off3 i (BitVec.ofNat 32 t.val)) S1x1x1x8x128.size (k0_off3_inb i h2 t)).toLoadRect (View.loadsAt_vmem h_S1x1x1x8x128)) >>= fun (_v : Vec F S1x1x1x8x128 .f32) =>
  Prog.lift (.store arg13 (Rect.unit (s := S512x2x2x8x128) (k0_off3 i (BitVec.ofNat 32 t.val)) S1x1x1x8x128.size (k0_off3_inb i h2 t)) (asSlice (score10 (tileScores (dequantPair sc x) q2))) Finset.univ (View.stores_vmem_bits_univ h_S1x1x1x8x128 rfl) (.inl rfl)) >>= fun _ =>
  Prog.lift (.load arg13 (Rect.unit (s := S512x2x2x8x128) (k0_off4 i (BitVec.ofNat 32 t.val)) S1x1x1x8x128.size (k0_off4_inb i h2 t)).toLoadRect (View.loadsAt_vmem h_S1x1x1x8x128)) >>= fun (_v : Vec F S1x1x1x8x128 .f32) =>
  Prog.lift (.store arg13 (Rect.unit (s := S512x2x2x8x128) (k0_off4 i (BitVec.ofNat 32 t.val)) S1x1x1x8x128.size (k0_off4_inb i h2 t)) (asSlice (score11 (tileScores (dequantPair sc x) q2))) Finset.univ (View.stores_vmem_bits_univ h_S1x1x1x8x128 rfl) (.inl rfl)) >>= fun _ =>
  K (tileMax m (tileScores (dequantPair sc x) q2))

/-- The score tiles from `t` on, `n` of them. -/
def scoreTiles (i : grid0.Coords) (h2 : k0_cond2 i = 1#1) (arg6 : Memref sig .tc .vmem S16384x128 .fp8e4m3) (arg11 : Memref sig .tc .vmem S128x256 .bf16) (arg13 : Memref sig .tc .vmem S512x2x2x8x128 .f32)
    (sc : FVec F S16x128 .bf16) : (n t : ℕ) → n + t ≤ 32 → FVec F S8x128 .f32 → (FVec F S8x128 .f32 → Pr F) → Pr F
  | 0, _, _, m, K => K m
  | n + 1, t, h, m, K => scoreTile i h2 arg6 arg11 arg13 sc ⟨t, by omega⟩ m fun m' =>
      scoreTiles i h2 arg6 arg11 arg13 sc n (t + 1) (by omega) m' K

/-- The score pass over a block. -/
def scorePass (i : grid0.Coords) (h2 : k0_cond2 i = 1#1) (arg1 : Memref sig .tc .smem S8 .f32) (arg6 : Memref sig .tc .vmem S16384x128 .fp8e4m3) (arg11 : Memref sig .tc .vmem S128x256 .bf16) (arg13 : Memref sig .tc .vmem S512x2x2x8x128 .f32) (arg15 : Memref sig .tc .vmem S8x128 .f32) (K : Pr F) : Pr F :=
  loadScales arg1 fun w0 w1 w2 w3 w4 w5 w6 w7 =>
  Prog.lift (.load arg15 (Rect.unit (s := S8x128) ![0, 0] S8x128.size inb_S8x128_S8x128_0_0).toLoadRect (View.loadsAt_vmem h_S8x128)) >>= fun (m : Vec F S8x128 .f32) =>
  scoreTiles i h2 arg6 arg11 arg13 (tileScale w0 w1 w2 w3 w4 w5 w6 w7) 32 0 (by omega) m fun m' =>
  Prog.lift (.load arg15 (Rect.unit (s := S8x128) ![0, 0] S8x128.size inb_S8x128_S8x128_0_0).toLoadRect (View.loadsAt_vmem h_S8x128)) >>= fun (_v : Vec F S8x128 .f32) =>
  Prog.lift (.store arg15 (Rect.unit (s := S8x128) ![0, 0] S8x128.size inb_S8x128_S8x128_0_0) (keep8 m') Finset.univ (View.stores_vmem_bits_univ h_S8x128 rfl) (.inl rfl)) >>= fun _ =>
  K

/-- One value tile: the weights of the four score blocks against the maximum, their sum, their product with the
    dequantised pair. -/
def valueTile (i : grid0.Coords) (h4 : k0_cond4 i = 1#1) (arg7 : Memref sig .tc .vmem S16384x128 .fp8e4m3) (arg13 : Memref sig .tc .vmem S512x2x2x8x128 .f32)
    (sc : FVec F S16x128 .bf16) (m : FVec F S8x128 .f32) (t : Fin 32) (l : FVec F S8x128 .f32) (o : FVec F S128x256 .f32)
    (K : FVec F S8x128 .f32 → FVec F S128x256 .f32 → Pr F) : Pr F :=
  Prog.lift (.load arg7 (Rect.unit (s := S16384x128) ![t.val * 512, 0] S512x128.size (tile_inb t)).toLoadRect (View.loadsAt_vmem h_S512x128)) >>= fun (x : Vec F S512x128 .fp8e4m3) =>
  Prog.lift (.load arg13 (Rect.unit (s := S512x2x2x8x128) (k0_off5 i (BitVec.ofNat 32 t.val)) S1x1x1x8x128.size (k0_off5_inb i h4 t)).toLoadRect (View.loadsAt_vmem h_S1x1x1x8x128)) >>= fun (d00 : Vec F S1x1x1x8x128 .f32) =>
  Prog.lift (.load arg13 (Rect.unit (s := S512x2x2x8x128) (k0_off6 i (BitVec.ofNat 32 t.val)) S1x1x1x8x128.size (k0_off6_inb i h4 t)).toLoadRect (View.loadsAt_vmem h_S1x1x1x8x128)) >>= fun (d01 : Vec F S1x1x1x8x128 .f32) =>
  Prog.lift (.load arg13 (Rect.unit (s := S512x2x2x8x128) (k0_off7 i (BitVec.ofNat 32 t.val)) S1x1x1x8x128.size (k0_off7_inb i h4 t)).toLoadRect (View.loadsAt_vmem h_S1x1x1x8x128)) >>= fun (d10 : Vec F S1x1x1x8x128 .f32) =>
  Prog.lift (.load arg13 (Rect.unit (s := S512x2x2x8x128) (k0_off8 i (BitVec.ofNat 32 t.val)) S1x1x1x8x128.size (k0_off8_inb i h4 t)).toLoadRect (View.loadsAt_vmem h_S1x1x1x8x128)) >>= fun (d11 : Vec F S1x1x1x8x128 .f32) =>
  K (tileSum l (weights m (ofSlice d00)) (weights m (ofSlice d01)) (weights m (ofSlice d10)) (weights m (ofSlice d11)))
    (tileAcc o (dequantPair sc x) (weights m (ofSlice d00)) (weights m (ofSlice d01)) (weights m (ofSlice d10)) (weights m (ofSlice d11)))

/-- The value tiles from `t` on, `n` of them. -/
def valueTiles (i : grid0.Coords) (h4 : k0_cond4 i = 1#1) (arg7 : Memref sig .tc .vmem S16384x128 .fp8e4m3) (arg13 : Memref sig .tc .vmem S512x2x2x8x128 .f32)
    (sc : FVec F S16x128 .bf16) (m : FVec F S8x128 .f32) : (n t : ℕ) → n + t ≤ 32 → FVec F S8x128 .f32 → FVec F S128x256 .f32 →
      (FVec F S8x128 .f32 → FVec F S128x256 .f32 → Pr F) → Pr F
  | 0, _, _, l, o, K => K l o
  | n + 1, t, h, l, o, K => valueTile i h4 arg7 arg13 sc m ⟨t, by omega⟩ l o fun l' o' =>
      valueTiles i h4 arg7 arg13 sc m n (t + 1) (by omega) l' o' K

/-- The value pass over a block. -/
def valuePass (i : grid0.Coords) (h4 : k0_cond4 i = 1#1) (arg2 : Memref sig .tc .smem S8 .f32) (arg7 : Memref sig .tc .vmem S16384x128 .fp8e4m3) (arg13 : Memref sig .tc .vmem S512x2x2x8x128 .f32) (arg15 : Memref sig .tc .vmem S8x128 .f32) (arg16 : Memref sig .tc .vmem S8x128 .f32) (arg17 : Memref sig .tc .vmem S128x256 .f32) (K : Pr F) : Pr F :=
  loadScales arg2 fun w0 w1 w2 w3 w4 w5 w6 w7 =>
  Prog.lift (.load arg15 (Rect.unit (s := S8x128) ![0, 0] S8x128.size inb_S8x128_S8x128_0_0).toLoadRect (View.loadsAt_vmem h_S8x128)) >>= fun (m : Vec F S8x128 .f32) =>
  Prog.lift (.load arg16 (Rect.unit (s := S8x128) ![0, 0] S8x128.size inb_S8x128_S8x128_0_0).toLoadRect (View.loadsAt_vmem h_S8x128)) >>= fun (l : Vec F S8x128 .f32) =>
  Prog.lift (.load arg17 (Rect.unit (s := S128x256) ![0, 0] S128x256.size inb_S128x256_S128x256_0_0).toLoadRect (View.loadsAt_vmem h_S128x256)) >>= fun (o : Vec F S128x256 .f32) =>
  valueTiles i h4 arg7 arg13 (tileScale w0 w1 w2 w3 w4 w5 w6 w7) m 32 0 (by omega) l o fun l' o' =>
  Prog.lift (.load arg16 (Rect.unit (s := S8x128) ![0, 0] S8x128.size inb_S8x128_S8x128_0_0).toLoadRect (View.loadsAt_vmem h_S8x128)) >>= fun (_v : Vec F S8x128 .f32) =>
  Prog.lift (.store arg16 (Rect.unit (s := S8x128) ![0, 0] S8x128.size inb_S8x128_S8x128_0_0) (keep8 l') Finset.univ (View.stores_vmem_bits_univ h_S8x128 rfl) (.inl rfl)) >>= fun _ =>
  Prog.lift (.load arg17 (Rect.unit (s := S128x256) ![0, 0] S128x256.size inb_S128x256_S128x256_0_0).toLoadRect (View.loadsAt_vmem h_S128x256)) >>= fun (_v : Vec F S128x256 .f32) =>
  Prog.lift (.store arg17 (Rect.unit (s := S128x256) ![0, 0] S128x256.size inb_S128x256_S128x256_0_0) (keepAcc o') Finset.univ (View.stores_vmem_bits_univ h_S128x256 rfl) (.inl rfl)) >>= fun _ =>
  K

/-- The first point: the query rows doubled, the new token quantised, its scores, the accumulators at their start. -/
def startPass (arg1 : Memref sig .tc .smem S8 .f32) (arg2 : Memref sig .tc .smem S8 .f32) (arg3 : Memref sig .tc .vmem S64x128 .bf16) (arg4 : Memref sig .tc .vmem S8x128 .bf16) (arg5 : Memref sig .tc .vmem S8x128 .bf16) (arg9 : Memref sig .tc .vmem S8x128 .fp8e4m3) (arg10 : Memref sig .tc .vmem S8x128 .fp8e4m3) (arg11 : Memref sig .tc .vmem S128x256 .bf16) (arg12 : Memref sig .tc .vmem S2x128x256 .bf16) (arg14 : Memref sig .tc .vmem S8x128 .f32) (arg15 : Memref sig .tc .vmem S8x128 .f32) (arg16 : Memref sig .tc .vmem S8x128 .f32) (arg17 : Memref sig .tc .vmem S128x256 .f32) (harg9 : arg9.IsWhole) (harg10 : arg10.IsWhole) (harg11 : arg11.IsWhole) (harg12 : arg12.IsWhole) (K : Pr F) : Pr F :=
  Prog.lift (.load arg3 (Rect.unit (s := S64x128) ![0, 0] S64x128.size inb_S64x128_S64x128_0_0).toLoadRect (View.loadsAt_vmem h_S64x128)) >>= fun (q : Vec F S64x128 .bf16) =>
  Prog.lift (.load arg11 (Rect.unit (s := S128x256) ![0, 0] S128x256.size inb_S128x256_S128x256_0_0).toLoadRect (View.loadsAt_vmem h_S128x256)) >>= fun (_v : Vec F S128x256 .bf16) =>
  Prog.lift (.store arg11 (Rect.unit (s := S128x256) ![0, 0] S128x256.size inb_S128x256_S128x256_0_0) (query2 q) Finset.univ (View.stores_vmem h_S128x256 (harg11.storeExact_slice rfl _ packedbf16_S128x256_S128x256_0_0) (fun _ => rfl)) (.inl rfl)) >>= fun _ =>
  loadScales arg1 fun w0 w1 w2 w3 w4 w5 w6 w7 =>
  Prog.lift (.load arg4 (Rect.unit (s := S8x128) ![0, 0] S8x128.size inb_S8x128_S8x128_0_0).toLoadRect (View.loadsAt_vmem h_S8x128)) >>= fun (x : Vec F S8x128 .bf16) =>
  Prog.lift (.load arg9 (Rect.unit (s := S8x128) ![0, 0] S8x128.size inb_S8x128_S8x128_0_0).toLoadRect (View.loadsAt_vmem h_S8x128)) >>= fun (_v : Vec F S8x128 .fp8e4m3) =>
  Prog.lift (.store arg9 (Rect.unit (s := S8x128) ![0, 0] S8x128.size inb_S8x128_S8x128_0_0) (newCodes x (rowScale rowHead8 w0 w1 w2 w3 w4 w5 w6 w7)) Finset.univ (View.stores_vmem h_S8x128 (harg9.storeExact_slice rfl _ packedfp8e4m3_S8x128_S8x128_0_0) (fun _ => rfl)) (.inl rfl)) >>= fun _ =>
  Prog.lift (.load arg12 (Rect.unit (s := S2x128x256) ![0, 0, 0] S1x128x256.size inb_S2x128x256_S1x128x256_0_0_0).toLoadRect (View.loadsAt_vmem h_S1x128x256)) >>= fun (_v : Vec F S1x128x256 .bf16) =>
  Prog.lift (.store arg12 (Rect.unit (s := S2x128x256) ![0, 0, 0] S1x128x256.size inb_S2x128x256_S1x128x256_0_0_0) (newPair (newCodes x (rowScale rowHead8 w0 w1 w2 w3 w4 w5 w6 w7)) (rowScale rowHead8 w0 w1 w2 w3 w4 w5 w6 w7)) Finset.univ (View.stores_vmem h_S1x128x256 (harg12.storeExact_slice rfl _ packedbf16_S2x128x256_S1x128x256_0_0_0) (fun _ => rfl)) (.inl rfl)) >>= fun _ =>
  loadScales arg2 fun w0 w1 w2 w3 w4 w5 w6 w7 =>
  Prog.lift (.load arg5 (Rect.unit (s := S8x128) ![0, 0] S8x128.size inb_S8x128_S8x128_0_0).toLoadRect (View.loadsAt_vmem h_S8x128)) >>= fun (x : Vec F S8x128 .bf16) =>
  Prog.lift (.load arg10 (Rect.unit (s := S8x128) ![0, 0] S8x128.size inb_S8x128_S8x128_0_0).toLoadRect (View.loadsAt_vmem h_S8x128)) >>= fun (_v : Vec F S8x128 .fp8e4m3) =>
  Prog.lift (.store arg10 (Rect.unit (s := S8x128) ![0, 0] S8x128.size inb_S8x128_S8x128_0_0) (newCodes x (rowScale rowHead8 w0 w1 w2 w3 w4 w5 w6 w7)) Finset.univ (View.stores_vmem h_S8x128 (harg10.storeExact_slice rfl _ packedfp8e4m3_S8x128_S8x128_0_0) (fun _ => rfl)) (.inl rfl)) >>= fun _ =>
  Prog.lift (.load arg12 (Rect.unit (s := S2x128x256) ![1, 0, 0] S1x128x256.size inb_S2x128x256_S1x128x256_1_0_0).toLoadRect (View.loadsAt_vmem h_S1x128x256)) >>= fun (_v : Vec F S1x128x256 .bf16) =>
  Prog.lift (.store arg12 (Rect.unit (s := S2x128x256) ![1, 0, 0] S1x128x256.size inb_S2x128x256_S1x128x256_1_0_0) (newPair (newCodes x (rowScale rowHead8 w0 w1 w2 w3 w4 w5 w6 w7)) (rowScale rowHead8 w0 w1 w2 w3 w4 w5 w6 w7)) Finset.univ (View.stores_vmem h_S1x128x256 (harg12.storeExact_slice rfl _ packedbf16_S2x128x256_S1x128x256_1_0_0) (fun _ => rfl)) (.inl rfl)) >>= fun _ =>
  Prog.lift (.load arg12 (Rect.unit (s := S2x128x256) ![0, 0, 0] S1x128x256.size inb_S2x128x256_S1x128x256_0_0_0).toLoadRect (View.loadsAt_vmem h_S1x128x256)) >>= fun (k : Vec F S1x128x256 .bf16) =>
  Prog.lift (.load arg11 (Rect.unit (s := S128x256) ![0, 0] S128x256.size inb_S128x256_S128x256_0_0).toLoadRect (View.loadsAt_vmem h_S128x256)) >>= fun (q2 : Vec F S128x256 .bf16) =>
  Prog.lift (.load arg14 (Rect.unit (s := S8x128) ![0, 0] S8x128.size inb_S8x128_S8x128_0_0).toLoadRect (View.loadsAt_vmem h_S8x128)) >>= fun (_v : Vec F S8x128 .f32) =>
  Prog.lift (.store arg14 (Rect.unit (s := S8x128) ![0, 0] S8x128.size inb_S8x128_S8x128_0_0) (keep8 (newScores q2 k)) Finset.univ (View.stores_vmem_bits_univ h_S8x128 rfl) (.inl rfl)) >>= fun _ =>
  Prog.lift (.load arg15 (Rect.unit (s := S8x128) ![0, 0] S8x128.size inb_S8x128_S8x128_0_0).toLoadRect (View.loadsAt_vmem h_S8x128)) >>= fun (_v : Vec F S8x128 .f32) =>
  Prog.lift (.store arg15 (Rect.unit (s := S8x128) ![0, 0] S8x128.size inb_S8x128_S8x128_0_0) (keep8 (newScores q2 k)) Finset.univ (View.stores_vmem_bits_univ h_S8x128 rfl) (.inl rfl)) >>= fun _ =>
  Prog.lift (.load arg16 (Rect.unit (s := S8x128) ![0, 0] S8x128.size inb_S8x128_S8x128_0_0).toLoadRect (View.loadsAt_vmem h_S8x128)) >>= fun (_v : Vec F S8x128 .f32) =>
  Prog.lift (.store arg16 (Rect.unit (s := S8x128) ![0, 0] S8x128.size inb_S8x128_S8x128_0_0) (keep8 (broadcast S8x128 (Scalar.ofBits .f32 0x00000000#32))) Finset.univ (View.stores_vmem_bits_univ h_S8x128 rfl) (.inl rfl)) >>= fun _ =>
  Prog.lift (.load arg17 (Rect.unit (s := S128x256) ![0, 0] S128x256.size inb_S128x256_S128x256_0_0).toLoadRect (View.loadsAt_vmem h_S128x256)) >>= fun (_v : Vec F S128x256 .f32) =>
  Prog.lift (.store arg17 (Rect.unit (s := S128x256) ![0, 0] S128x256.size inb_S128x256_S128x256_0_0) (keepAcc (broadcast S128x256 (Scalar.ofBits .f32 0x00000000#32))) Finset.univ (View.stores_vmem_bits_univ h_S128x256 rfl) (.inl rfl)) >>= fun _ =>
  K

/-- Between the passes: the maximum over the lanes of a head. -/
def maxPass (arg15 : Memref sig .tc .vmem S8x128 .f32) (K : Pr F) : Pr F :=
  Prog.lift (.load arg15 (Rect.unit (s := S8x128) ![0, 0] S8x128.size inb_S8x128_S8x128_0_0).toLoadRect (View.loadsAt_vmem h_S8x128)) >>= fun (m : Vec F S8x128 .f32) =>
  Prog.lift (.load arg15 (Rect.unit (s := S8x128) ![0, 0] S8x128.size inb_S8x128_S8x128_0_0).toLoadRect (View.loadsAt_vmem h_S8x128)) >>= fun (_v : Vec F S8x128 .f32) =>
  Prog.lift (.store arg15 (Rect.unit (s := S8x128) ![0, 0] S8x128.size inb_S8x128_S8x128_0_0) (keep8 (headMax m)) Finset.univ (View.stores_vmem_bits_univ h_S8x128 rfl) (.inl rfl)) >>= fun _ =>
  K

/-- The last point: the result. -/
def finishPass (arg8 : Memref sig .tc .vmem S64x128 .bf16) (arg12 : Memref sig .tc .vmem S2x128x256 .bf16) (arg14 : Memref sig .tc .vmem S8x128 .f32) (arg15 : Memref sig .tc .vmem S8x128 .f32) (arg16 : Memref sig .tc .vmem S8x128 .f32) (arg17 : Memref sig .tc .vmem S128x256 .f32) (harg8 : arg8.IsWhole) (K : Pr F) : Pr F :=
  Prog.lift (.load arg14 (Rect.unit (s := S8x128) ![0, 0] S8x128.size inb_S8x128_S8x128_0_0).toLoadRect (View.loadsAt_vmem h_S8x128)) >>= fun (dn : Vec F S8x128 .f32) =>
  Prog.lift (.load arg15 (Rect.unit (s := S8x128) ![0, 0] S8x128.size inb_S8x128_S8x128_0_0).toLoadRect (View.loadsAt_vmem h_S8x128)) >>= fun (m : Vec F S8x128 .f32) =>
  Prog.lift (.load arg16 (Rect.unit (s := S8x128) ![0, 0] S8x128.size inb_S8x128_S8x128_0_0).toLoadRect (View.loadsAt_vmem h_S8x128)) >>= fun (l : Vec F S8x128 .f32) =>
  Prog.lift (.load arg17 (Rect.unit (s := S128x256) ![0, 0] S128x256.size inb_S128x256_S128x256_0_0).toLoadRect (View.loadsAt_vmem h_S128x256)) >>= fun (o : Vec F S128x256 .f32) =>
  Prog.lift (.load arg12 (Rect.unit (s := S2x128x256) ![1, 0, 0] S1x128x256.size inb_S2x128x256_S1x128x256_1_0_0).toLoadRect (View.loadsAt_vmem h_S1x128x256)) >>= fun (v : Vec F S1x128x256 .bf16) =>
  Prog.lift (.load arg8 (Rect.unit (s := S64x128) ![0, 0] S64x128.size inb_S64x128_S64x128_0_0).toLoadRect (View.loadsAt_vmem h_S64x128)) >>= fun (_v : Vec F S64x128 .bf16) =>
  Prog.lift (.store arg8 (Rect.unit (s := S64x128) ![0, 0] S64x128.size inb_S64x128_S64x128_0_0) (finish dn m l o v) Finset.univ (View.stores_vmem h_S64x128 (harg8.storeExact_slice rfl _ packedbf16_S64x128_S64x128_0_0) (fun _ => rfl)) (.inl rfl)) >>= fun _ =>
  K

/-- The condition of the pass between the two, as the body computes it. -/
def maxCond (i : grid0.Coords) : BitVec 1 := Scalar.cmpi .ne (Scalar.extui (Scalar.cmpi .eq (BitVec.ofNat 32 (i 0).val) 16#32)) 0#32

/-- The whole body: the five passes, each when its condition holds. -/
def body (i : grid0.Coords) (arg1 : Memref sig .tc .smem S8 .f32) (harg1 : arg1.IsWhole) (arg2 : Memref sig .tc .smem S8 .f32) (harg2 : arg2.IsWhole) (arg3 : Memref sig .tc .vmem S64x128 .bf16) (harg3 : arg3.IsWhole) (arg4 : Memref sig .tc .vmem S8x128 .bf16) (harg4 : arg4.IsWhole) (arg5 : Memref sig .tc .vmem S8x128 .bf16) (harg5 : arg5.IsWhole) (arg6 : Memref sig .tc .vmem S16384x128 .fp8e4m3) (harg6 : arg6.IsWhole) (arg7 : Memref sig .tc .vmem S16384x128 .fp8e4m3) (harg7 : arg7.IsWhole) (arg8 : Memref sig .tc .vmem S64x128 .bf16) (harg8 : arg8.IsWhole) (arg9 : Memref sig .tc .vmem S8x128 .fp8e4m3) (harg9 : arg9.IsWhole) (arg10 : Memref sig .tc .vmem S8x128 .fp8e4m3) (harg10 : arg10.IsWhole) (arg11 : Memref sig .tc .vmem S128x256 .bf16) (harg11 : arg11.IsWhole) (arg12 : Memref sig .tc .vmem S2x128x256 .bf16) (harg12 : arg12.IsWhole) (arg13 : Memref sig .tc .vmem S512x2x2x8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S128x256 .f32) (harg17 : arg17.IsWhole) : Pr F :=
  have pass5 : Pr F := if h5 : k0_cond5 i = 1#1 then finishPass arg8 arg12 arg14 arg15 arg16 arg17 harg8 (pure ⟨⟩) else pure ⟨⟩
  have pass4 : Pr F := if h4 : k0_cond4 i = 1#1 then valuePass i h4 arg2 arg7 arg13 arg15 arg16 arg17 pass5 else pass5
  have pass3 : Pr F := if h3 : maxCond i = 1#1 then maxPass arg15 pass4 else pass4
  have pass2 : Pr F := if h2 : k0_cond2 i = 1#1 then scorePass i h2 arg1 arg6 arg11 arg13 arg15 pass3 else pass3
  if h1 : k0_cond1 i = 1#1 then
    startPass arg1 arg2 arg3 arg4 arg5 arg9 arg10 arg11 arg12 arg14 arg15 arg16 arg17 harg9 harg10 harg11 harg12 pass2
  else pass2

/-- The printed body is this one: the same loads, stores and arithmetic, its windows of statements unfolded. -/
theorem body_eq (i : grid0.Coords) (arg1 : Memref sig .tc .smem S8 .f32) (harg1 : arg1.IsWhole) (arg2 : Memref sig .tc .smem S8 .f32) (harg2 : arg2.IsWhole) (arg3 : Memref sig .tc .vmem S64x128 .bf16) (harg3 : arg3.IsWhole) (arg4 : Memref sig .tc .vmem S8x128 .bf16) (harg4 : arg4.IsWhole) (arg5 : Memref sig .tc .vmem S8x128 .bf16) (harg5 : arg5.IsWhole) (arg6 : Memref sig .tc .vmem S16384x128 .fp8e4m3) (harg6 : arg6.IsWhole) (arg7 : Memref sig .tc .vmem S16384x128 .fp8e4m3) (harg7 : arg7.IsWhole) (arg8 : Memref sig .tc .vmem S64x128 .bf16) (harg8 : arg8.IsWhole) (arg9 : Memref sig .tc .vmem S8x128 .fp8e4m3) (harg9 : arg9.IsWhole) (arg10 : Memref sig .tc .vmem S8x128 .fp8e4m3) (harg10 : arg10.IsWhole) (arg11 : Memref sig .tc .vmem S128x256 .bf16) (harg11 : arg11.IsWhole) (arg12 : Memref sig .tc .vmem S2x128x256 .bf16) (harg12 : arg12.IsWhole) (arg13 : Memref sig .tc .vmem S512x2x2x8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S128x256 .f32) (harg17 : arg17.IsWhole) :
    cc0__attn_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  sl_kernel_rfl

end Cert.Kernel.Hand

end
-- ==== Proof.Kernel.Tiles.lean ====
/- What one tile of either pass does to the memory, at any tile number: the score tile writes its four score blocks and
   updates the maximum, the value tile reads them back and updates the sum and the accumulator. The passes follow by
   induction over the tiles. -/
module

public import proofs.«01_k».proof.Proof.Kernel.Prog
public import proofs.«01_k».proof.Proof.Gen.Kernel.Points
public import proofs.«01_k».proof.Proof.Gen.Kernel.Skeleton
public import Idealize.ShloMosaic.Lib.Pipeline.FrameBody
public import Idealize.ShloMosaic.Lib.VecWindow
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

local notation "𝕄" => MT nD τ sig Unit (Elt F) ℕ (UR sig nD τ) ℕ

/-- The rows of tile `t` of a block. -/
def tileOf (x : Vec F S16384x128 .fp8e4m3) (t : Fin 32) : Vec F S512x128 .fp8e4m3 :=
  VecWindow.window x ![t.val * 512, 0] S512x128.size (tile_inb t)

/-- A tile's scores. -/
def scoresOf (sc : FVec F S16x128 .bf16) (q2 : FVec F S128x256 .bf16) (x : Vec F S16384x128 .fp8e4m3) (t : Fin 32) : FVec F S128x256 .f32 :=
  tileScores (dequantPair sc (tileOf x t)) q2

/-- The four score blocks of row `r`, put where they are kept. -/
def putScores (r : ℕ) (d : FVec F S512x2x2x8x128 .f32) (s : FVec F S128x256 .f32) : FVec F S512x2x2x8x128 .f32 :=
  VecWindow.put (VecWindow.put (VecWindow.put (VecWindow.put d
    ![r, 0, 0, 0, 0] S1x1x1x8x128.size (asSlice (score00 s)))
    ![r, 0, 1, 0, 0] S1x1x1x8x128.size (asSlice (score01 s)))
    ![r, 1, 0, 0, 0] S1x1x1x8x128.size (asSlice (score10 s)))
    ![r, 1, 1, 0, 0] S1x1x1x8x128.size (asSlice (score11 s))

set_option maxHeartbeats 1000000 in
theorem scoreTile_wp (c : Dev nD) (i : grid0.Coords) (h2 : k0_cond2 i = 1#1)
    (arg6 : Memref sig .tc .vmem S16384x128 .fp8e4m3) (harg6 : arg6.IsWhole) (arg11 : Memref sig .tc .vmem S128x256 .bf16) (harg11 : arg11.IsWhole)
    (arg13 : Memref sig .tc .vmem S512x2x2x8x128 .f32) (harg13 : arg13.IsWhole)
    (x : Vec F S16384x128 .fp8e4m3) (q2 : FVec F S128x256 .bf16) (d : FVec F S512x2x2x8x128 .f32)
    (sc : FVec F S16x128 .bf16) (t : Fin 32) (mx : FVec F S8x128 .f32) (K : FVec F S8x128 .f32 → Pr F) (E : Set ℕ) (Q : PUnit → sProp 𝕄) :
    iprop(owns (c : Thread nD τ) arg6 fullShare x ∗ owns (c : Thread nD τ) arg11 fullShare q2 ∗ owns (c : Thread nD τ) arg13 fullShare d
        ∗ (iprop(owns (c : Thread nD τ) arg6 fullShare x ∗ owns (c : Thread nD τ) arg11 fullShare q2
            ∗ owns (c : Thread nD τ) arg13 fullShare (putScores (32 * (i 0).val + t.val) d (scoresOf sc q2 x t)))
          -∗ wp frame (wpE (defs₀ (F := F)) Variants.none c none) E (K (tileMax mx (scoresOf sc q2 x t))) Q))
      ⊢ wp frame (wpE (defs₀ (F := F)) Variants.none c none) E (scoreTile i h2 arg6 arg11 arg13 sc t mx K) Q := by
  unfold scoreTile owns
  iintro ⟨⟨%f0, %hf0, H0⟩, ⟨%f1, %hf1, H1⟩, ⟨%f2, %hf2, H2⟩, Hk⟩
  have e6 : View.readAt (Elt F) arg6.view (Rect.unit (s := S16384x128) ![t.val * 512, 0] S512x128.size (tile_inb t)).toLoadRect f0 = tileOf x t := by
    rw [View.readAt_unit _ _ _ rfl (tile_inb t), hf0]; rfl
  have e11 : View.readAt (Elt F) arg11.view (Rect.unit (s := S128x256) ![0, 0] S128x256.size inb_S128x256_S128x256_0_0).toLoadRect f1 = q2 := by
    rw [View.readAt_full, hf1]
  sl_exec
  simp only [e6, e11]
  iapply Hk
  isplitl [H0]
  · iexists f0; isplitr; · ipureintro; exact hf0
    iexact H0
  isplitl [H1]
  · iexists f1; isplitr; · ipureintro; exact hf1
    iexact H1
  iexists _; isplitr
  swap; · iexact H2
  ipureintro
  rw [View.read_writes_cons_put _ _ _ _ _ (Gen.k0_off4_eq i t), View.read_writes_cons_put _ _ _ _ _ (Gen.k0_off3_eq i t),
    View.read_writes_cons_put _ _ _ _ _ (Gen.k0_off2_eq i t), View.read_writes_cons_put _ _ _ _ _ (Gen.k0_off1_eq i t), View.writes_nil, hf2]
  rfl

/-- Head scale `j` of the eight. -/
def scaleAt (s : Vec F S8 .f32) (j : Fin 8) : Elt F .f32 := s (fun a => ⟨j.val, by match a with | 0 => exact j.isLt⟩)

/-- The element a one-element rectangle of the eight names. -/
theorem read_scale (arg1 : Memref sig .tc .smem S8 .f32) (f0 : arg1.view.ty.Contents (Elt F)) (j : ℕ) (hj : j < 8)
    (inb : ∀ a, (![j] : Fin 1 → ℕ) a + S1.size a ≤ S8.size a) (y : (Rect.unit (s := S8) ![j] S1.size inb).shape.Idx) :
    arg1.view.readAt (Elt F) (Rect.unit (s := S8) ![j] S1.size inb).toLoadRect f0 y = scaleAt (arg1.view.read (Elt F) f0) ⟨j, hj⟩ := by
  refine congrArg (arg1.view.read (Elt F) f0) (funext fun a => Fin.ext ?_)
  match a with
  | 0 =>
    have h : (y 0).val < 1 := (y 0).isLt
    show j + 1 * (y 0).val = j
    omega

theorem loadScales_wp (c : Dev nD) (arg1 : Memref sig .tc .smem S8 .f32) (harg1 : arg1.IsWhole) (s : Vec F S8 .f32) (K : (w0 w1 w2 w3 w4 w5 w6 w7 : Elt F .f32) → Pr F) (E : Set ℕ) (Q : PUnit → sProp 𝕄) :
    iprop(owns (c : Thread nD τ) arg1 fullShare s
        ∗ (iprop(owns (c : Thread nD τ) arg1 fullShare s)
          -∗ wp frame (wpE (defs₀ (F := F)) Variants.none c none) E (K (scaleAt s 0) (scaleAt s 1) (scaleAt s 2) (scaleAt s 3) (scaleAt s 4) (scaleAt s 5) (scaleAt s 6) (scaleAt s 7)) Q))
      ⊢ wp frame (wpE (defs₀ (F := F)) Variants.none c none) E (loadScales arg1 K) Q := by
  unfold loadScales owns
  iintro ⟨⟨%f0, %hf0, H0⟩, Hk⟩
  subst hf0
  sl_exec
  have e0 : loadScales_wp.sl.r c arg1 f0 = scaleAt (arg1.view.read (Elt F) f0) 0 := read_scale arg1 f0 0 (by omega) _ _
  have e1 : loadScales_wp.sl.r_1 c arg1 f0 = scaleAt (arg1.view.read (Elt F) f0) 1 := read_scale arg1 f0 1 (by omega) _ _
  have e2 : loadScales_wp.sl.r_2 c arg1 f0 = scaleAt (arg1.view.read (Elt F) f0) 2 := read_scale arg1 f0 2 (by omega) _ _
  have e3 : loadScales_wp.sl.r_3 c arg1 f0 = scaleAt (arg1.view.read (Elt F) f0) 3 := read_scale arg1 f0 3 (by omega) _ _
  have e4 : loadScales_wp.sl.r_4 c arg1 f0 = scaleAt (arg1.view.read (Elt F) f0) 4 := read_scale arg1 f0 4 (by omega) _ _
  have e5 : loadScales_wp.sl.r_5 c arg1 f0 = scaleAt (arg1.view.read (Elt F) f0) 5 := read_scale arg1 f0 5 (by omega) _ _
  have e6 : loadScales_wp.sl.r_6 c arg1 f0 = scaleAt (arg1.view.read (Elt F) f0) 6 := read_scale arg1 f0 6 (by omega) _ _
  have e7 : loadScales_wp.sl.r_7 c arg1 f0 = scaleAt (arg1.view.read (Elt F) f0) 7 := read_scale arg1 f0 7 (by omega) _ _
  rw [e0, e1, e2, e3, e4, e5, e6, e7]
  iapply Hk
  iexists f0; isplitr; · ipureintro; rfl
  iexact H0

/-- Where the value pass reads its score block: the same row of the earlier half of the grid. -/
theorem off5_eq : ∀ i : grid0.Coords, k0_cond4 i = 1#1 → ∀ r : Fin 32,
    k0_off5 i (BitVec.ofNat 32 r.val) = ![32 * ((i 0).val - 16) + r.val, 0, 0, 0, 0] := by decide +kernel

/-- Where the value pass reads its score block: the same row of the earlier half of the grid. -/
theorem off6_eq : ∀ i : grid0.Coords, k0_cond4 i = 1#1 → ∀ r : Fin 32,
    k0_off6 i (BitVec.ofNat 32 r.val) = ![32 * ((i 0).val - 16) + r.val, 0, 1, 0, 0] := by decide +kernel

/-- Where the value pass reads its score block: the same row of the earlier half of the grid. -/
theorem off7_eq : ∀ i : grid0.Coords, k0_cond4 i = 1#1 → ∀ r : Fin 32,
    k0_off7 i (BitVec.ofNat 32 r.val) = ![32 * ((i 0).val - 16) + r.val, 1, 0, 0, 0] := by decide +kernel

/-- Where the value pass reads its score block: the same row of the earlier half of the grid. -/
theorem off8_eq : ∀ i : grid0.Coords, k0_cond4 i = 1#1 → ∀ r : Fin 32,
    k0_off8 i (BitVec.ofNat 32 r.val) = ![32 * ((i 0).val - 16) + r.val, 1, 1, 0, 0] := by decide +kernel

/-- A score block's place stays inside the kept scores. -/
theorem block_inb (r : ℕ) (hr : r < 512) (a b : ℕ) (ha : a < 2) (hb : b < 2) :
    ∀ k, (![r, a, b, 0, 0] : Fin 5 → ℕ) k + S1x1x1x8x128.size k ≤ S512x2x2x8x128.size k := by
  intro k
  fin_cases k
  · show r + 1 ≤ 512; omega
  · show a + 1 ≤ 2; omega
  · show b + 1 ≤ 2; omega
  · show 0 + 8 ≤ 8; omega
  · show 0 + 128 ≤ 128; omega

/-- The weights of the score block kept at row `r`, place `(a, b)`. -/
def weightsAt (m : FVec F S8x128 .f32) (d : FVec F S512x2x2x8x128 .f32) (r : ℕ) (hr : r < 512) (a b : Fin 2) : FVec F S8x128 .f32 :=
  weights m (ofSlice (VecWindow.window d ![r, a.val, b.val, 0, 0] S1x1x1x8x128.size (block_inb r hr a.val b.val a.isLt b.isLt)))

/-- The sum after a tile's weights. -/
def sumOf (m : FVec F S8x128 .f32) (d : FVec F S512x2x2x8x128 .f32) (r : ℕ) (hr : r < 512) (l : FVec F S8x128 .f32) : FVec F S8x128 .f32 :=
  tileSum l (weightsAt m d r hr 0 0) (weightsAt m d r hr 0 1) (weightsAt m d r hr 1 0) (weightsAt m d r hr 1 1)

/-- The accumulator after a tile's weights. -/
def accOf (m : FVec F S8x128 .f32) (d : FVec F S512x2x2x8x128 .f32) (r : ℕ) (hr : r < 512) (o : FVec F S128x256 .f32)
    (x2 : FVec F S256x256 .bf16) : FVec F S128x256 .f32 :=
  tileAcc o x2 (weightsAt m d r hr 0 0) (weightsAt m d r hr 0 1) (weightsAt m d r hr 1 0) (weightsAt m d r hr 1 1)

/-- The row of the kept scores tile `t` of a point reads, stays inside. -/
theorem row_lt (i : grid0.Coords) (t : Fin 32) : 32 * ((i 0).val - 16) + t.val < 512 := by
  have h : (i 0).val < 32 := (i 0).isLt
  have := t.isLt
  omega

set_option maxHeartbeats 1000000 in
theorem valueTile_wp (c : Dev nD) (i : grid0.Coords) (h4 : k0_cond4 i = 1#1) (arg7 : Memref sig .tc .vmem S16384x128 .fp8e4m3) (harg7 : arg7.IsWhole) (arg13 : Memref sig .tc .vmem S512x2x2x8x128 .f32) (harg13 : arg13.IsWhole) (x : Vec F S16384x128 .fp8e4m3) (d : FVec F S512x2x2x8x128 .f32) (sc : FVec F S16x128 .bf16) (mx : FVec F S8x128 .f32) (t : Fin 32) (l : FVec F S8x128 .f32) (o : FVec F S128x256 .f32) (K : FVec F S8x128 .f32 → FVec F S128x256 .f32 → Pr F) (E : Set ℕ) (Q : PUnit → sProp 𝕄) :
    iprop(owns (c : Thread nD τ) arg7 fullShare x ∗ owns (c : Thread nD τ) arg13 fullShare d
        ∗ (iprop(owns (c : Thread nD τ) arg7 fullShare x ∗ owns (c : Thread nD τ) arg13 fullShare d)
          -∗ wp frame (wpE (defs₀ (F := F)) Variants.none c none) E (K (sumOf mx d (32 * ((i 0).val - 16) + t.val) (row_lt i t) l) (accOf mx d (32 * ((i 0).val - 16) + t.val) (row_lt i t) o (dequantPair sc (tileOf x t)))) Q))
      ⊢ wp frame (wpE (defs₀ (F := F)) Variants.none c none) E (valueTile i h4 arg7 arg13 sc mx t l o K) Q := by
  unfold valueTile owns
  iintro ⟨⟨%f0, %hf0, H0⟩, ⟨%f1, %hf1, H1⟩, Hk⟩
  have e7 : View.readAt (Elt F) arg7.view (Rect.unit (s := S16384x128) ![t.val * 512, 0] S512x128.size (tile_inb t)).toLoadRect f0 = tileOf x t := by
    rw [View.readAt_unit _ _ _ rfl (tile_inb t), hf0]; rfl
  have d5 : weights mx (ofSlice (View.readAt (Elt F) arg13.view (Rect.unit (s := S512x2x2x8x128) (k0_off5 i (BitVec.ofNat 32 t.val)) S1x1x1x8x128.size (k0_off5_inb i h4 t)).toLoadRect f1))
      = weightsAt mx d (32 * ((i 0).val - 16) + t.val) (row_lt i t) 0 0 := by
    rw [View.readAt_unit _ _ _ (off5_eq i h4 t) (block_inb _ (row_lt i t) 0 0 (by omega) (by omega)), hf1]; rfl
  have d6 : weights mx (ofSlice (View.readAt (Elt F) arg13.view (Rect.unit (s := S512x2x2x8x128) (k0_off6 i (BitVec.ofNat 32 t.val)) S1x1x1x8x128.size (k0_off6_inb i h4 t)).toLoadRect f1))
      = weightsAt mx d (32 * ((i 0).val - 16) + t.val) (row_lt i t) 0 1 := by
    rw [View.readAt_unit _ _ _ (off6_eq i h4 t) (block_inb _ (row_lt i t) 0 1 (by omega) (by omega)), hf1]; rfl
  have d7 : weights mx (ofSlice (View.readAt (Elt F) arg13.view (Rect.unit (s := S512x2x2x8x128) (k0_off7 i (BitVec.ofNat 32 t.val)) S1x1x1x8x128.size (k0_off7_inb i h4 t)).toLoadRect f1))
      = weightsAt mx d (32 * ((i 0).val - 16) + t.val) (row_lt i t) 1 0 := by
    rw [View.readAt_unit _ _ _ (off7_eq i h4 t) (block_inb _ (row_lt i t) 1 0 (by omega) (by omega)), hf1]; rfl
  have d8 : weights mx (ofSlice (View.readAt (Elt F) arg13.view (Rect.unit (s := S512x2x2x8x128) (k0_off8 i (BitVec.ofNat 32 t.val)) S1x1x1x8x128.size (k0_off8_inb i h4 t)).toLoadRect f1))
      = weightsAt mx d (32 * ((i 0).val - 16) + t.val) (row_lt i t) 1 1 := by
    rw [View.readAt_unit _ _ _ (off8_eq i h4 t) (block_inb _ (row_lt i t) 1 1 (by omega) (by omega)), hf1]; rfl
  sl_exec
  simp only [e7, d5, d6, d7, d8]
  iapply Hk
  isplitl [H0]
  · iexists f0; isplitr; · ipureintro; exact hf0
    iexact H0
  iexists f1; isplitr; · ipureintro; exact hf1
  iexact H1

/-! ## The passes' recursions -/

/-- The kept scores after `n` tiles from `t` on. -/
def putTiles (i : grid0.Coords) (sc : FVec F S16x128 .bf16) (q2 : FVec F S128x256 .bf16) (x : Vec F S16384x128 .fp8e4m3) :
    (n t : ℕ) → n + t ≤ 32 → FVec F S512x2x2x8x128 .f32 → FVec F S512x2x2x8x128 .f32
  | 0, _, _, d => d
  | n + 1, t, h, d => putTiles i sc q2 x n (t + 1) (by omega) (putScores (32 * (i 0).val + t) d (scoresOf sc q2 x ⟨t, by omega⟩))

/-- The maximum after `n` tiles from `t` on. -/
def maxTiles (sc : FVec F S16x128 .bf16) (q2 : FVec F S128x256 .bf16) (x : Vec F S16384x128 .fp8e4m3) :
    (n t : ℕ) → n + t ≤ 32 → FVec F S8x128 .f32 → FVec F S8x128 .f32
  | 0, _, _, m => m
  | n + 1, t, h, m => maxTiles sc q2 x n (t + 1) (by omega) (tileMax m (scoresOf sc q2 x ⟨t, by omega⟩))

/-- The sum after `n` tiles from `t` on. -/
def sumTiles (i : grid0.Coords) (m : FVec F S8x128 .f32) (d : FVec F S512x2x2x8x128 .f32) :
    (n t : ℕ) → n + t ≤ 32 → FVec F S8x128 .f32 → FVec F S8x128 .f32
  | 0, _, _, l => l
  | n + 1, t, h, l => sumTiles i m d n (t + 1) (by omega) (sumOf m d (32 * ((i 0).val - 16) + t) (row_lt i ⟨t, by omega⟩) l)

/-- The accumulator after `n` tiles from `t` on. -/
def accTiles (i : grid0.Coords) (m : FVec F S8x128 .f32) (d : FVec F S512x2x2x8x128 .f32) (sc : FVec F S16x128 .bf16) (x : Vec F S16384x128 .fp8e4m3) :
    (n t : ℕ) → n + t ≤ 32 → FVec F S128x256 .f32 → FVec F S128x256 .f32
  | 0, _, _, o => o
  | n + 1, t, h, o => accTiles i m d sc x n (t + 1) (by omega)
      (accOf m d (32 * ((i 0).val - 16) + t) (row_lt i ⟨t, by omega⟩) o (dequantPair sc (tileOf x ⟨t, by omega⟩)))

theorem scoreTiles_wp (c : Dev nD) (i : grid0.Coords) (h2 : k0_cond2 i = 1#1) (arg6 : Memref sig .tc .vmem S16384x128 .fp8e4m3) (harg6 : arg6.IsWhole) (arg11 : Memref sig .tc .vmem S128x256 .bf16) (harg11 : arg11.IsWhole) (arg13 : Memref sig .tc .vmem S512x2x2x8x128 .f32) (harg13 : arg13.IsWhole) (x : Vec F S16384x128 .fp8e4m3) (q2 : FVec F S128x256 .bf16) (sc : FVec F S16x128 .bf16) (K : FVec F S8x128 .f32 → Pr F) (E : Set ℕ) (Q : PUnit → sProp 𝕄) :
    (n t : ℕ) → (h : n + t ≤ 32) → (mx : FVec F S8x128 .f32) → (d : FVec F S512x2x2x8x128 .f32) →
    iprop(owns (c : Thread nD τ) arg6 fullShare x ∗ owns (c : Thread nD τ) arg11 fullShare q2 ∗ owns (c : Thread nD τ) arg13 fullShare d
        ∗ (iprop(owns (c : Thread nD τ) arg6 fullShare x ∗ owns (c : Thread nD τ) arg11 fullShare q2 ∗ owns (c : Thread nD τ) arg13 fullShare (putTiles i sc q2 x n t h d))
          -∗ wp frame (wpE (defs₀ (F := F)) Variants.none c none) E (K (maxTiles sc q2 x n t h mx)) Q))
      ⊢ wp frame (wpE (defs₀ (F := F)) Variants.none c none) E (scoreTiles i h2 arg6 arg11 arg13 sc n t h mx K) Q
  | 0, t, h, mx, d => by
    iintro ⟨H0, H1, H2, Hk⟩
    iapply Hk
    isplitl [H0]; · iexact H0
    isplitl [H1]; · iexact H1
    iexact H2
  | n + 1, t, h, mx, d => by
    iintro ⟨H0, H1, H2, Hk⟩
    iapply (scoreTile_wp c i h2 arg6 harg6 arg11 harg11 arg13 harg13 x q2 d sc ⟨t, by omega⟩ mx _ E Q)
    isplitl [H0]; · iexact H0
    isplitl [H1]; · iexact H1
    isplitl [H2]; · iexact H2
    iintro ⟨H0, H1, H2⟩
    iapply (scoreTiles_wp c i h2 arg6 harg6 arg11 harg11 arg13 harg13 x q2 sc K E Q n (t + 1) _ _ _)
    isplitl [H0]; · iexact H0
    isplitl [H1]; · iexact H1
    isplitl [H2]; · iexact H2
    iexact Hk

theorem valueTiles_wp (c : Dev nD) (i : grid0.Coords) (h4 : k0_cond4 i = 1#1) (arg7 : Memref sig .tc .vmem S16384x128 .fp8e4m3) (harg7 : arg7.IsWhole) (arg13 : Memref sig .tc .vmem S512x2x2x8x128 .f32) (harg13 : arg13.IsWhole) (x : Vec F S16384x128 .fp8e4m3) (d : FVec F S512x2x2x8x128 .f32) (sc : FVec F S16x128 .bf16) (mx : FVec F S8x128 .f32) (K : FVec F S8x128 .f32 → FVec F S128x256 .f32 → Pr F) (E : Set ℕ) (Q : PUnit → sProp 𝕄) :
    (n t : ℕ) → (h : n + t ≤ 32) → (l : FVec F S8x128 .f32) → (o : FVec F S128x256 .f32) →
    iprop(owns (c : Thread nD τ) arg7 fullShare x ∗ owns (c : Thread nD τ) arg13 fullShare d
        ∗ (iprop(owns (c : Thread nD τ) arg7 fullShare x ∗ owns (c : Thread nD τ) arg13 fullShare d)
          -∗ wp frame (wpE (defs₀ (F := F)) Variants.none c none) E (K (sumTiles i mx d n t h l) (accTiles i mx d sc x n t h o)) Q))
      ⊢ wp frame (wpE (defs₀ (F := F)) Variants.none c none) E (valueTiles i h4 arg7 arg13 sc mx n t h l o K) Q
  | 0, t, h, l, o => by
    iintro ⟨H0, H1, Hk⟩
    iapply Hk
    isplitl [H0]; · iexact H0
    iexact H1
  | n + 1, t, h, l, o => by
    iintro ⟨H0, H1, Hk⟩
    iapply (valueTile_wp c i h4 arg7 harg7 arg13 harg13 x d sc mx ⟨t, by omega⟩ l o _ E Q)
    isplitl [H0]; · iexact H0
    isplitl [H1]; · iexact H1
    iintro ⟨H0, H1⟩
    iapply (valueTiles_wp c i h4 arg7 harg7 arg13 harg13 x d sc mx K E Q n (t + 1) _ _ _)
    isplitl [H0]; · iexact H0
    isplitl [H1]; · iexact H1
    iexact Hk

end Cert.Kernel.Hand

end
-- ==== Proof.Kernel.Passes.lean ====
/- What each of the five passes of the body does to the memory: whole buffers in, whole buffers out. -/
module

public import proofs.«01_k».proof.Proof.Kernel.Tiles

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

local notation "𝕄" => MT nD τ sig Unit (Elt F) ℕ (UR sig nD τ) ℕ

/-- The eight scales by row of a tile. -/
def tileScaleOf (s : Vec F S8 .f32) : FVec F S16x128 .bf16 :=
  tileScale (scaleAt s 0) (scaleAt s 1) (scaleAt s 2) (scaleAt s 3) (scaleAt s 4) (scaleAt s 5) (scaleAt s 6) (scaleAt s 7)
/-- The eight scales by row of the new token. -/
def rowScaleOf (s : Vec F S8 .f32) : FVec F S8x128 .f32 :=
  rowScale rowHead8 (scaleAt s 0) (scaleAt s 1) (scaleAt s 2) (scaleAt s 3) (scaleAt s 4) (scaleAt s 5) (scaleAt s 6) (scaleAt s 7)

/-! ## Whole loads and stores, what follows them any program -/

section Access

theorem load_whole {s : Shape} {e : EltTy} (c : Dev nD) (a : Memref sig .tc .vmem s e) (E : Set ℕ) (Q : PUnit.{1} → sProp 𝕄)
    (x : Vec F s e) {off : Fin s.rank → ℕ} (inb : ∀ k, off k + s.size k ≤ s.size k)
    (hl : a.view.LoadsAt (Rect.unit (s := s) off s.size inb).toLoadRect) (K : Vec F s e → Pr F) :
    iprop(owns (c : Thread nD τ) a fullShare x ∗ (owns (c : Thread nD τ) a fullShare x -∗ wp frame (wpE (defs₀ (F := F)) Variants.none c none) E (K x) Q))
      ⊢ wp frame (wpE (defs₀ (F := F)) Variants.none c none) E
          (Prog.lift (.load a (Rect.unit (s := s) off s.size inb).toLoadRect hl) >>= K : Pr F) Q := by
  unfold owns
  iintro ⟨⟨%f, %hf, H⟩, Hk⟩
  have h : View.readAt (Elt F) a.view (Rect.unit (s := s) off s.size inb).toLoadRect f = x := by
    rw [View.readAt_full, hf]
  sl_exec
  iapply Hk
  iexists f; isplitr; · ipureintro; exact hf
  iexact H

theorem load_part {s : Shape} {e : EltTy} (c : Dev nD) (a : Memref sig .tc .vmem s e) (E : Set ℕ) (Q : PUnit.{1} → sProp 𝕄)
    (x : Vec F s e) {off size : Fin s.rank → ℕ} (inb : ∀ k, off k + size k ≤ s.size k)
    (hl : a.view.LoadsAt (Rect.unit (s := s) off size inb).toLoadRect) (K : Vec F ⟨s.rank, size⟩ e → Pr F) :
    iprop(owns (c : Thread nD τ) a fullShare x
        ∗ (owns (c : Thread nD τ) a fullShare x -∗ wp frame (wpE (defs₀ (F := F)) Variants.none c none) E (K (VecWindow.window x off size inb)) Q))
      ⊢ wp frame (wpE (defs₀ (F := F)) Variants.none c none) E
          (Prog.lift (.load a (Rect.unit (s := s) off size inb).toLoadRect hl) >>= K : Pr F) Q := by
  unfold owns
  iintro ⟨⟨%f, %hf, H⟩, Hk⟩
  have h : View.readAt (Elt F) a.view (Rect.unit (s := s) off size inb).toLoadRect f = VecWindow.window x off size inb := by
    rw [View.readAt_unit _ _ _ rfl inb, hf]
  sl_exec
  iapply Hk
  iexists f; isplitr; · ipureintro; exact hf
  iexact H

theorem store_part {s : Shape} {e : EltTy} (c : Dev nD) (a : Memref sig .tc .vmem s e) (E : Set ℕ) (Q : PUnit.{1} → sProp 𝕄)
    (x : Vec F s e) {off size : Fin s.rank → ℕ} (inb : ∀ k, off k + size k ≤ s.size k)
    (hl : a.view.LoadsAt (Rect.unit (s := s) off size inb).toLoadRect) (w : Vec F ⟨s.rank, size⟩ e)
    (hs : (a.access (Rect.unit (s := s) off size inb)).Stores Finset.univ)
    (hm : (Finset.univ : Finset (Rect.unit (s := s) off size inb).shape.Idx) = Finset.univ ∨ ∀ k, (Rect.unit (s := s) off size inb).stride k = 1) (K : Pr F) :
    iprop(owns (c : Thread nD τ) a fullShare x
        ∗ (owns (c : Thread nD τ) a fullShare (VecWindow.put x off size w) -∗ wp frame (wpE (defs₀ (F := F)) Variants.none c none) E K Q))
      ⊢ wp frame (wpE (defs₀ (F := F)) Variants.none c none) E
          (Prog.lift (.load a (Rect.unit (s := s) off size inb).toLoadRect hl) >>= fun _ =>
            Prog.lift (.store a (Rect.unit (s := s) off size inb) w Finset.univ hs hm) >>= fun _ => K : Pr F) Q := by
  unfold owns
  iintro ⟨⟨%f, %hf, H⟩, Hk⟩
  sl_exec
  iapply Hk
  iexists _; isplitr
  swap; · iexact H
  ipureintro
  refine (View.read_writes_cons_put _ _ _ _ _ rfl).trans ?_
  rw [View.writes_nil, hf]

theorem store_whole {s : Shape} {e : EltTy} (c : Dev nD) (a : Memref sig .tc .vmem s e) (E : Set ℕ) (Q : PUnit.{1} → sProp 𝕄)
    {off : Fin s.rank → ℕ} (inb : ∀ k, off k + s.size k ≤ s.size k)
    (hl : a.view.LoadsAt (Rect.unit (s := s) off s.size inb).toLoadRect) (w : Vec F s e)
    (hs : (a.access (Rect.unit (s := s) off s.size inb)).Stores Finset.univ)
    (hm : (Finset.univ : Finset (Rect.unit (s := s) off s.size inb).shape.Idx) = Finset.univ ∨ ∀ k, (Rect.unit (s := s) off s.size inb).stride k = 1) (K : Pr F) :
    iprop((∃ x, owns (c : Thread nD τ) a fullShare x)
        ∗ (owns (c : Thread nD τ) a fullShare w -∗ wp frame (wpE (defs₀ (F := F)) Variants.none c none) E K Q))
      ⊢ wp frame (wpE (defs₀ (F := F)) Variants.none c none) E
          (Prog.lift (.load a (Rect.unit (s := s) off s.size inb).toLoadRect hl) >>= fun _ =>
            Prog.lift (.store a (Rect.unit (s := s) off s.size inb) w Finset.univ hs hm) >>= fun _ => K : Pr F) Q := by
  unfold owns
  iintro ⟨⟨%x, %f, -, H⟩, Hk⟩
  sl_exec
  iapply Hk
  iexists _; isplitr
  swap; · iexact H
  ipureintro
  exact View.read_writes_full _ _ _ _ _

end Access

theorem scorePass_wp (c : Dev nD) (i : grid0.Coords) (h2 : k0_cond2 i = 1#1) (arg1 : Memref sig .tc .smem S8 .f32) (harg1 : arg1.IsWhole) (arg6 : Memref sig .tc .vmem S16384x128 .fp8e4m3) (harg6 : arg6.IsWhole) (arg11 : Memref sig .tc .vmem S128x256 .bf16) (harg11 : arg11.IsWhole) (arg13 : Memref sig .tc .vmem S512x2x2x8x128 .f32) (harg13 : arg13.IsWhole) (arg15 : Memref sig .tc .vmem S8x128 .f32) (harg15 : arg15.IsWhole) (s : Vec F S8 .f32) (x : Vec F S16384x128 .fp8e4m3) (q2 : FVec F S128x256 .bf16) (d : FVec F S512x2x2x8x128 .f32) (mx : FVec F S8x128 .f32) (K : Pr F) (E : Set ℕ) (Q : PUnit → sProp 𝕄) :
    iprop(owns (c : Thread nD τ) arg1 fullShare s ∗ owns (c : Thread nD τ) arg6 fullShare x ∗ owns (c : Thread nD τ) arg11 fullShare q2 ∗ owns (c : Thread nD τ) arg13 fullShare d ∗ owns (c : Thread nD τ) arg15 fullShare mx
        ∗ (iprop(owns (c : Thread nD τ) arg1 fullShare s ∗ owns (c : Thread nD τ) arg6 fullShare x ∗ owns (c : Thread nD τ) arg11 fullShare q2 ∗ owns (c : Thread nD τ) arg13 fullShare (putTiles i (tileScaleOf s) q2 x 32 0 (by omega) d) ∗ owns (c : Thread nD τ) arg15 fullShare (keep8 (maxTiles (tileScaleOf s) q2 x 32 0 (by omega) mx)))
          -∗ wp frame (wpE (defs₀ (F := F)) Variants.none c none) E K Q))
      ⊢ wp frame (wpE (defs₀ (F := F)) Variants.none c none) E (scorePass i h2 arg1 arg6 arg11 arg13 arg15 K) Q := by
  unfold scorePass
  iintro ⟨H1, H6, H11, H13, H15, Hk⟩
  iapply (loadScales_wp c arg1 harg1 s _ E Q)
  isplitl [H1]; · iexact H1
  iintro H1
  iapply (load_whole c arg15 E Q _ _ _ _)
  isplitl [H15]; · iexact H15
  iintro H15
  iapply (scoreTiles_wp c i h2 arg6 harg6 arg11 harg11 arg13 harg13 x q2 _ _ E Q 32 0 _ mx d)
  isplitl [H6]; · iexact H6
  isplitl [H11]; · iexact H11
  isplitl [H13]; · iexact H13
  iintro ⟨H6, H11, H13⟩
  iapply (store_whole c arg15 E Q _ _ _ _ _ _)
  isplitl [H15]; · iexists _; iexact H15
  iintro H15
  iapply Hk
  isplitl [H1]; · iexact H1
  isplitl [H6]; · iexact H6
  isplitl [H11]; · iexact H11
  isplitl [H13]; · iexact H13
  iexact H15

theorem valuePass_wp (c : Dev nD) (i : grid0.Coords) (h4 : k0_cond4 i = 1#1) (arg2 : Memref sig .tc .smem S8 .f32) (harg2 : arg2.IsWhole) (arg7 : Memref sig .tc .vmem S16384x128 .fp8e4m3) (harg7 : arg7.IsWhole) (arg13 : Memref sig .tc .vmem S512x2x2x8x128 .f32) (harg13 : arg13.IsWhole) (arg15 : Memref sig .tc .vmem S8x128 .f32) (harg15 : arg15.IsWhole) (arg16 : Memref sig .tc .vmem S8x128 .f32) (harg16 : arg16.IsWhole) (arg17 : Memref sig .tc .vmem S128x256 .f32) (harg17 : arg17.IsWhole) (s : Vec F S8 .f32) (x : Vec F S16384x128 .fp8e4m3) (d : FVec F S512x2x2x8x128 .f32) (mx l : FVec F S8x128 .f32) (o : FVec F S128x256 .f32) (K : Pr F) (E : Set ℕ) (Q : PUnit → sProp 𝕄) :
    iprop(owns (c : Thread nD τ) arg2 fullShare s ∗ owns (c : Thread nD τ) arg7 fullShare x ∗ owns (c : Thread nD τ) arg13 fullShare d ∗ owns (c : Thread nD τ) arg15 fullShare mx ∗ owns (c : Thread nD τ) arg16 fullShare l ∗ owns (c : Thread nD τ) arg17 fullShare o
        ∗ (iprop(owns (c : Thread nD τ) arg2 fullShare s ∗ owns (c : Thread nD τ) arg7 fullShare x ∗ owns (c : Thread nD τ) arg13 fullShare d ∗ owns (c : Thread nD τ) arg15 fullShare mx ∗ owns (c : Thread nD τ) arg16 fullShare (keep8 (sumTiles i mx d 32 0 (by omega) l)) ∗ owns (c : Thread nD τ) arg17 fullShare (keepAcc (accTiles i mx d (tileScaleOf s) x 32 0 (by omega) o)))
          -∗ wp frame (wpE (defs₀ (F := F)) Variants.none c none) E K Q))
      ⊢ wp frame (wpE (defs₀ (F := F)) Variants.none c none) E (valuePass i h4 arg2 arg7 arg13 arg15 arg16 arg17 K) Q := by
  unfold valuePass
  iintro ⟨H2, H7, H13, H15, H16, H17, Hk⟩
  iapply (loadScales_wp c arg2 harg2 s _ E Q)
  isplitl [H2]; · iexact H2
  iintro H2
  iapply (load_whole c arg15 E Q _ _ _ _)
  isplitl [H15]; · iexact H15
  iintro H15
  iapply (load_whole c arg16 E Q _ _ _ _)
  isplitl [H16]; · iexact H16
  iintro H16
  iapply (load_whole c arg17 E Q _ _ _ _)
  isplitl [H17]; · iexact H17
  iintro H17
  iapply (valueTiles_wp c i h4 arg7 harg7 arg13 harg13 x d _ mx _ E Q 32 0 _ l o)
  isplitl [H7]; · iexact H7
  isplitl [H13]; · iexact H13
  iintro ⟨H7, H13⟩
  iapply (store_whole c arg16 E Q _ _ _ _ _ _)
  isplitl [H16]; · iexists _; iexact H16
  iintro H16
  iapply (store_whole c arg17 E Q _ _ _ _ _ _)
  isplitl [H17]; · iexists _; iexact H17
  iintro H17
  iapply Hk
  isplitl [H2]; · iexact H2
  isplitl [H7]; · iexact H7
  isplitl [H13]; · iexact H13
  isplitl [H15]; · iexact H15
  isplitl [H16]; · iexact H16
  iexact H17

theorem maxPass_wp (c : Dev nD) (arg15 : Memref sig .tc .vmem S8x128 .f32) (harg15 : arg15.IsWhole) (mx : FVec F S8x128 .f32) (K : Pr F) (E : Set ℕ) (Q : PUnit → sProp 𝕄) :
    iprop(owns (c : Thread nD τ) arg15 fullShare mx
        ∗ (iprop(owns (c : Thread nD τ) arg15 fullShare (keep8 (headMax mx)))
          -∗ wp frame (wpE (defs₀ (F := F)) Variants.none c none) E K Q))
      ⊢ wp frame (wpE (defs₀ (F := F)) Variants.none c none) E (maxPass arg15 K) Q := by
  unfold maxPass
  iintro ⟨H15, Hk⟩
  iapply (load_whole c arg15 E Q _ _ _ _)
  isplitl [H15]; · iexact H15
  iintro H15
  iapply (store_whole c arg15 E Q _ _ _ _ _ _)
  isplitl [H15]; · iexists _; iexact H15
  iintro H15
  iapply Hk
  iexact H15

theorem half_inb (b : Fin 2) : ∀ k, (![b.val, 0, 0] : Fin 3 → ℕ) k + S1x128x256.size k ≤ S2x128x256.size k := by
  have := b.isLt
  intro k
  fin_cases k
  · show b.val + 1 ≤ 2; omega
  · show 0 + 128 ≤ 128; omega
  · show 0 + 256 ≤ 256; omega

/-- One of the two halves kept of the new token. -/
def halfOf (w : FVec F S2x128x256 .bf16) (b : Fin 2) : Vec F S1x128x256 .bf16 := VecWindow.window w ![b.val, 0, 0] S1x128x256.size (half_inb b)

theorem finishPass_wp (c : Dev nD) (arg8 : Memref sig .tc .vmem S64x128 .bf16) (harg8 : arg8.IsWhole) (arg12 : Memref sig .tc .vmem S2x128x256 .bf16) (harg12 : arg12.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S128x256 .f32) (harg17 : arg17.IsWhole) (w : FVec F S2x128x256 .bf16) (dn mx l : FVec F S8x128 .f32) (o : FVec F S128x256 .f32) (K : Pr F) (E : Set ℕ) (Q : PUnit → sProp 𝕄) :
    iprop((∃ d, owns (c : Thread nD τ) arg8 fullShare d) ∗ owns (c : Thread nD τ) arg12 fullShare w ∗ owns (c : Thread nD τ) arg14 fullShare dn ∗ owns (c : Thread nD τ) arg15 fullShare mx ∗ owns (c : Thread nD τ) arg16 fullShare l ∗ owns (c : Thread nD τ) arg17 fullShare o
        ∗ (iprop(owns (c : Thread nD τ) arg8 fullShare (finish dn mx l o (halfOf w 1)) ∗ owns (c : Thread nD τ) arg12 fullShare w ∗ owns (c : Thread nD τ) arg14 fullShare dn ∗ owns (c : Thread nD τ) arg15 fullShare mx ∗ owns (c : Thread nD τ) arg16 fullShare l ∗ owns (c : Thread nD τ) arg17 fullShare o)
          -∗ wp frame (wpE (defs₀ (F := F)) Variants.none c none) E K Q))
      ⊢ wp frame (wpE (defs₀ (F := F)) Variants.none c none) E (finishPass arg8 arg12 arg14 arg15 arg16 arg17 harg8 K) Q := by
  unfold finishPass
  iintro ⟨H8, H12, H14, H15, H16, H17, Hk⟩
  iapply (load_whole c arg14 E Q _ _ _ _)
  isplitl [H14]; · iexact H14
  iintro H14
  iapply (load_whole c arg15 E Q _ _ _ _)
  isplitl [H15]; · iexact H15
  iintro H15
  iapply (load_whole c arg16 E Q _ _ _ _)
  isplitl [H16]; · iexact H16
  iintro H16
  iapply (load_whole c arg17 E Q _ _ _ _)
  isplitl [H17]; · iexact H17
  iintro H17
  iapply (load_part c arg12 E Q _ _ _ _)
  isplitl [H12]; · iexact H12
  iintro H12
  iapply (store_whole c arg8 E Q _ _ _ _ _ _)
  isplitl [H8]; · iexact H8
  iintro H8
  iapply Hk
  isplitl [H8]; · iexact H8
  isplitl [H12]; · iexact H12
  isplitl [H14]; · iexact H14
  isplitl [H15]; · iexact H15
  isplitl [H16]; · iexact H16
  iexact H17

theorem startPass_wp (c : Dev nD) (arg1 : Memref sig .tc .smem S8 .f32) (harg1 : arg1.IsWhole) (arg2 : Memref sig .tc .smem S8 .f32) (harg2 : arg2.IsWhole) (arg3 : Memref sig .tc .vmem S64x128 .bf16) (harg3 : arg3.IsWhole) (arg4 : Memref sig .tc .vmem S8x128 .bf16) (harg4 : arg4.IsWhole) (arg5 : Memref sig .tc .vmem S8x128 .bf16) (harg5 : arg5.IsWhole) (arg9 : Memref sig .tc .vmem S8x128 .fp8e4m3) (harg9 : arg9.IsWhole) (arg10 : Memref sig .tc .vmem S8x128 .fp8e4m3) (harg10 : arg10.IsWhole) (arg11 : Memref sig .tc .vmem S128x256 .bf16) (harg11 : arg11.IsWhole) (arg12 : Memref sig .tc .vmem S2x128x256 .bf16) (harg12 : arg12.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S128x256 .f32) (harg17 : arg17.IsWhole) (sk sv : Vec F S8 .f32) (q : Vec F S64x128 .bf16) (kn vn : Vec F S8x128 .bf16) (K : Pr F) (E : Set ℕ) (Q : PUnit → sProp 𝕄) :
    iprop(owns (c : Thread nD τ) arg1 fullShare sk ∗ owns (c : Thread nD τ) arg2 fullShare sv ∗ owns (c : Thread nD τ) arg3 fullShare q ∗ owns (c : Thread nD τ) arg4 fullShare kn ∗ owns (c : Thread nD τ) arg5 fullShare vn ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare sk ∗ owns (c : Thread nD τ) arg2 fullShare sv ∗ owns (c : Thread nD τ) arg3 fullShare q ∗ owns (c : Thread nD τ) arg4 fullShare kn ∗ owns (c : Thread nD τ) arg5 fullShare vn ∗ owns (c : Thread nD τ) arg9 fullShare (newCodes kn (rowScaleOf sk)) ∗ owns (c : Thread nD τ) arg10 fullShare (newCodes vn (rowScaleOf sv)) ∗ owns (c : Thread nD τ) arg11 fullShare (query2 q) ∗ (∃ w, ⌜halfOf w 1 = (newPair (newCodes vn (rowScaleOf sv)) (rowScaleOf sv))⌝ ∗ owns (c : Thread nD τ) arg12 fullShare w) ∗ owns (c : Thread nD τ) arg14 fullShare (keep8 (newScores (query2 q) (newPair (newCodes kn (rowScaleOf sk)) (rowScaleOf sk)))) ∗ owns (c : Thread nD τ) arg15 fullShare (keep8 (newScores (query2 q) (newPair (newCodes kn (rowScaleOf sk)) (rowScaleOf sk)))) ∗ owns (c : Thread nD τ) arg16 fullShare (keep8 (broadcast S8x128 (Scalar.ofBits .f32 0x00000000#32))) ∗ owns (c : Thread nD τ) arg17 fullShare (keepAcc (broadcast S128x256 (Scalar.ofBits .f32 0x00000000#32))))
          -∗ wp frame (wpE (defs₀ (F := F)) Variants.none c none) E K Q))
      ⊢ wp frame (wpE (defs₀ (F := F)) Variants.none c none) E (startPass arg1 arg2 arg3 arg4 arg5 arg9 arg10 arg11 arg12 arg14 arg15 arg16 arg17 harg9 harg10 harg11 harg12 K) Q := by
  unfold startPass
  iintro ⟨H1, H2, H3, H4, H5, H9, H10, H11, ⟨%w, H12⟩, H14, H15, H16, H17, Hk⟩
  iapply (load_whole c arg3 E Q _ _ _ _)
  isplitl [H3]; · iexact H3
  iintro H3
  iapply (store_whole c arg11 E Q _ _ _ _ _ _)
  isplitl [H11]; · iexact H11
  iintro H11
  iapply (loadScales_wp c arg1 harg1 sk _ E Q)
  isplitl [H1]; · iexact H1
  iintro H1
  iapply (load_whole c arg4 E Q _ _ _ _)
  isplitl [H4]; · iexact H4
  iintro H4
  iapply (store_whole c arg9 E Q _ _ _ _ _ _)
  isplitl [H9]; · iexact H9
  iintro H9
  iapply (store_part c arg12 E Q _ _ _ _ _ _ _)
  isplitl [H12]; · iexact H12
  iintro H12
  iapply (loadScales_wp c arg2 harg2 sv _ E Q)
  isplitl [H2]; · iexact H2
  iintro H2
  iapply (load_whole c arg5 E Q _ _ _ _)
  isplitl [H5]; · iexact H5
  iintro H5
  iapply (store_whole c arg10 E Q _ _ _ _ _ _)
  isplitl [H10]; · iexact H10
  iintro H10
  iapply (store_part c arg12 E Q _ _ _ _ _ _ _)
  isplitl [H12]; · iexact H12
  iintro H12
  iapply (load_part c arg12 E Q _ _ _ _)
  isplitl [H12]; · iexact H12
  iintro H12
  rw [VecWindow.window_put_of_disjoint _ _ _ _ _ _ _ (0 : Fin 3) (Or.inl (by decide)), VecWindow.window_put_same]
  iapply (load_whole c arg11 E Q _ _ _ _)
  isplitl [H11]; · iexact H11
  iintro H11
  iapply (store_whole c arg14 E Q _ _ _ _ _ _)
  isplitl [H14]; · iexact H14
  iintro H14
  iapply (store_whole c arg15 E Q _ _ _ _ _ _)
  isplitl [H15]; · iexact H15
  iintro H15
  iapply (store_whole c arg16 E Q _ _ _ _ _ _)
  isplitl [H16]; · iexact H16
  iintro H16
  iapply (store_whole c arg17 E Q _ _ _ _ _ _)
  isplitl [H17]; · iexact H17
  iintro H17
  iapply Hk
  isplitl [H1]; · iexact H1
  isplitl [H2]; · iexact H2
  isplitl [H3]; · iexact H3
  isplitl [H4]; · iexact H4
  isplitl [H5]; · iexact H5
  isplitl [H9]; · iexact H9
  isplitl [H10]; · iexact H10
  isplitl [H11]; · iexact H11
  isplitl [H12]
  · iexists _; isplitr
    swap; · iexact H12
    ipureintro
    exact VecWindow.window_put_same _ _ _ _ _
  isplitl [H14]; · iexact H14
  isplitl [H15]; · iexact H15
  isplitl [H16]; · iexact H16
  iexact H17

end Cert.Kernel.Hand

end
-- ==== Proof.Kernel.State.lean ====
/- What the scratch buffers hold between grid points, as values: the score blocks kept (a fixed table of rows, written
   thirty-two rows a point), the running maximum, the running sum and the accumulator. -/
module

public import proofs.«01_k».proof.Proof.Kernel.Passes

@[expose] public section

set_option maxRecDepth 16384

noncomputable section

namespace Cert.Kernel.Hand

open Idealize.ShloMosaic
open Facts₀ Facts

variable {F : FTy → Type} [FloatOps F]

/-- Score block `(a, b)` of a tile's scores. -/
def blockOf (s : FVec F S128x256 .f32) (a b : Fin 2) : FVec F S8x128 .f32 :=
  match a, b with
  | 0, 0 => score00 s
  | 0, 1 => score01 s
  | 1, 0 => score10 s
  | 1, 1 => score11 s

/-- The place of a score inside its block. -/
def inBlock (y : S512x2x2x8x128.Idx) : S1x1x1x8x128.Idx := fun a => match a with
  | 0 => (0 : Fin 1) | 1 => (0 : Fin 1) | 2 => (0 : Fin 1)
  | 3 => (y 3 : Fin 8) | 4 => (y 4 : Fin 128)

/-- The table of kept scores whose rows are the tiles `S`. -/
def keptOf (S : Fin 512 → FVec F S128x256 .f32) : FVec F S512x2x2x8x128 .f32 :=
  fun y => asSlice (blockOf (S (y 0)) (y 1) (y 2)) (inBlock y)

/-- The table `D` on its first `n` rows, what was there before on the others. -/
def upTo (D : FVec F S512x2x2x8x128 .f32) (n : ℕ) (d : FVec F S512x2x2x8x128 .f32) : FVec F S512x2x2x8x128 .f32 :=
  fun y => if (y 0).val < n then D y else d y

theorem upTo_all (D : FVec F S512x2x2x8x128 .f32) (n : ℕ) (h : 512 ≤ n) (d : FVec F S512x2x2x8x128 .f32) : upTo D n d = D := by
  funext y
  have : (y 0).val < 512 := (y 0).isLt
  exact if_pos (by omega)

/-- Being inside a block's place is having its row and its two small coordinates. -/
theorem inPlace_iff (r a b : ℕ) (y : S512x2x2x8x128.Idx) :
    (∀ k, (![r, a, b, 0, 0] : Fin 5 → ℕ) k ≤ (y k).val ∧ (y k).val < (![r, a, b, 0, 0] : Fin 5 → ℕ) k + S1x1x1x8x128.size k)
      ↔ (y 0).val = r ∧ (y 1).val = a ∧ (y 2).val = b := by
  constructor
  · intro h
    have h0 : r ≤ (y 0).val ∧ (y 0).val < r + 1 := h 0
    have h1 : a ≤ (y 1).val ∧ (y 1).val < a + 1 := h 1
    have h2 : b ≤ (y 2).val ∧ (y 2).val < b + 1 := h 2
    omega
  · rintro ⟨h0, h1, h2⟩ k
    have h3 : (y 3).val < 8 := (y 3).isLt
    have h4 : (y 4).val < 128 := (y 4).isLt
    match k with
    | 0 => show r ≤ (y 0).val ∧ (y 0).val < r + 1; omega
    | 1 => show a ≤ (y 1).val ∧ (y 1).val < a + 1; omega
    | 2 => show b ≤ (y 2).val ∧ (y 2).val < b + 1; omega
    | 3 => show 0 ≤ (y 3).val ∧ (y 3).val < 0 + 8; omega
    | 4 => show 0 ≤ (y 4).val ∧ (y 4).val < 0 + 128; omega

/-- One block put, read at an index: the block's value at its own place, what was there elsewhere. -/
theorem put_block (d : FVec F S512x2x2x8x128 .f32) (r a b : ℕ) (s : FVec F S8x128 .f32) (y : S512x2x2x8x128.Idx) :
    VecWindow.put d ![r, a, b, 0, 0] S1x1x1x8x128.size (asSlice s) y
      = if (y 0).val = r ∧ (y 1).val = a ∧ (y 2).val = b then asSlice s (inBlock y) else d y := by
  by_cases h : (y 0).val = r ∧ (y 1).val = a ∧ (y 2).val = b
  · rw [if_pos h]
    have h' := (inPlace_iff r a b y).mpr h
    refine (dif_pos h').trans (congrArg (asSlice s) (funext fun k => Fin.ext ?_))
    refine (Rect.unitLocal_val _ _ _).trans ?_
    obtain ⟨h0, h1, h2⟩ := h
    match k with
    | 0 => show (y 0).val - r = 0; omega
    | 1 => show (y 1).val - a = 0; omega
    | 2 => show (y 2).val - b = 0; omega
    | 3 => show (y 3).val - 0 = (y 3).val; omega
    | 4 => show (y 4).val - 0 = (y 4).val; omega
  · rw [if_neg h]
    exact dif_neg fun h' => h ((inPlace_iff r a b y).mp h')

theorem zero_or_one (u : Fin 2) : u = 0 ∨ u = 1 := by
  match u with
  | 0 => exact Or.inl rfl
  | 1 => exact Or.inr rfl

/-- A tile's four blocks put over the first `r` rows give the first `r + 1`. -/
theorem putScores_upTo (S : Fin 512 → FVec F S128x256 .f32) (r : Fin 512) (d : FVec F S512x2x2x8x128 .f32) :
    putScores r.val (upTo (keptOf S) r.val d) (S r) = upTo (keptOf S) (r.val + 1) d := by
  funext y
  unfold putScores
  rw [put_block, put_block, put_block, put_block]
  unfold upTo
  by_cases hr : (y 0).val = r.val
  · have e0 : (y 0 : Fin 512) = r := Fin.ext hr
    have hk : keptOf S y = asSlice (blockOf (S r) (y 1) (y 2)) (inBlock y) := by
      unfold keptOf; rw [e0]
    have c1 := zero_or_one (y 1)
    have c2 := zero_or_one (y 2)
    rcases c1 with c1 | c1 <;> rcases c2 with c2 | c2 <;>
      · have v1 := congrArg Fin.val c1
        have v2 := congrArg Fin.val c2
        rw [show blockOf (S r) (y 1) (y 2) = blockOf (S r) _ _ from congrArg₂ (blockOf (S r)) c1 c2] at hk
        rw [if_pos (show (y 0).val < r.val + 1 by omega), hk]
        simp [hr, v1, v2, blockOf]
  · rw [if_neg (fun h => hr h.1), if_neg (fun h => hr h.1), if_neg (fun h => hr h.1), if_neg (fun h => hr h.1)]
    by_cases hl : (y 0).val < r.val
    · rw [if_pos hl, if_pos (by omega)]
    · rw [if_neg hl, if_neg (by omega)]

/-- A run of tiles: the table is filled up to the run's end. -/
theorem putTiles_upTo (S : Fin 512 → FVec F S128x256 .f32) (i : grid0.Coords) (sc : FVec F S16x128 .bf16) (q2 : FVec F S128x256 .bf16)
    (x : Vec F S16384x128 .fp8e4m3) (hi : (i 0).val < 16)
    (hS : ∀ t : Fin 32, S ⟨32 * (i 0).val + t.val, by have := t.isLt; omega⟩ = scoresOf sc q2 x t) (d : FVec F S512x2x2x8x128 .f32) :
    (n t : ℕ) → (h : n + t ≤ 32) →
      putTiles i sc q2 x n t h (upTo (keptOf S) (32 * (i 0).val + t) d) = upTo (keptOf S) (32 * (i 0).val + (t + n)) d
  | 0, t, h => rfl
  | n + 1, t, h => by
    have e := putScores_upTo S ⟨32 * (i 0).val + t, by omega⟩ d
    rw [hS ⟨t, by omega⟩] at e
    unfold putTiles
    rw [e]
    refine (putTiles_upTo S i sc q2 x hi hS d n (t + 1) (by omega)).trans ?_
    congr 1; omega

/-- The block read back from the table. -/
theorem window_keptOf (S : Fin 512 → FVec F S128x256 .f32) (r : Fin 512) (a b : Fin 2)
    (h : ∀ k, (![r.val, a.val, b.val, 0, 0] : Fin 5 → ℕ) k + S1x1x1x8x128.size k ≤ S512x2x2x8x128.size k) :
    VecWindow.window (keptOf S) ![r.val, a.val, b.val, 0, 0] S1x1x1x8x128.size h = asSlice (blockOf (S r) a b) := by
  funext y
  have h0 : (y 0).val < 1 := (y 0).isLt
  have h1 : (y 1).val < 1 := (y 1).isLt
  have h2 : (y 2).val < 1 := (y 2).isLt
  show asSlice (blockOf (S _) _ _) (inBlock _) = _
  have e0 : ((Rect.unit (s := S512x2x2x8x128) ![r.val, a.val, b.val, 0, 0] S1x1x1x8x128.size h).emb y 0 : Fin 512) = r :=
    Fin.ext (by show r.val + 1 * (y 0).val = r.val; omega)
  have e1 : ((Rect.unit (s := S512x2x2x8x128) ![r.val, a.val, b.val, 0, 0] S1x1x1x8x128.size h).emb y 1 : Fin 2) = a :=
    Fin.ext (by show a.val + 1 * (y 1).val = a.val; omega)
  have e2 : ((Rect.unit (s := S512x2x2x8x128) ![r.val, a.val, b.val, 0, 0] S1x1x1x8x128.size h).emb y 2 : Fin 2) = b :=
    Fin.ext (by show b.val + 1 * (y 2).val = b.val; omega)
  rw [e0, e1, e2]
  refine congrArg (asSlice (blockOf (S r) a b)) (funext fun k => Fin.ext ?_)
  match k with
  | 0 => show 0 = (y 0).val; omega
  | 1 => show 0 = (y 1).val; omega
  | 2 => show 0 = (y 2).val; omega
  | 3 => show 0 + 1 * (y 3).val = (y 3).val; omega
  | 4 => show 0 + 1 * (y 4).val = (y 4).val; omega

end Cert.Kernel.Hand

end
-- ==== Proof.Kernel.Data.lean ====
/- The kernel's run at any float interpretation: what every scratch buffer and every window's buffer holds after each
   grid point, the body's obligation at each point, and from it the frame: the run ends, its arguments are unchanged and
   every semaphore is back at zero. -/
module

public import proofs.«01_k».proof.Proof.Kernel.State
public import proofs.«01_k».proof.Proof.Gen.Kernel.Frame
public import Idealize.ShloMosaic.Lib.Pipeline.TableIdle
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents, point by point -/

/-- Grid point `n` (the last one past the end). -/
def pt (n : ℕ) : Fin cfg0.N := ⟨min n 31, by rw [show cfg0.N = 32 from N_0]; omega⟩

theorem lt_N (t : Fin cfg0.N) : t.val < 32 := lt_of_lt_of_eq t.isLt (show cfg0.N = 32 from N_0)

theorem pt_val (t : Fin cfg0.N) : pt t.val = t := Fin.ext (by have := lt_N t; show min t.val 31 = t.val; omega)

/-- The key scales, the value scales, the query, the new key and value rows, and a point's block of key and value codes. -/
abbrev ksBlk (c : Dev nD) (t : Fin cfg0.N) : FVec F S8 .f32 := iblk m c 0 t
abbrev vsBlk (c : Dev nD) (t : Fin cfg0.N) : FVec F S8 .f32 := iblk m c 1 t
abbrev qBlk (c : Dev nD) (t : Fin cfg0.N) : FVec F S64x128 .bf16 := iblk m c 2 t
abbrev knBlk (c : Dev nD) (t : Fin cfg0.N) : FVec F S8x128 .bf16 := iblk m c 3 t
abbrev vnBlk (c : Dev nD) (t : Fin cfg0.N) : FVec F S8x128 .bf16 := iblk m c 4 t
abbrev kBlk (c : Dev nD) (t : Fin cfg0.N) : Vec F S16384x128 .fp8e4m3 := iblk m c 5 t
abbrev vBlk (c : Dev nD) (t : Fin cfg0.N) : Vec F S16384x128 .fp8e4m3 := iblk m c 6 t

/-- The new token's codes. -/
def kCodes (c : Dev nD) : FVec F S8x128 .fp8e4m3 := newCodes (knBlk m c (pt 0)) (rowScaleOf (ksBlk m c (pt 0)))
def vCodes (c : Dev nD) : FVec F S8x128 .fp8e4m3 := newCodes (vnBlk m c (pt 0)) (rowScaleOf (vsBlk m c (pt 0)))
/-- The query rows as the products use them. -/
def qTwo (c : Dev nD) : FVec F S128x256 .bf16 := query2 (qBlk m c (pt 0))
/-- The new token's padded value rows. -/
def vPair (c : Dev nD) : FVec F S1x128x256 .bf16 := newPair (vCodes m c) (rowScaleOf (vsBlk m c (pt 0)))
/-- The new token's scores. -/
def dNew (c : Dev nD) : FVec F S8x128 .f32 :=
  keep8 (newScores (qTwo m c) (newPair (kCodes m c) (rowScaleOf (ksBlk m c (pt 0)))))

/-- The scores of tile `r` of the cache. -/
def scoreRow (c : Dev nD) (r : Fin 512) : FVec F S128x256 .f32 :=
  scoresOf (tileScaleOf (ksBlk m c (pt (r.val / 32)))) (qTwo m c) (kBlk m c (pt (r.val / 32))) ⟨r.val % 32, Nat.mod_lt _ (by decide)⟩

/-- All the scores. -/
def dAll (c : Dev nD) : FVec F S512x2x2x8x128 .f32 := keptOf (scoreRow m c)

/-- The running maximum before point `n` of the score pass. -/
def mxAt (c : Dev nD) : ℕ → FVec F S8x128 .f32
  | 0 => dNew m c
  | n + 1 => keep8 (maxTiles (tileScaleOf (ksBlk m c (pt n))) (qTwo m c) (kBlk m c (pt n)) 32 0 (by omega) (mxAt c n))

/-- The maximum over all keys. -/
def mFin (c : Dev nD) : FVec F S8x128 .f32 := keep8 (headMax (mxAt m c 16))

/-- The weight sum after `k` points of the value pass. -/
def lAt (c : Dev nD) : ℕ → FVec F S8x128 .f32
  | 0 => keep8 (broadcast S8x128 (Scalar.ofBits .f32 0x00000000#32))
  | k + 1 => keep8 (sumTiles (grid0.coords (pt (k + 16))) (mFin m c) (dAll m c) 32 0 (by omega) (lAt c k))

/-- The weighted value sum after `k` points of the value pass. -/
def oAt (c : Dev nD) : ℕ → FVec F S128x256 .f32
  | 0 => keepAcc (broadcast S128x256 (Scalar.ofBits .f32 0x00000000#32))
  | k + 1 => keepAcc (accTiles (grid0.coords (pt (k + 16))) (mFin m c) (dAll m c) (tileScaleOf (vsBlk m c (pt (k + 16)))) (vBlk m c (pt (k + 16))) 32 0 (by omega) (oAt c k))

/-- What the maximum's buffer holds after `n` points. -/
def mxS (c : Dev nD) (n : ℕ) : FVec F S8x128 .f32 := if n ≤ 16 then mxAt m c n else mFin m c

/-- The result of attention. -/
def yOut (c : Dev nD) : FVec F S64x128 .bf16 := finish (dNew m c) (mFin m c) (lAt m c 16) (oAt m c 16) (vPair m c)

/-! ## The conditions of the body's five passes, and the windows written at some points only -/

theorem coord_val (t : Fin cfg0.N) : (grid0.coords t 0).val = t.val := by
  have e0 : (grid0.coords t 0).val = t.val / 1 % 32 := Pipeline.Grid.coords_val t 0 (by decide) rfl
  have := lt_N t
  omega

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val < 16 :=
  (by decide +kernel : ∀ t : Fin grid0.N, k0_cond2 (grid0.coords t) = 1#1 ↔ t.val < 16)
theorem cond3_iff : ∀ t : Fin cfg0.N, maxCond (grid0.coords t) = 1#1 ↔ t.val = 16 :=
  (by decide +kernel : ∀ t : Fin grid0.N, maxCond (grid0.coords t) = 1#1 ↔ t.val = 16)
theorem cond4_iff : ∀ t : Fin cfg0.N, k0_cond4 (grid0.coords t) = 1#1 ↔ 16 ≤ t.val :=
  (by decide +kernel : ∀ t : Fin grid0.N, k0_cond4 (grid0.coords t) = 1#1 ↔ 16 ≤ t.val)
theorem cond5_iff : ∀ t : Fin cfg0.N, k0_cond5 (grid0.coords t) = 1#1 ↔ t.val = 31 :=
  (by decide +kernel : ∀ t : Fin grid0.N, k0_cond5 (grid0.coords t) = 1#1 ↔ t.val = 31)

theorem idle7 (t : Fin cfg0.N) (h : t.val ≠ 31) : cfg0.idle 7 (cfg0.grid.coords t) = true := by
  show (!(k0_cond5 (grid0.coords t) == 1#1)) = true
  rw [Bool.not_eq_true', beq_eq_false_iff_ne]; exact fun e => h ((cond5_iff t).mp e)
theorem live7 (t : Fin cfg0.N) (h : t.val = 31) : cfg0.idle 7 (cfg0.grid.coords t) = false := by
  show (!(k0_cond5 (grid0.coords t) == 1#1)) = false
  rw [(cond5_iff t).mpr h]; rfl
theorem idle8 (t : Fin cfg0.N) (h : t.val ≠ 0) : cfg0.idle 8 (cfg0.grid.coords t) = true := by
  show (!(k0_cond1 (grid0.coords t) == 1#1)) = true
  rw [Bool.not_eq_true', beq_eq_false_iff_ne]; exact fun e => h ((cond1_iff t).mp e)
theorem live8 (t : Fin cfg0.N) (h : t.val = 0) : cfg0.idle 8 (cfg0.grid.coords t) = false := by
  show (!(k0_cond1 (grid0.coords t) == 1#1)) = false
  rw [(cond1_iff t).mpr h]; rfl
theorem idle9 (t : Fin cfg0.N) (h : t.val ≠ 0) : cfg0.idle 9 (cfg0.grid.coords t) = true := idle8 t h
theorem live9 (t : Fin cfg0.N) (h : t.val = 0) : cfg0.idle 9 (cfg0.grid.coords t) = false := live8 t h

theorem flush7 : ∀ t : Fin cfg0.N, (cfg0.win 7).flush t = true ↔ t.val = 31 :=
  (by decide +kernel : ∀ t : Fin grid0.N, (win0 7).flush t = true ↔ t.val = 31)
theorem flush8 : ∀ t : Fin cfg0.N, (cfg0.win 8).flush t = true ↔ t.val = 31 :=
  (by decide +kernel : ∀ t : Fin grid0.N, (win0 8).flush t = true ↔ t.val = 31)
theorem flush9 : ∀ t : Fin cfg0.N, (cfg0.win 9).flush t = true ↔ t.val = 31 :=
  (by decide +kernel : ∀ t : Fin grid0.N, (win0 9).flush t = true ↔ t.val = 31)

/-! ## The invariant and the proof data -/

abbrev scM0 : Memref sig .tc .vmem S128x256 .bf16 := Memref.whole cc0_scratch0
abbrev scM1 : Memref sig .tc .vmem S2x128x256 .bf16 := Memref.whole cc0_scratch1
abbrev scM2 : Memref sig .tc .vmem S512x2x2x8x128 .f32 := Memref.whole cc0_scratch2
abbrev scM3 : Memref sig .tc .vmem S8x128 .f32 := Memref.whole cc0_scratch3
abbrev scM4 : Memref sig .tc .vmem S8x128 .f32 := Memref.whole cc0_scratch4
abbrev scM5 : Memref sig .tc .vmem S8x128 .f32 := Memref.whole cc0_scratch5
abbrev scM6 : Memref sig .tc .vmem S128x256 .f32 := Memref.whole cc0_scratch6

/-- Before the first point the scratch buffers are owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d)) ∗ (∃ r, prngReg c r)) := by
  unfold Pipeline.ΦA; rw [scopedRest0_eq]; simp only [scM0, scM1, scM2, scM3, scM4, scM5, scM6, owns_whole]; try rfl

/-- After `n` points, `n` at least one. -/
def PhiN (c : Dev nD) (n : ℕ) : sProp 𝕄 :=
  iprop(∃ d w, ⌜halfOf w 1 = vPair m c⌝ ∗ owns (c : Thread nD τ) scM0 fullShare (qTwo m c) ∗ owns (c : Thread nD τ) scM1 fullShare w
    ∗ owns (c : Thread nD τ) scM2 fullShare (upTo (dAll m c) (32 * n) d) ∗ owns (c : Thread nD τ) scM3 fullShare (dNew m c)
    ∗ owns (c : Thread nD τ) scM4 fullShare (mxS m c n) ∗ owns (c : Thread nD τ) scM5 fullShare (lAt m c (n - 16))
    ∗ owns (c : Thread nD τ) scM6 fullShare (oAt m c (n - 16)) ∗ (∃ r, prngReg c r))

/-- Before position `n`. -/
def PhiS (c : Dev nD) : (n : ℕ) → n ≤ cfg0.N → sProp 𝕄
  | 0, _ => Pipeline.ΦA spec0 c
  | n + 1, _ => PhiN m c (n + 1)

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) : PhiS m c n h = PhiN m c n := by
  cases n with
  | zero => exact absurd rfl hz
  | succ n => rfl

/-- The proof data: each input's buffer at its block, the result and the new codes in the outputs' buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yOut m c
    | ⟨8, _⟩ => kCodes m c
    | ⟨9, _⟩ => vCodes m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = yOut m c := by dsimp only [dats]
theorem after8 (c : Dev nD) (t : Fin cfg0.N) : (dats m 0 c).after 8 t = kCodes m c := by dsimp only [dats]
theorem after9 (c : Dev nD) (t : Fin cfg0.N) : (dats m 0 c).after 9 t = vCodes m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

theorem fresh8 : ∀ t : Fin cfg0.N, cfg0.fresh 8 t.val = true ↔ t.val = 0 :=
  (by decide +kernel : ∀ t : Fin grid0.N, cfg0.fresh 8 t.val = true ↔ t.val = 0)
theorem fresh9 : ∀ t : Fin cfg0.N, cfg0.fresh 9 t.val = true ↔ t.val = 0 :=
  (by decide +kernel : ∀ t : Fin grid0.N, cfg0.fresh 9 t.val = true ↔ t.val = 0)

/-- The new codes stay in their buffers from the first point on. -/
theorem before8 (c : Dev nD) (t : Fin cfg0.N) (h : t.val ≠ 0) (d) : (dats m 0 c).before 8 t d = kCodes m c := by
  rw [(dats m 0 c).before_out_traj 8 rfl (fun _ _ => rfl) (fun t _ _ _ => (after8 m c t).trans (after8 m c _).symm) _ t rfl d,
    if_neg (fun e => h ((fresh8 t).mp e)), after8]
theorem before9 (c : Dev nD) (t : Fin cfg0.N) (h : t.val ≠ 0) (d) : (dats m 0 c).before 9 t d = vCodes m c := by
  rw [(dats m 0 c).before_out_traj 9 rfl (fun _ _ => rfl) (fun t _ _ _ => (after9 m c t).trans (after9 m c _).symm) _ t rfl d,
    if_neg (fun e => h ((fresh9 t).mp e)), after9]

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)

theorem ne_true {b : Bool} (h : ¬b = true) : b = false := by cases b <;> simp_all

/-- The result's buffer is handed back as found before the last point, -/
theorem leaves7_of (c : Dev nD) (t : Fin cfg0.N) (h : t.val ≠ 31) :
    (iprop(∃ d, owns (c : Thread nD τ) (ms0_7 t) fullShare ((dats m 0 c).before 7 t d)) : sProp 𝕄) ⊢ (dats m 0 c).leavesExact 7 t := by
  rw [Dat.leavesExact_idle (dats m 0 c) 7 t (idle7 t h) (ne_true fun e => h ((flush7 t).mp e))]
  try exact Entails.refl _
/-- and at the last point it holds the result. -/
theorem leaves7_last (c : Dev nD) (t : Fin cfg0.N) (h : t.val = 31) :
    (dats m 0 c).leavesExact 7 t = owns (c : Thread nD τ) (ms0_7 t) fullShare (yOut m c) := by
  unfold Dat.leavesExact; rw [live7 t h, after7]
/-- The buffer of the new codes at the points after the first: they are there. -/
theorem leaves8_of (c : Dev nD) (t : Fin cfg0.N) (h : t.val ≠ 0) :
    (iprop(∃ d, owns (c : Thread nD τ) (ms0_8 t) fullShare ((dats m 0 c).before 8 t d)) : sProp 𝕄) ⊢ (dats m 0 c).leavesExact 8 t := by
  by_cases hf : t.val = 31
  · have e : (dats m 0 c).leavesExact 8 t = owns (c : Thread nD τ) (ms0_8 t) fullShare (kCodes m c) := by
      unfold Dat.leavesExact; rw [idle8 t h, (flush8 t).mpr hf, after8]
    rw [e]
    simp only [before8 m c t h]
    iintro ⟨%d, H⟩
    iexact H
  · rw [Dat.leavesExact_idle (dats m 0 c) 8 t (idle8 t h) (ne_true fun e => hf ((flush8 t).mp e))]
    try exact Entails.refl _
/-- At the first point they are stored. -/
theorem leaves8_first (c : Dev nD) (t : Fin cfg0.N) (h : t.val = 0) :
    (dats m 0 c).leavesExact 8 t = owns (c : Thread nD τ) (ms0_8 t) fullShare (kCodes m c) := by
  unfold Dat.leavesExact; rw [live8 t h, after8]
/-- The buffer of the new codes at the points after the first: they are there. -/
theorem leaves9_of (c : Dev nD) (t : Fin cfg0.N) (h : t.val ≠ 0) :
    (iprop(∃ d, owns (c : Thread nD τ) (ms0_9 t) fullShare ((dats m 0 c).before 9 t d)) : sProp 𝕄) ⊢ (dats m 0 c).leavesExact 9 t := by
  by_cases hf : t.val = 31
  · have e : (dats m 0 c).leavesExact 9 t = owns (c : Thread nD τ) (ms0_9 t) fullShare (vCodes m c) := by
      unfold Dat.leavesExact; rw [idle9 t h, (flush9 t).mpr hf, after9]
    rw [e]
    simp only [before9 m c t h]
    iintro ⟨%d, H⟩
    iexact H
  · rw [Dat.leavesExact_idle (dats m 0 c) 9 t (idle9 t h) (ne_true fun e => hf ((flush9 t).mp e))]
    try exact Entails.refl _
/-- At the first point they are stored. -/
theorem leaves9_first (c : Dev nD) (t : Fin cfg0.N) (h : t.val = 0) :
    (dats m 0 c).leavesExact 9 t = owns (c : Thread nD τ) (ms0_9 t) fullShare (vCodes m c) := by
  unfold Dat.leavesExact; rw [live9 t h, after9]
theorem leaves0 (c : Dev nD) (t : Fin cfg0.N) :
    (dats m 0 c).leavesExact 0 t = owns (c : Thread nD τ) (ms0_0 t) fullShare (iblk m c 0 t) := by
  unfold Dat.leavesExact; rw [show cfg0.idle 0 (cfg0.grid.coords t) = false from rfl, after0]
theorem leaves1 (c : Dev nD) (t : Fin cfg0.N) :
    (dats m 0 c).leavesExact 1 t = owns (c : Thread nD τ) (ms0_1 t) fullShare (iblk m c 1 t) := by
  unfold Dat.leavesExact; rw [show cfg0.idle 1 (cfg0.grid.coords t) = false from rfl, after1]
theorem leaves2 (c : Dev nD) (t : Fin cfg0.N) :
    (dats m 0 c).leavesExact 2 t = owns (c : Thread nD τ) (ms0_2 t) fullShare (iblk m c 2 t) := by
  unfold Dat.leavesExact; rw [show cfg0.idle 2 (cfg0.grid.coords t) = false from rfl, after2]
theorem leaves3 (c : Dev nD) (t : Fin cfg0.N) :
    (dats m 0 c).leavesExact 3 t = owns (c : Thread nD τ) (ms0_3 t) fullShare (iblk m c 3 t) := by
  unfold Dat.leavesExact; rw [show cfg0.idle 3 (cfg0.grid.coords t) = false from rfl, after3]
theorem leaves4 (c : Dev nD) (t : Fin cfg0.N) :
    (dats m 0 c).leavesExact 4 t = owns (c : Thread nD τ) (ms0_4 t) fullShare (iblk m c 4 t) := by
  unfold Dat.leavesExact; rw [show cfg0.idle 4 (cfg0.grid.coords t) = false from rfl, after4]
theorem leaves5 (c : Dev nD) (t : Fin cfg0.N) :
    (dats m 0 c).leavesExact 5 t = owns (c : Thread nD τ) (ms0_5 t) fullShare (iblk m c 5 t) := by
  unfold Dat.leavesExact; rw [show cfg0.idle 5 (cfg0.grid.coords t) = false from rfl, after5]
theorem leaves6 (c : Dev nD) (t : Fin cfg0.N) :
    (dats m 0 c).leavesExact 6 t = owns (c : Thread nD τ) (ms0_6 t) fullShare (iblk m c 6 t) := by
  unfold Dat.leavesExact; rw [show cfg0.idle 6 (cfg0.grid.coords t) = false from rfl, after6]

end Cert.Kernel.Hand

end
-- ==== Proof.Kernel.Run.lean ====
/- The body's obligation at each grid point, case by case of the passes that run there, and from it the whole run. -/
module

public import proofs.«01_k».proof.Proof.Kernel.Data

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point's step of each buffer -/

theorem putRow (c : Dev nD) (t : Fin cfg0.N) (ht : t.val < 16) (d : FVec F S512x2x2x8x128 .f32) :
    putTiles (grid0.coords t) (tileScaleOf (ksBlk m c t)) (qTwo m c) (kBlk m c t) 32 0 (by omega) (upTo (dAll m c) (32 * t.val) d)
      = upTo (dAll m c) (32 * (t.val + 1)) d := by
  have e := coord_val t
  have h := putTiles_upTo (scoreRow m c) (grid0.coords t) (tileScaleOf (ksBlk m c t)) (qTwo m c) (kBlk m c t) (by omega)
    (fun u => by
      unfold scoreRow
      have hu := u.isLt
      have e1 : (32 * (grid0.coords t 0).val + u.val) / 32 = t.val := by omega
      have e2 : (⟨(32 * (grid0.coords t 0).val + u.val) % 32, Nat.mod_lt _ (by decide)⟩ : Fin 32) = u := Fin.ext (by show _ % 32 = _; omega)
      simp only [e1, e2, pt_val]) d 32 0 (by omega)
  rw [e] at h
  exact h

theorem upTo_none (D d : FVec F S512x2x2x8x128 .f32) : upTo D 0 d = d := by
  funext y; exact if_neg (Nat.not_lt_zero _)

theorem mxS_score (c : Dev nD) (t : Fin cfg0.N) (ht : t.val < 16) :
    keep8 (maxTiles (tileScaleOf (ksBlk m c t)) (qTwo m c) (kBlk m c t) 32 0 (by omega) (mxS m c t.val)) = mxS m c (t.val + 1) := by
  unfold mxS
  rw [if_pos (by omega), if_pos (by omega)]
  conv_rhs => unfold mxAt
  rw [pt_val]

theorem mxS_max (c : Dev nD) (t : Fin cfg0.N) (ht : t.val = 16) : keep8 (headMax (mxS m c t.val)) = mxS m c (t.val + 1) := by
  unfold mxS
  rw [if_pos (by omega), if_neg (by omega), ht]; rfl

theorem mxS_last (c : Dev nD) (n : ℕ) (h : 16 < n) : mxS m c n = mFin m c := if_neg (by omega)

theorem lStep (c : Dev nD) (t : Fin cfg0.N) (ht : 16 ≤ t.val) :
    keep8 (sumTiles (grid0.coords t) (mFin m c) (dAll m c) 32 0 (by omega) (lAt m c (t.val - 16))) = lAt m c (t.val + 1 - 16) := by
  rw [show t.val + 1 - 16 = (t.val - 16) + 1 by omega]
  conv_rhs => unfold lAt
  rw [show t.val - 16 + 16 = t.val by omega, pt_val]

theorem oStep (c : Dev nD) (t : Fin cfg0.N) (ht : 16 ≤ t.val) :
    keepAcc (accTiles (grid0.coords t) (mFin m c) (dAll m c) (tileScaleOf (vsBlk m c t)) (vBlk m c t) 32 0 (by omega) (oAt m c (t.val - 16))) = oAt m c (t.val + 1 - 16) := by
  rw [show t.val + 1 - 16 = (t.val - 16) + 1 by omega]
  conv_rhs => unfold oAt
  rw [show t.val - 16 + 16 = t.val by omega, pt_val]

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- The first point: the new token, then the first block of scores. -/
theorem sound_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  rw [body_eq]
  dsimp only [body]
  rw [dif_pos ((cond1_iff t).mpr (by omega)), dif_pos ((cond2_iff t).mpr (by omega)), dif_neg (fun e => absurd ((cond3_iff t).mp e) (by omega)), dif_neg (fun e => absurd ((cond4_iff t).mp e) (by omega)), dif_neg (fun e => absurd ((cond5_iff t).mp e) (by omega))]
  simp only [before0, before1, before2, before3, before4, before5, before6, leaves0, leaves1, leaves2, leaves3, leaves4, leaves5, leaves6]
  rw [show (dats m 0 c).owesAt () t.succ = (dats m 0 c).owesAt () t.castSucc from rfl]
  rw [show (dats m 0 c).Φ t.succ = PhiS m c (t.val + 1) t.isLt from rfl, PhiS_pos m c (t.val + 1) _ (by omega), PhiS_castSucc m c t]
  rw [PhiS_zero m c _ _ h0, PhiA_eq, leaves8_first m c t h0, leaves9_first m c t h0]
  iintro ⟨⟨⟨S0, S1, ⟨%d, S2⟩, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (startPass_wp c _ (Facts₀.hstage0_0 ((cfg0.slots t 0).cast Facts₀.nbuf0_0)) _ (Facts₀.hstage0_1 ((cfg0.slots t 1).cast Facts₀.nbuf0_1)) _ (Facts₀.hstage0_2 ((cfg0.slots t 2).cast Facts₀.nbuf0_2)) _ (Facts₀.hstage0_3 ((cfg0.slots t 3).cast Facts₀.nbuf0_3)) _ (Facts₀.hstage0_4 ((cfg0.slots t 4).cast Facts₀.nbuf0_4)) _ (Facts₀.hstage0_8 ((cfg0.slots t 8).cast Facts₀.nbuf0_8)) _ (Facts₀.hstage0_9 ((cfg0.slots t 9).cast Facts₀.nbuf0_9)) _ (Memref.isWhole_whole _) _ (Memref.isWhole_whole _) _ (Memref.isWhole_whole _) _ (Memref.isWhole_whole _) _ (Memref.isWhole_whole _) _ (Memref.isWhole_whole _) (ksBlk m c t) (vsBlk m c t) (qBlk m c t) (knBlk m c t) (vnBlk m c t) _ _ _)
  isplitl [H0]; · iexact H0
  isplitl [H1]; · iexact H1
  isplitl [H2]; · iexact H2
  isplitl [H3]; · iexact H3
  isplitl [H4]; · iexact H4
  isplitl [H8]; · icases H8 with ⟨%d8, H8⟩; iexists _; iexact H8
  isplitl [H9]; · icases H9 with ⟨%d9, H9⟩; iexists _; iexact H9
  isplitl [S0]; · iexact S0
  isplitl [S1]; · iexact S1
  isplitl [S3]; · iexact S3
  isplitl [S4]; · iexact S4
  isplitl [S5]; · iexact S5
  isplitl [S6]; · iexact S6
  iintro ⟨H0, H1, H2, H3, H4, H8, H9, S0, ⟨%w, %hw, S1⟩, S3, S4, S5, S6⟩
  have et : t = pt 0 := Fin.ext (by rw [h0]; rfl)
  have e8 : newCodes (knBlk m c t) (rowScaleOf (ksBlk m c t)) = kCodes m c := by rw [et]; rfl
  have e9 : newCodes (vnBlk m c t) (rowScaleOf (vsBlk m c t)) = vCodes m c := by rw [et]; rfl
  have eq2 : query2 (qBlk m c t) = qTwo m c := by rw [et]; rfl
  have ed : keep8 (newScores (qTwo m c) (newPair (kCodes m c) (rowScaleOf (ksBlk m c t)))) = dNew m c := by rw [et]; rfl
  have ev : newPair (vCodes m c) (rowScaleOf (vsBlk m c t)) = vPair m c := by rw [et]; rfl
  have em : mxS m c t.val = dNew m c := by rw [h0]; rfl
  have el : lAt m c (t.val + 1 - 16) = keep8 (broadcast S8x128 (Scalar.ofBits .f32 0x00000000#32)) := by rw [h0]; rfl
  have eo : oAt m c (t.val + 1 - 16) = keepAcc (broadcast S128x256 (Scalar.ofBits .f32 0x00000000#32)) := by rw [h0]; rfl
  rw [e9, ev] at hw
  rw [e8, e9, eq2, ed, ← el, ← eo]
  have emx := mxS_score m c t (by omega)
  rw [em] at emx
  iapply (scorePass_wp c _ _ _ (Facts₀.hstage0_0 ((cfg0.slots t 0).cast Facts₀.nbuf0_0)) _ (Facts₀.hstage0_5 ((cfg0.slots t 5).cast Facts₀.nbuf0_5)) _ (Memref.isWhole_whole _) _ (Memref.isWhole_whole _) _ (Memref.isWhole_whole _) (ksBlk m c t) (kBlk m c t) (qTwo m c) d (dNew m c) _ _ _)
  isplitl [H0]; · iexact H0
  isplitl [H5]; · iexact H5
  isplitl [S0]; · iexact S0
  isplitl [S2]; · iexact S2
  isplitl [S4]; · iexact S4
  iintro ⟨H0, H5, S0, S2, S4⟩
  have ep := putRow m c t (by omega) d
  rw [show 32 * t.val = 0 by omega, upTo_none] at ep
  rw [ep, emx]
  rw [wp_pure]
  imodintro
  isplitl [S0 S1 S2 S3 S4 S5 S6 Hg]
  · unfold PhiN
    iexists d, w
    isplitl []; · ipureintro; exact hw
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7_of m c t (by omega)); iexact H7
  isplitl [H8]; · iexact H8
  iexact H9

set_option maxHeartbeats 1600000 in
/-- A later point of the score pass. -/
theorem sound_score (c : Dev nD) (t : Fin cfg0.N) (h0 : t.val ≠ 0) (h16 : t.val < 16) :
    bodyPre m c t ⊢ wp frame (wpE (defs₀ (F := F)) Variants.none c none) Set.univ (bodyAt0 t) (fun _ => bodyPost m c t) := by
  unfold bodyPre bodyPost bodyAt0
  rw [body_eq]
  dsimp only [body]
  rw [dif_neg (fun e => absurd ((cond1_iff t).mp e) (by omega)), dif_pos ((cond2_iff t).mpr (by omega)), dif_neg (fun e => absurd ((cond3_iff t).mp e) (by omega)), dif_neg (fun e => absurd ((cond4_iff t).mp e) (by omega)), dif_neg (fun e => absurd ((cond5_iff t).mp e) (by omega))]
  simp only [before0, before1, before2, before3, before4, before5, before6, leaves0, leaves1, leaves2, leaves3, leaves4, leaves5, leaves6]
  rw [show (dats m 0 c).owesAt () t.succ = (dats m 0 c).owesAt () t.castSucc from rfl]
  rw [show (dats m 0 c).Φ t.succ = PhiS m c (t.val + 1) t.isLt from rfl, PhiS_pos m c (t.val + 1) _ (by omega), PhiS_castSucc m c t]
  rw [PhiS_pos m c _ _ h0]
  unfold PhiN
  iintro ⟨⟨%d, %w, %hw, S0, S1, S2, S3, S4, S5, S6, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (scorePass_wp c _ _ _ (Facts₀.hstage0_0 ((cfg0.slots t 0).cast Facts₀.nbuf0_0)) _ (Facts₀.hstage0_5 ((cfg0.slots t 5).cast Facts₀.nbuf0_5)) _ (Memref.isWhole_whole _) _ (Memref.isWhole_whole _) _ (Memref.isWhole_whole _) (ksBlk m c t) (kBlk m c t) (qTwo m c) _ _ _ _ _)
  isplitl [H0]; · iexact H0
  isplitl [H5]; · iexact H5
  isplitl [S0]; · iexact S0
  isplitl [S2]; · iexact S2
  isplitl [S4]; · iexact S4
  iintro ⟨H0, H5, S0, S2, S4⟩
  rw [putRow m c t h16 d, mxS_score m c t h16, show t.val - 16 = t.val + 1 - 16 by omega]
  rw [wp_pure]
  imodintro
  isplitl [S0 S1 S2 S3 S4 S5 S6 Hg]
  · iexists d, w
    isplitl []; · ipureintro; exact hw
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7_of m c t (by omega)); iexact H7
  isplitl [H8]; · iapply (leaves8_of m c t (by omega)); iexact H8
  iapply (leaves9_of m c t (by omega)); iexact H9

set_option maxHeartbeats 1600000 in
/-- The point between the passes: the maximum is finished, then the first block of values. -/
theorem sound_max (c : Dev nD) (t : Fin cfg0.N) (h16 : t.val = 16) :
    bodyPre m c t ⊢ wp frame (wpE (defs₀ (F := F)) Variants.none c none) Set.univ (bodyAt0 t) (fun _ => bodyPost m c t) := by
  unfold bodyPre bodyPost bodyAt0
  rw [body_eq]
  dsimp only [body]
  rw [dif_neg (fun e => absurd ((cond1_iff t).mp e) (by omega)), dif_neg (fun e => absurd ((cond2_iff t).mp e) (by omega)), dif_pos ((cond3_iff t).mpr (by omega)), dif_pos ((cond4_iff t).mpr (by omega)), dif_neg (fun e => absurd ((cond5_iff t).mp e) (by omega))]
  simp only [before0, before1, before2, before3, before4, before5, before6, leaves0, leaves1, leaves2, leaves3, leaves4, leaves5, leaves6]
  rw [show (dats m 0 c).owesAt () t.succ = (dats m 0 c).owesAt () t.castSucc from rfl]
  rw [show (dats m 0 c).Φ t.succ = PhiS m c (t.val + 1) t.isLt from rfl, PhiS_pos m c (t.val + 1) _ (by omega), PhiS_castSucc m c t]
  rw [PhiS_pos m c _ _ (by omega)]
  unfold PhiN
  iintro ⟨⟨%d, %w, %hw, S0, S1, S2, S3, S4, S5, S6, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (maxPass_wp c _ (Memref.isWhole_whole _) _ _ _ _)
  isplitl [S4]; · iexact S4
  iintro S4
  rw [mxS_max m c t h16, mxS_last m c (t.val + 1) (by omega), upTo_all (dAll m c) (32 * t.val) (by omega)]
  simp only [upTo_all (dAll m c) (32 * (t.val + 1)) (by omega)]
  iapply (valuePass_wp c _ _ _ (Facts₀.hstage0_1 ((cfg0.slots t 1).cast Facts₀.nbuf0_1)) _ (Facts₀.hstage0_6 ((cfg0.slots t 6).cast Facts₀.nbuf0_6)) _ (Memref.isWhole_whole _) _ (Memref.isWhole_whole _) _ (Memref.isWhole_whole _) _ (Memref.isWhole_whole _) (vsBlk m c t) (vBlk m c t) _ _ _ _ _ _ _)
  isplitl [H1]; · iexact H1
  isplitl [H6]; · iexact H6
  isplitl [S2]; · iexact S2
  isplitl [S4]; · iexact S4
  isplitl [S5]; · iexact S5
  isplitl [S6]; · iexact S6
  iintro ⟨H1, H6, S2, S4, S5, S6⟩
  rw [lStep m c t (by omega), oStep m c t (by omega)]
  rw [wp_pure]
  imodintro
  isplitl [S0 S1 S2 S3 S4 S5 S6 Hg]
  · iexists d, w
    isplitl []; · ipureintro; exact hw
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7_of m c t (by omega)); iexact H7
  isplitl [H8]; · iapply (leaves8_of m c t (by omega)); iexact H8
  iapply (leaves9_of m c t (by omega)); iexact H9

set_option maxHeartbeats 1600000 in
/-- A later point of the value pass but the last. -/
theorem sound_value (c : Dev nD) (t : Fin cfg0.N) (h16 : 16 < t.val) (h31 : t.val ≠ 31) :
    bodyPre m c t ⊢ wp frame (wpE (defs₀ (F := F)) Variants.none c none) Set.univ (bodyAt0 t) (fun _ => bodyPost m c t) := by
  unfold bodyPre bodyPost bodyAt0
  rw [body_eq]
  dsimp only [body]
  rw [dif_neg (fun e => absurd ((cond1_iff t).mp e) (by omega)), dif_neg (fun e => absurd ((cond2_iff t).mp e) (by omega)), dif_neg (fun e => absurd ((cond3_iff t).mp e) (by omega)), dif_pos ((cond4_iff t).mpr (by omega)), dif_neg (fun e => absurd ((cond5_iff t).mp e) (by omega))]
  simp only [before0, before1, before2, before3, before4, before5, before6, leaves0, leaves1, leaves2, leaves3, leaves4, leaves5, leaves6]
  rw [show (dats m 0 c).owesAt () t.succ = (dats m 0 c).owesAt () t.castSucc from rfl]
  rw [show (dats m 0 c).Φ t.succ = PhiS m c (t.val + 1) t.isLt from rfl, PhiS_pos m c (t.val + 1) _ (by omega), PhiS_castSucc m c t]
  rw [PhiS_pos m c _ _ (by omega)]
  unfold PhiN
  iintro ⟨⟨%d, %w, %hw, S0, S1, S2, S3, S4, S5, S6, Hg⟩, Ho, ⟨%d0, H0⟩, ⟨%d1, H1⟩, ⟨%d2, H2⟩, ⟨%d3, H3⟩, ⟨%d4, H4⟩, ⟨%d5, H5⟩, ⟨%d6, H6⟩, H7, H8, H9⟩
  rw [mxS_last m c t.val h16, mxS_last m c (t.val + 1) (by omega), upTo_all (dAll m c) (32 * t.val) (by omega)]
  simp only [upTo_all (dAll m c) (32 * (t.val + 1)) (by omega)]
  iapply (valuePass_wp c _ _ _ (Facts₀.hstage0_1 ((cfg0.slots t 1).cast Facts₀.nbuf0_1)) _ (Facts₀.hstage0_6 ((cfg0.slots t 6).cast Facts₀.nbuf0_6)) _ (Memref.isWhole_whole _) _ (Memref.isWhole_whole _) _ (Memref.isWhole_whole _) _ (Memref.isWhole_whole _) (vsBlk m c t) (vBlk m c t) _ _ _ _ _ _ _)
  isplitl [H1]; · iexact H1
  isplitl [H6]; · iexact H6
  isplitl [S2]; · iexact S2
  isplitl [S4]; · iexact S4
  isplitl [S5]; · iexact S5
  isplitl [S6]; · iexact S6
  iintro ⟨H1, H6, S2, S4, S5, S6⟩
  rw [lStep m c t (by omega), oStep m c t (by omega)]
  rw [wp_pure]
  imodintro
  isplitl [S0 S1 S2 S3 S4 S5 S6 Hg]
  · iexists d, w
    isplitl []; · ipureintro; exact hw
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7_of m c t (by omega)); iexact H7
  isplitl [H8]; · iapply (leaves8_of m c t (by omega)); iexact H8
  iapply (leaves9_of m c t (by omega)); iexact H9

set_option maxHeartbeats 1600000 in
/-- The last point: the last block of values, then the division. -/
theorem sound_last (c : Dev nD) (t : Fin cfg0.N) (h31 : t.val = 31) :
    bodyPre m c t ⊢ wp frame (wpE (defs₀ (F := F)) Variants.none c none) Set.univ (bodyAt0 t) (fun _ => bodyPost m c t) := by
  unfold bodyPre bodyPost bodyAt0
  rw [body_eq]
  dsimp only [body]
  rw [dif_neg (fun e => absurd ((cond1_iff t).mp e) (by omega)), dif_neg (fun e => absurd ((cond2_iff t).mp e) (by omega)), dif_neg (fun e => absurd ((cond3_iff t).mp e) (by omega)), dif_pos ((cond4_iff t).mpr (by omega)), dif_pos ((cond5_iff t).mpr (by omega))]
  simp only [before0, before1, before2, before3, before4, before5, before6, leaves0, leaves1, leaves2, leaves3, leaves4, leaves5, leaves6]
  rw [show (dats m 0 c).owesAt () t.succ = (dats m 0 c).owesAt () t.castSucc from rfl]
  rw [show (dats m 0 c).Φ t.succ = PhiS m c (t.val + 1) t.isLt from rfl, PhiS_pos m c (t.val + 1) _ (by omega), PhiS_castSucc m c t]
  rw [PhiS_pos m c _ _ (by omega), leaves7_last m c t h31]
  unfold PhiN
  iintro ⟨⟨%d, %w, %hw, S0, S1, S2, S3, S4, S5, S6, Hg⟩, Ho, ⟨%d0, H0⟩, ⟨%d1, H1⟩, ⟨%d2, H2⟩, ⟨%d3, H3⟩, ⟨%d4, H4⟩, ⟨%d5, H5⟩, ⟨%d6, H6⟩, H7, H8, H9⟩
  rw [mxS_last m c t.val (by omega), mxS_last m c (t.val + 1) (by omega), upTo_all (dAll m c) (32 * t.val) (by omega)]
  simp only [upTo_all (dAll m c) (32 * (t.val + 1)) (by omega)]
  iapply (valuePass_wp c _ _ _ (Facts₀.hstage0_1 ((cfg0.slots t 1).cast Facts₀.nbuf0_1)) _ (Facts₀.hstage0_6 ((cfg0.slots t 6).cast Facts₀.nbuf0_6)) _ (Memref.isWhole_whole _) _ (Memref.isWhole_whole _) _ (Memref.isWhole_whole _) _ (Memref.isWhole_whole _) (vsBlk m c t) (vBlk m c t) _ _ _ _ _ _ _)
  isplitl [H1]; · iexact H1
  isplitl [H6]; · iexact H6
  isplitl [S2]; · iexact S2
  isplitl [S4]; · iexact S4
  isplitl [S5]; · iexact S5
  isplitl [S6]; · iexact S6
  iintro ⟨H1, H6, S2, S4, S5, S6⟩
  rw [lStep m c t (by omega), oStep m c t (by omega)]
  iapply (finishPass_wp c _ (Facts₀.hstage0_7 ((cfg0.slots t 7).cast Facts₀.nbuf0_7)) _ (Memref.isWhole_whole _) _ (Memref.isWhole_whole _) _ (Memref.isWhole_whole _) _ (Memref.isWhole_whole _) _ (Memref.isWhole_whole _) w _ _ _ _ _ _ _)
  isplitl [H7]; · icases H7 with ⟨%d7, H7⟩; iexists _; iexact H7
  isplitl [S1]; · iexact S1
  isplitl [S3]; · iexact S3
  isplitl [S4]; · iexact S4
  isplitl [S5]; · iexact S5
  isplitl [S6]; · iexact S6
  iintro ⟨H7, S1, S3, S4, S5, S6⟩
  have ey : finish (dNew m c) (mFin m c) (lAt m c (t.val + 1 - 16)) (oAt m c (t.val + 1 - 16)) (halfOf w 1) = yOut m c := by
    rw [hw, h31]; rfl
  rw [ey]
  rw [wp_pure]
  imodintro
  isplitl [S0 S1 S2 S3 S4 S5 S6 Hg]
  · iexists d, w
    isplitl []; · ipureintro; exact hw
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8_of m c t (by omega)); iexact H8
  iapply (leaves9_of m c t (by omega)); iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h16 : t.val < 16
  · exact sound_score m c t h0 h16
  by_cases h16' : t.val = 16
  · exact sound_max m c t h16'
  by_cases h31 : t.val = 31
  · exact sound_last m c t h31
  exact sound_value m c t (by omega) h31

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  unfold PhiN
  iintro ⟨%d, %w, %hw, S0, S1, S2, S3, S4, S5, S6, Hg⟩
  isplitl [S0 S1 S2 S3 S4 S5 S6]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  iexact Hg

/-! ## The run and the frame -/

set_option backward.isDefEq.respectTransparency.types false in
set_option maxHeartbeats 800000 in
/-- The run, with every semaphore back at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the run ends, the arguments are unchanged, every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.KernelIdeal.Vals.lean ====
/- The values the kernel body computes between its loads and stores, each step of its arithmetic as one named
   function: the scale of a row, the dequantised tile with its two halves side by side, the score tile with the head of
   a lane selected, the weights of a score tile spread to the rows of the heads, the quantised new row, the last
   division. They are the body's own operations, in the body's order. -/
module

public import proofs.«01_k».proof.Proof.Gen.KernelIdeal

@[expose] public section

set_option synthInstance.maxSize 4096

noncomputable section

namespace Cert.KernelIdeal.Hand

open Idealize.ShloMosaic Idealize.SL.Sem Cert.KernelIdeal
open Facts₀ Facts

variable {F : FTy → Type} [FloatOps F] [Named F]

/-- The remainder of a word by eight as the body computes it (the remainder of the truncating division, corrected by
    eight where its sign differs from the divisor's). -/
def modEight {s : Shape} (x : IVec s 32) (hb : s.Broadcasts s) : IVec s 32 :=
  let d : BitVec 32 := Scalar.select (Scalar.cmpi .eq 8#32 0#32) 1#32 8#32
  let r : IVec s 32 := remsi x (broadcast s d)
  select (andi (xori (cmpi .slt r (broadcast s 0#32)) (broadcastTo s (broadcast s (Scalar.cmpi .slt d 0#32)) hb))
    (cmpi .ne r (broadcast s 0#32))) (addi r (broadcast s d)) r

/-- The head a lane of a score tile belongs to: the lane modulo eight. -/
def laneHead : IVec S8x128 32 := modEight (iota .tc S8x128 32 [1] iota_S8x128_d1_w32) broadcasts_S8x128_S8x128
/-- The head a row of the new token belongs to. -/
def rowHead8 : IVec S8x128 32 := modEight (iota .tc S8x128 32 [0] iota_S8x128_d0_w32) broadcasts_S8x128_S8x128
/-- The head a row of a tile of cache rows belongs to. -/
def rowHead16 : IVec S16x128 32 := modEight (iota .tc S16x128 32 [0] iota_S16x128_d0_w32) broadcasts_S16x128_S16x128
/-- The lane's head once more, over sixteen rows. -/
def laneHead16 : IVec S16x128 32 := modEight (iota .tc S16x128 32 [1] iota_S16x128_d1_w32) broadcasts_S16x128_S16x128

/-- A row over eight, rounded down, as the body computes it. -/
def rowGroup16 : IVec S16x128 32 :=
  let x : IVec S16x128 32 := iota .tc S16x128 32 [0] iota_S16x128_d0_w32
  let q : IVec S16x128 32 := divsi x (broadcast S16x128 8#32)
  let sx : IVec S16x128 32 := subi (extui 32 (cmpi .sgt x (broadcast S16x128 0#32)) natLt_1_32)
    (extui 32 (cmpi .slt x (broadcast S16x128 0#32)) natLt_1_32)
  let sd : BitVec 32 := Scalar.subi (Scalar.extui (Scalar.cmpi .sgt 8#32 0#32)) (Scalar.extui (Scalar.cmpi .slt 8#32 0#32))
  select (andi (cmpi .ne sx (broadcast S16x128 sd)) (cmpi .ne (remsi x (broadcast S16x128 8#32)) (broadcast S16x128 0#32)))
    (subi q (broadcast S16x128 1#32)) q

/-- One where the lane's head is the row's group plus `k`, else zero. -/
def headMask (k : BitVec 32) : FVec F S16x128 .bf16 :=
  truncf .bf16 (select (cmpi .eq laneHead16 (addi rowGroup16 (broadcast S16x128 k)))
    (broadcast S16x128 (Scalar.ofBits .f32 0x3F800000#32)) (broadcast S16x128 (Scalar.ofBits .f32 0x00000000#32))) bitsLt_bf16_f32

/-- The eight head scales laid out along the rows, head `row h` at each place. -/
def rowScale {s : Shape} (h : IVec s 32) (w0 w1 w2 w3 w4 w5 w6 w7 : Elt F .f32) : FVec F s .f32 :=
  select (cmpi .eq h (broadcast s 7#32)) (broadcast s w7)
  (select (cmpi .eq h (broadcast s 6#32)) (broadcast s w6)
  (select (cmpi .eq h (broadcast s 5#32)) (broadcast s w5)
  (select (cmpi .eq h (broadcast s 4#32)) (broadcast s w4)
  (select (cmpi .eq h (broadcast s 3#32)) (broadcast s w3)
  (select (cmpi .eq h (broadcast s 2#32)) (broadcast s w2)
  (select (cmpi .eq h (broadcast s 1#32)) (broadcast s w1)
  (select (cmpi .eq h (broadcast s 0#32)) (broadcast s w0) (broadcast s (Scalar.ofBits .f32 0x00000000#32)))))))))

/-- A tile's scale, in the half-width format. -/
def tileScale (w0 w1 w2 w3 w4 w5 w6 w7 : Elt F .f32) : FVec F S16x128 .bf16 :=
  truncf .bf16 (rowScale rowHead16 w0 w1 w2 w3 w4 w5 w6 w7) bitsLt_bf16_f32

/-- A tile of 512 code rows dequantised, its first 256 rows and its last 256 side by side. -/
def dequantPair (sc : FVec F S16x128 .bf16) (x : Vec F S512x128 .fp8e4m3) : FVec F S256x256 .bf16 :=
  have v99 : FVec F S512x128 .bf16 := shapeCast S512x128 (mulf
      (shapeCast S32x16x128 (extf .bf16 (shapeCast S512x128 x shapeCasts_S512x128_S512x128) bitsLt_fp8e4m3_bf16)
        shapeCasts_S512x128_S32x16x128)
      (broadcastTo S32x16x128 (shapeCast S1x16x128 sc shapeCasts_S16x128_S1x16x128) broadcasts_S1x16x128_S32x16x128))
    shapeCasts_S32x16x128_S512x128
  concatenate S256x256 1 [⟨S256x128, extractStridedSlice S256x128 ![0, 0] v99 slices_S512x128_o0_0_S256x128⟩,
    ⟨S256x128, extractStridedSlice S256x128 ![256, 0] v99 slices_S512x128_o256_0_S256x128⟩] concatenates_S256x128_S256x128_S256x256_d1

/-- The scores of a tile: the query rows of both halves against the dequantised pair. -/
def tileScores (x2 : FVec F S256x256 .bf16) (q2 : Vec F S128x256 .bf16) : FVec F S128x256 .f32 :=
  matmul dot_S128x256_S256x256_S128x256_1_1_0_0_n_n none q2 x2 (constant S128x256 .f32 0x00000000#32)

/-- From 64 query rows (head by head) the eight rows of the lane's head, lane by lane. -/
def selectHeads (x : FVec F S64x128 .f32) : FVec F S8x128 .f32 :=
  select (cmpi .eq laneHead (broadcast S8x128 7#32)) (extractStridedSlice S8x128 ![56, 0] x slices_S64x128_o56_0_S8x128)
  (select (cmpi .eq laneHead (broadcast S8x128 6#32)) (extractStridedSlice S8x128 ![48, 0] x slices_S64x128_o48_0_S8x128)
  (select (cmpi .eq laneHead (broadcast S8x128 5#32)) (extractStridedSlice S8x128 ![40, 0] x slices_S64x128_o40_0_S8x128)
  (select (cmpi .eq laneHead (broadcast S8x128 4#32)) (extractStridedSlice S8x128 ![32, 0] x slices_S64x128_o32_0_S8x128)
  (select (cmpi .eq laneHead (broadcast S8x128 3#32)) (extractStridedSlice S8x128 ![24, 0] x slices_S64x128_o24_0_S8x128)
  (select (cmpi .eq laneHead (broadcast S8x128 2#32)) (extractStridedSlice S8x128 ![16, 0] x slices_S64x128_o16_0_S8x128)
  (select (cmpi .eq laneHead (broadcast S8x128 1#32)) (extractStridedSlice S8x128 ![8, 0] x slices_S64x128_o8_0_S8x128)
    (extractStridedSlice S8x128 ![0, 0] x slices_S64x128_o0_0_S8x128)))))))

/-- The four score blocks of a tile: column half `c`, row half `a`. -/
def score00 (s : FVec F S128x256 .f32) : FVec F S8x128 .f32 :=
  selectHeads (extractStridedSlice S64x128 ![0, 0] s slices_S128x256_o0_0_S64x128)
def score01 (s : FVec F S128x256 .f32) : FVec F S8x128 .f32 :=
  selectHeads (extractStridedSlice S64x128 ![64, 0] s slices_S128x256_o64_0_S64x128)
def score10 (s : FVec F S128x256 .f32) : FVec F S8x128 .f32 :=
  selectHeads (extractStridedSlice S64x128 ![0, 128] s slices_S128x256_o0_128_S64x128)
def score11 (s : FVec F S128x256 .f32) : FVec F S8x128 .f32 :=
  selectHeads (extractStridedSlice S64x128 ![64, 128] s slices_S128x256_o64_128_S64x128)

/-- A score block as it is stored. -/
def asSlice (d : FVec F S8x128 .f32) : FVec F S1x1x1x8x128 .f32 := shapeCast S1x1x1x8x128 d shapeCasts_S8x128_S1x1x1x8x128
/-- A score block as it is loaded back. -/
def ofSlice (d : FVec F S1x1x1x8x128 .f32) : FVec F S8x128 .f32 := shapeCast S8x128 d shapeCasts_S1x1x1x8x128_S8x128

/-- The running maximum after a tile's four score blocks. -/
def tileMax (m : FVec F S8x128 .f32) (s : FVec F S128x256 .f32) : FVec F S8x128 .f32 :=
  maximumf (maximumf (maximumf (maximumf m (score00 s)) (score01 s)) (score10 s)) (score11 s)

/-- The constant the score differences are scaled by. -/
def expScale : F .f32 := Named.named κ "exp2_scale" 0x3E0293EE#32

/-- The weights of a score block under the maximum `m`. -/
def weights (m d : FVec F S8x128 .f32) : FVec F S8x128 .f32 := exp2 (mulf (subf d m) (broadcast S8x128 expScale))

/-- A block of weights spread to the 64 query rows: row of head `h` keeps the lanes of head `h`. -/
def spreadHeads (p : FVec F S8x128 .f32) : FVec F S64x128 .bf16 :=
  have pp : FVec F S16x128 .bf16 := truncf .bf16 (concatenate S16x128 0 [⟨S8x128, p⟩, ⟨S8x128, p⟩] concatenates_S8x128_S8x128_S16x128_d0) bitsLt_bf16_f32
  concatenate S64x128 0 [⟨S16x128, mulf pp (headMask 0#32)⟩, ⟨S16x128, mulf pp (headMask 2#32)⟩, ⟨S16x128, mulf pp (headMask 4#32)⟩,
    ⟨S16x128, mulf pp (headMask 6#32)⟩] concatenates_S16x128_S16x128_S16x128_S16x128_S64x128_d0

/-- The weight sum after a tile's four weight blocks. -/
def tileSum (l p00 p01 p10 p11 : FVec F S8x128 .f32) : FVec F S8x128 .f32 := addf (addf (addf (addf l p00) p01) p10) p11

/-- The four weight blocks of a tile as the left operand of its value product. -/
def tileWeights (p00 p01 p10 p11 : FVec F S8x128 .f32) : FVec F S128x256 .bf16 :=
  concatenate S128x256 1
    [⟨S128x128, concatenate S128x128 0 [⟨S64x128, spreadHeads p00⟩, ⟨S64x128, spreadHeads p01⟩] concatenates_S64x128_S64x128_S128x128_d0⟩,
     ⟨S128x128, concatenate S128x128 0 [⟨S64x128, spreadHeads p10⟩, ⟨S64x128, spreadHeads p11⟩] concatenates_S64x128_S64x128_S128x128_d0⟩]
    concatenates_S128x128_S128x128_S128x256_d1

/-- The weighted value sum after a tile. -/
def tileAcc (o : FVec F S128x256 .f32) (x2 : FVec F S256x256 .bf16) (p00 p01 p10 p11 : FVec F S8x128 .f32) : FVec F S128x256 .f32 :=
  addf o (matmul dot_S128x256_S256x256_S128x256_1_0_0_1_n_n none (tileWeights p00 p01 p10 p11) x2 (constant S128x256 .f32 0x00000000#32))

/-- The query rows twice: in the first 128 columns for the first half of a tile, in the last for the second. -/
def query2 (q : Vec F S64x128 .bf16) : FVec F S128x256 .bf16 :=
  have q' : FVec F S64x128 .bf16 := shapeCast S64x128 q shapeCasts_S64x128_S64x128
  have z : FVec F S64x128 .bf16 := broadcast S64x128 (Scalar.ofBits .bf16 0x0000#16)
  shapeCast S128x256 (concatenate S128x256 0 [⟨S64x256, concatenate S64x256 1 [⟨S64x128, q'⟩, ⟨S64x128, z⟩] concatenates_S64x128_S64x128_S64x256_d1⟩,
    ⟨S64x256, concatenate S64x256 1 [⟨S64x128, z⟩, ⟨S64x128, q'⟩] concatenates_S64x128_S64x128_S64x256_d1⟩] concatenates_S64x256_S64x256_S128x256_d0)
    shapeCasts_S128x256_S128x256

/-- The new token's row, head by head, quantised by the head's scale. -/
def newCodes (x : Vec F S8x128 .bf16) (sc : FVec F S8x128 .f32) : FVec F S8x128 .fp8e4m3 :=
  truncf .fp8e4m3 (minimumf (broadcast S8x128 (Scalar.ofBits .f32 0x43E00000#32))
    (maximumf (broadcast S8x128 (Scalar.ofBits .f32 0xC3E00000#32))
      (divf (extf .f32 (shapeCast S8x128 x shapeCasts_S8x128_S8x128) bitsLt_bf16_f32) sc))) bitsLt_fp8e4m3_f32

/-- The new token dequantised, padded by zero rows to 128 and by zero columns to 256, as it is stored. -/
def newPair (codes : FVec F S8x128 .fp8e4m3) (sc : FVec F S8x128 .f32) : FVec F S1x128x256 .bf16 :=
  shapeCast S1x128x256 (concatenate S128x256 1
    [⟨S128x128, concatenate S128x128 0 [⟨S8x128, mulf (extf .bf16 codes bitsLt_fp8e4m3_bf16) (truncf .bf16 sc bitsLt_bf16_f32)⟩,
        ⟨S120x128, broadcast S120x128 (Scalar.ofBits .bf16 0x0000#16)⟩] concatenates_S8x128_S120x128_S128x128_d0⟩,
     ⟨S128x128, broadcast S128x128 (Scalar.ofBits .bf16 0x0000#16)⟩] concatenates_S128x128_S128x128_S128x256_d1) shapeCasts_S128x256_S1x128x256

/-- The new token's scores: one lane per head, minus infinity past the eighth. -/
def newScores (q2 : Vec F S128x256 .bf16) (k : Vec F S1x128x256 .bf16) : FVec F S8x128 .f32 :=
  select (cmpi .slt (iota .tc S8x128 32 [1] iota_S8x128_d1_w32) (broadcast S8x128 8#32))
    (selectHeads (extractStridedSlice S64x128 ![0, 0] (matmul dot_S128x256_S128x256_S128x128_1_1_0_0_n_n none q2
      (shapeCast S128x256 k shapeCasts_S1x128x256_S128x256) (constant S128x128 .f32 0x00000000#32)) slices_S128x128_o0_0_S64x128))
    (broadcast S8x128 (Scalar.ofBits .f32 0xFF800000#32))

/-- An eight-row block stored whole. -/
def keep8 (x : FVec F S8x128 .f32) : FVec F S8x128 .f32 := shapeCast S8x128 x shapeCasts_S8x128_S8x128
/-- A value accumulator stored whole. -/
def keepAcc (x : FVec F S128x256 .f32) : FVec F S128x256 .f32 := shapeCast S128x256 x shapeCasts_S128x256_S128x256

/-- The maximum over the lanes of the same head, at every lane: four rotations. -/
def headMax (m : FVec F S8x128 .f32) : FVec F S8x128 .f32 :=
  have v34 : FVec F S8x128 .f32 := maximumf m (dynamicRotate 1 8#32 none m rotates_S8x128_d1)
  have v36 : FVec F S8x128 .f32 := maximumf v34 (dynamicRotate 1 16#32 none v34 rotates_S8x128_d1)
  have v38 : FVec F S8x128 .f32 := maximumf v36 (dynamicRotate 1 32#32 none v36 rotates_S8x128_d1)
  maximumf v38 (dynamicRotate 1 64#32 none v38 rotates_S8x128_d1)

/-- The sum of a block over the lanes of head `h`. -/
def headSum (l : FVec F S8x128 .f32) (h : BitVec 32) : FVec F S8x1 .f32 :=
  shapeCast S8x1 (multiReduction .add [1] S8 (select (cmpi .eq laneHead (broadcast S8x128 h)) l
    (broadcast S8x128 (Scalar.ofBits .f32 0x00000000#32))) 0x00000000#32 reduces_S8x128_S8 (.inl rfl) rfl) shapeCasts_S8_S8x1

/-- The weight sums of all the query rows, along the lanes. -/
def headSums (l : FVec F S8x128 .f32) : FVec F S64x128 .f32 :=
  broadcastTo S64x128 (concatenate S64x1 0 [⟨S8x1, headSum l 0#32⟩, ⟨S8x1, headSum l 1#32⟩, ⟨S8x1, headSum l 2#32⟩, ⟨S8x1, headSum l 3#32⟩,
    ⟨S8x1, headSum l 4#32⟩, ⟨S8x1, headSum l 5#32⟩, ⟨S8x1, headSum l 6#32⟩, ⟨S8x1, headSum l 7#32⟩]
    concatenates_S8x1_S8x1_S8x1_S8x1_S8x1_S8x1_S8x1_S8x1_S64x1_d0) broadcasts_S64x1_S64x128

/-- The result: the two halves' value sums and the new token's, over the weight sums. -/
def finish (dn m l : Vec F S8x128 .f32) (o : Vec F S128x256 .f32) (v : Vec F S1x128x256 .bf16) : FVec F S64x128 .bf16 :=
  have p : FVec F S8x128 .f32 := weights m dn
  truncf .bf16 (divf
    (addf (addf (extractStridedSlice S64x128 ![0, 0] o slices_S128x256_o0_0_S64x128) (extractStridedSlice S64x128 ![64, 128] o slices_S128x256_o64_128_S64x128))
      (extractStridedSlice S64x128 ![0, 0] (matmul dot_S64x128_S128x256_S64x256_1_0_0_1_n_n none (spreadHeads p)
        (shapeCast S128x256 v shapeCasts_S1x128x256_S128x256) (constant S64x256 .f32 0x00000000#32)) slices_S64x256_o0_0_S64x128))
    (headSums (addf l p))) bitsLt_bf16_f32

end Cert.KernelIdeal.Hand

end
-- ==== Proof.KernelIdeal.Prog.lean ====
/- The kernel body over again, its thirty-two unrolled tiles folded: one score tile and one value tile at any tile
   number, the two passes as a recursion over the tiles, and the equation of the whole body with the printed one. The
   functions take what follows them as an argument (`K`), so that a pass is its tiles one after the other. -/
module

public import proofs.«01_k».proof.Proof.KernelIdeal.Vals
public import Idealize.ShloMosaic.Lib.Tactic

@[expose] public section

set_option synthInstance.maxSize 4096

noncomputable section

namespace Cert.KernelIdeal.Hand

open Idealize.ShloMosaic Idealize.SL.Sem Cert.KernelIdeal
open Facts₀ Facts

variable {F : FTy → Type} [FloatOps F] [Named F]

/-- A program of the core. -/
abbrev Pr (F : FTy → Type) [FloatOps F] : Type 1 := Prog (TpuEff nD τ sig (Elt F) Λ₀ .tc) PUnit

/-- A tile's rows stay inside the block. -/
theorem tile_inb (t : Fin 32) : ∀ a, (![t.val * 512, 0] : Fin 2 → Nat) a + S512x128.size a ≤ S16384x128.size a := by
  have h := t.isLt
  intro a
  fin_cases a
  · show t.val * 512 + 512 ≤ 16384; omega
  · show 0 + 128 ≤ 128; omega

/-- The eight head scales, read one by one. -/
def loadScales (a : Memref sig .tc .smem S8 .f32)
    (K : (w0 w1 w2 w3 w4 w5 w6 w7 : Elt F .f32) → Pr F) : Pr F :=
  smemLoad a (Rect.unit (s := S8) ![0] S1.size inb_S8_S1_0) numel1_S1 rfl >>= fun w0 =>
  smemLoad a (Rect.unit (s := S8) ![1] S1.size inb_S8_S1_1) numel1_S1 rfl >>= fun w1 =>
  smemLoad a (Rect.unit (s := S8) ![2] S1.size inb_S8_S1_2) numel1_S1 rfl >>= fun w2 =>
  smemLoad a (Rect.unit (s := S8) ![3] S1.size inb_S8_S1_3) numel1_S1 rfl >>= fun w3 =>
  smemLoad a (Rect.unit (s := S8) ![4] S1.size inb_S8_S1_4) numel1_S1 rfl >>= fun w4 =>
  smemLoad a (Rect.unit (s := S8) ![5] S1.size inb_S8_S1_5) numel1_S1 rfl >>= fun w5 =>
  smemLoad a (Rect.unit (s := S8) ![6] S1.size inb_S8_S1_6) numel1_S1 rfl >>= fun w6 =>
  smemLoad a (Rect.unit (s := S8) ![7] S1.size inb_S8_S1_7) numel1_S1 rfl >>= fun w7 =>
  K w0 w1 w2 w3 w4 w5 w6 w7

/-- One score tile: the dequantised pair against the query rows, the four score blocks stored, the maximum updated. -/
def scoreTile (i : grid0.Coords) (h2 : k0_cond2 i = 1#1) (arg6 : Memref sig .tc .vmem S16384x128 .fp8e4m3) (arg11 : Memref sig .tc .vmem S128x256 .bf16) (arg13 : Memref sig .tc .vmem S512x2x2x8x128 .f32)
    (sc : FVec F S16x128 .bf16) (t : Fin 32) (m : FVec F S8x128 .f32) (K : FVec F S8x128 .f32 → Pr F) : Pr F :=
  Prog.lift (.load arg6 (Rect.unit (s := S16384x128) ![t.val * 512, 0] S512x128.size (tile_inb t)).toLoadRect (View.loadsAt_vmem h_S512x128)) >>= fun (x : Vec F S512x128 .fp8e4m3) =>
  Prog.lift (.load arg11 (Rect.unit (s := S128x256) ![0, 0] S128x256.size inb_S128x256_S128x256_0_0).toLoadRect (View.loadsAt_vmem h_S128x256)) >>= fun (q2 : Vec F S128x256 .bf16) =>
  Prog.lift (.load arg13 (Rect.unit (s := S512x2x2x8x128) (k0_off1 i (BitVec.ofNat 32 t.val)) S1x1x1x8x128.size (k0_off1_inb i h2 t)).toLoadRect (View.loadsAt_vmem h_S1x1x1x8x128)) >>= fun (_v : Vec F S1x1x1x8x128 .f32) =>
  Prog.lift (.store arg13 (Rect.unit (s := S512x2x2x8x128) (k0_off1 i (BitVec.ofNat 32 t.val)) S1x1x1x8x128.size (k0_off1_inb i h2 t)) (asSlice (score00 (tileScores (dequantPair sc x) q2))) Finset.univ (View.stores_vmem_bits_univ h_S1x1x1x8x128 rfl) (.inl rfl)) >>= fun _ =>
  Prog.lift (.load arg13 (Rect.unit (s := S512x2x2x8x128) (k0_off2 i (BitVec.ofNat 32 t.val)) S1x1x1x8x128.size (k0_off2_inb i h2 t)).toLoadRect (View.loadsAt_vmem h_S1x1x1x8x128)) >>= fun (_v : Vec F S1x1x1x8x128 .f32) =>
  Prog.lift (.store arg13 (Rect.unit (s := S512x2x2x8x128) (k0_off2 i (BitVec.ofNat 32 t.val)) S1x1x1x8x128.size (k0_off2_inb i h2 t)) (asSlice (score01 (tileScores (dequantPair sc x) q2))) Finset.univ (View.stores_vmem_bits_univ h_S1x1x1x8x128 rfl) (.inl rfl)) >>= fun _ =>
  Prog.lift (.load arg13 (Rect.unit (s := S512x2x2x8x128) (k0_off3 i (BitVec.ofNat 32 t.val)) S1x1x1x8x128.size (k0_off3_inb i h2 t)).toLoadRect (View.loadsAt_vmem h_S1x1x1x8x128)) >>= fun (_v : Vec F S1x1x1x8x128 .f32) =>
  Prog.lift (.store arg13 (Rect.unit (s := S512x2x2x8x128) (k0_off3 i (BitVec.ofNat 32 t.val)) S1x1x1x8x128.size (k0_off3_inb i h2 t)) (asSlice (score10 (tileScores (dequantPair sc x) q2))) Finset.univ (View.stores_vmem_bits_univ h_S1x1x1x8x128 rfl) (.inl rfl)) >>= fun _ =>
  Prog.lift (.load arg13 (Rect.unit (s := S512x2x2x8x128) (k0_off4 i (BitVec.ofNat 32 t.val)) S1x1x1x8x128.size (k0_off4_inb i h2 t)).toLoadRect (View.loadsAt_vmem h_S1x1x1x8x128)) >>= fun (_v : Vec F S1x1x1x8x128 .f32) =>
  Prog.lift (.store arg13 (Rect.unit (s := S512x2x2x8x128) (k0_off4 i (BitVec.ofNat 32 t.val)) S1x1x1x8x128.size (k0_off4_inb i h2 t)) (asSlice (score11 (tileScores (dequantPair sc x) q2))) Finset.univ (View.stores_vmem_bits_univ h_S1x1x1x8x128 rfl) (.inl rfl)) >>= fun _ =>
  K (tileMax m (tileScores (dequantPair sc x) q2))

/-- The score tiles from `t` on, `n` of them. -/
def scoreTiles (i : grid0.Coords) (h2 : k0_cond2 i = 1#1) (arg6 : Memref sig .tc .vmem S16384x128 .fp8e4m3) (arg11 : Memref sig .tc .vmem S128x256 .bf16) (arg13 : Memref sig .tc .vmem S512x2x2x8x128 .f32)
    (sc : FVec F S16x128 .bf16) : (n t : ℕ) → n + t ≤ 32 → FVec F S8x128 .f32 → (FVec F S8x128 .f32 → Pr F) → Pr F
  | 0, _, _, m, K => K m
  | n + 1, t, h, m, K => scoreTile i h2 arg6 arg11 arg13 sc ⟨t, by omega⟩ m fun m' =>
      scoreTiles i h2 arg6 arg11 arg13 sc n (t + 1) (by omega) m' K

/-- The score pass over a block. -/
def scorePass (i : grid0.Coords) (h2 : k0_cond2 i = 1#1) (arg1 : Memref sig .tc .smem S8 .f32) (arg6 : Memref sig .tc .vmem S16384x128 .fp8e4m3) (arg11 : Memref sig .tc .vmem S128x256 .bf16) (arg13 : Memref sig .tc .vmem S512x2x2x8x128 .f32) (arg15 : Memref sig .tc .vmem S8x128 .f32) (K : Pr F) : Pr F :=
  loadScales arg1 fun w0 w1 w2 w3 w4 w5 w6 w7 =>
  Prog.lift (.load arg15 (Rect.unit (s := S8x128) ![0, 0] S8x128.size inb_S8x128_S8x128_0_0).toLoadRect (View.loadsAt_vmem h_S8x128)) >>= fun (m : Vec F S8x128 .f32) =>
  scoreTiles i h2 arg6 arg11 arg13 (tileScale w0 w1 w2 w3 w4 w5 w6 w7) 32 0 (by omega) m fun m' =>
  Prog.lift (.load arg15 (Rect.unit (s := S8x128) ![0, 0] S8x128.size inb_S8x128_S8x128_0_0).toLoadRect (View.loadsAt_vmem h_S8x128)) >>= fun (_v : Vec F S8x128 .f32) =>
  Prog.lift (.store arg15 (Rect.unit (s := S8x128) ![0, 0] S8x128.size inb_S8x128_S8x128_0_0) (keep8 m') Finset.univ (View.stores_vmem_bits_univ h_S8x128 rfl) (.inl rfl)) >>= fun _ =>
  K

/-- One value tile: the weights of the four score blocks against the maximum, their sum, their product with the
    dequantised pair. -/
def valueTile (i : grid0.Coords) (h4 : k0_cond4 i = 1#1) (arg7 : Memref sig .tc .vmem S16384x128 .fp8e4m3) (arg13 : Memref sig .tc .vmem S512x2x2x8x128 .f32)
    (sc : FVec F S16x128 .bf16) (m : FVec F S8x128 .f32) (t : Fin 32) (l : FVec F S8x128 .f32) (o : FVec F S128x256 .f32)
    (K : FVec F S8x128 .f32 → FVec F S128x256 .f32 → Pr F) : Pr F :=
  Prog.lift (.load arg7 (Rect.unit (s := S16384x128) ![t.val * 512, 0] S512x128.size (tile_inb t)).toLoadRect (View.loadsAt_vmem h_S512x128)) >>= fun (x : Vec F S512x128 .fp8e4m3) =>
  Prog.lift (.load arg13 (Rect.unit (s := S512x2x2x8x128) (k0_off5 i (BitVec.ofNat 32 t.val)) S1x1x1x8x128.size (k0_off5_inb i h4 t)).toLoadRect (View.loadsAt_vmem h_S1x1x1x8x128)) >>= fun (d00 : Vec F S1x1x1x8x128 .f32) =>
  Prog.lift (.load arg13 (Rect.unit (s := S512x2x2x8x128) (k0_off6 i (BitVec.ofNat 32 t.val)) S1x1x1x8x128.size (k0_off6_inb i h4 t)).toLoadRect (View.loadsAt_vmem h_S1x1x1x8x128)) >>= fun (d01 : Vec F S1x1x1x8x128 .f32) =>
  Prog.lift (.load arg13 (Rect.unit (s := S512x2x2x8x128) (k0_off7 i (BitVec.ofNat 32 t.val)) S1x1x1x8x128.size (k0_off7_inb i h4 t)).toLoadRect (View.loadsAt_vmem h_S1x1x1x8x128)) >>= fun (d10 : Vec F S1x1x1x8x128 .f32) =>
  Prog.lift (.load arg13 (Rect.unit (s := S512x2x2x8x128) (k0_off8 i (BitVec.ofNat 32 t.val)) S1x1x1x8x128.size (k0_off8_inb i h4 t)).toLoadRect (View.loadsAt_vmem h_S1x1x1x8x128)) >>= fun (d11 : Vec F S1x1x1x8x128 .f32) =>
  K (tileSum l (weights m (ofSlice d00)) (weights m (ofSlice d01)) (weights m (ofSlice d10)) (weights m (ofSlice d11)))
    (tileAcc o (dequantPair sc x) (weights m (ofSlice d00)) (weights m (ofSlice d01)) (weights m (ofSlice d10)) (weights m (ofSlice d11)))

/-- The value tiles from `t` on, `n` of them. -/
def valueTiles (i : grid0.Coords) (h4 : k0_cond4 i = 1#1) (arg7 : Memref sig .tc .vmem S16384x128 .fp8e4m3) (arg13 : Memref sig .tc .vmem S512x2x2x8x128 .f32)
    (sc : FVec F S16x128 .bf16) (m : FVec F S8x128 .f32) : (n t : ℕ) → n + t ≤ 32 → FVec F S8x128 .f32 → FVec F S128x256 .f32 →
      (FVec F S8x128 .f32 → FVec F S128x256 .f32 → Pr F) → Pr F
  | 0, _, _, l, o, K => K l o
  | n + 1, t, h, l, o, K => valueTile i h4 arg7 arg13 sc m ⟨t, by omega⟩ l o fun l' o' =>
      valueTiles i h4 arg7 arg13 sc m n (t + 1) (by omega) l' o' K

/-- The value pass over a block. -/
def valuePass (i : grid0.Coords) (h4 : k0_cond4 i = 1#1) (arg2 : Memref sig .tc .smem S8 .f32) (arg7 : Memref sig .tc .vmem S16384x128 .fp8e4m3) (arg13 : Memref sig .tc .vmem S512x2x2x8x128 .f32) (arg15 : Memref sig .tc .vmem S8x128 .f32) (arg16 : Memref sig .tc .vmem S8x128 .f32) (arg17 : Memref sig .tc .vmem S128x256 .f32) (K : Pr F) : Pr F :=
  loadScales arg2 fun w0 w1 w2 w3 w4 w5 w6 w7 =>
  Prog.lift (.load arg15 (Rect.unit (s := S8x128) ![0, 0] S8x128.size inb_S8x128_S8x128_0_0).toLoadRect (View.loadsAt_vmem h_S8x128)) >>= fun (m : Vec F S8x128 .f32) =>
  Prog.lift (.load arg16 (Rect.unit (s := S8x128) ![0, 0] S8x128.size inb_S8x128_S8x128_0_0).toLoadRect (View.loadsAt_vmem h_S8x128)) >>= fun (l : Vec F S8x128 .f32) =>
  Prog.lift (.load arg17 (Rect.unit (s := S128x256) ![0, 0] S128x256.size inb_S128x256_S128x256_0_0).toLoadRect (View.loadsAt_vmem h_S128x256)) >>= fun (o : Vec F S128x256 .f32) =>
  valueTiles i h4 arg7 arg13 (tileScale w0 w1 w2 w3 w4 w5 w6 w7) m 32 0 (by omega) l o fun l' o' =>
  Prog.lift (.load arg16 (Rect.unit (s := S8x128) ![0, 0] S8x128.size inb_S8x128_S8x128_0_0).toLoadRect (View.loadsAt_vmem h_S8x128)) >>= fun (_v : Vec F S8x128 .f32) =>
  Prog.lift (.store arg16 (Rect.unit (s := S8x128) ![0, 0] S8x128.size inb_S8x128_S8x128_0_0) (keep8 l') Finset.univ (View.stores_vmem_bits_univ h_S8x128 rfl) (.inl rfl)) >>= fun _ =>
  Prog.lift (.load arg17 (Rect.unit (s := S128x256) ![0, 0] S128x256.size inb_S128x256_S128x256_0_0).toLoadRect (View.loadsAt_vmem h_S128x256)) >>= fun (_v : Vec F S128x256 .f32) =>
  Prog.lift (.store arg17 (Rect.unit (s := S128x256) ![0, 0] S128x256.size inb_S128x256_S128x256_0_0) (keepAcc o') Finset.univ (View.stores_vmem_bits_univ h_S128x256 rfl) (.inl rfl)) >>= fun _ =>
  K

/-- The first point: the query rows doubled, the new token quantised, its scores, the accumulators at their start. -/
def startPass (arg1 : Memref sig .tc .smem S8 .f32) (arg2 : Memref sig .tc .smem S8 .f32) (arg3 : Memref sig .tc .vmem S64x128 .bf16) (arg4 : Memref sig .tc .vmem S8x128 .bf16) (arg5 : Memref sig .tc .vmem S8x128 .bf16) (arg9 : Memref sig .tc .vmem S8x128 .fp8e4m3) (arg10 : Memref sig .tc .vmem S8x128 .fp8e4m3) (arg11 : Memref sig .tc .vmem S128x256 .bf16) (arg12 : Memref sig .tc .vmem S2x128x256 .bf16) (arg14 : Memref sig .tc .vmem S8x128 .f32) (arg15 : Memref sig .tc .vmem S8x128 .f32) (arg16 : Memref sig .tc .vmem S8x128 .f32) (arg17 : Memref sig .tc .vmem S128x256 .f32) (harg9 : arg9.IsWhole) (harg10 : arg10.IsWhole) (harg11 : arg11.IsWhole) (harg12 : arg12.IsWhole) (K : Pr F) : Pr F :=
  Prog.lift (.load arg3 (Rect.unit (s := S64x128) ![0, 0] S64x128.size inb_S64x128_S64x128_0_0).toLoadRect (View.loadsAt_vmem h_S64x128)) >>= fun (q : Vec F S64x128 .bf16) =>
  Prog.lift (.load arg11 (Rect.unit (s := S128x256) ![0, 0] S128x256.size inb_S128x256_S128x256_0_0).toLoadRect (View.loadsAt_vmem h_S128x256)) >>= fun (_v : Vec F S128x256 .bf16) =>
  Prog.lift (.store arg11 (Rect.unit (s := S128x256) ![0, 0] S128x256.size inb_S128x256_S128x256_0_0) (query2 q) Finset.univ (View.stores_vmem h_S128x256 (harg11.storeExact_slice rfl _ packedbf16_S128x256_S128x256_0_0) (fun _ => rfl)) (.inl rfl)) >>= fun _ =>
  loadScales arg1 fun w0 w1 w2 w3 w4 w5 w6 w7 =>
  Prog.lift (.load arg4 (Rect.unit (s := S8x128) ![0, 0] S8x128.size inb_S8x128_S8x128_0_0).toLoadRect (View.loadsAt_vmem h_S8x128)) >>= fun (x : Vec F S8x128 .bf16) =>
  Prog.lift (.load arg9 (Rect.unit (s := S8x128) ![0, 0] S8x128.size inb_S8x128_S8x128_0_0).toLoadRect (View.loadsAt_vmem h_S8x128)) >>= fun (_v : Vec F S8x128 .fp8e4m3) =>
  Prog.lift (.store arg9 (Rect.unit (s := S8x128) ![0, 0] S8x128.size inb_S8x128_S8x128_0_0) (newCodes x (rowScale rowHead8 w0 w1 w2 w3 w4 w5 w6 w7)) Finset.univ (View.stores_vmem h_S8x128 (harg9.storeExact_slice rfl _ packedfp8e4m3_S8x128_S8x128_0_0) (fun _ => rfl)) (.inl rfl)) >>= fun _ =>
  Prog.lift (.load arg12 (Rect.unit (s := S2x128x256) ![0, 0, 0] S1x128x256.size inb_S2x128x256_S1x128x256_0_0_0).toLoadRect (View.loadsAt_vmem h_S1x128x256)) >>= fun (_v : Vec F S1x128x256 .bf16) =>
  Prog.lift (.store arg12 (Rect.unit (s := S2x128x256) ![0, 0, 0] S1x128x256.size inb_S2x128x256_S1x128x256_0_0_0) (newPair (newCodes x (rowScale rowHead8 w0 w1 w2 w3 w4 w5 w6 w7)) (rowScale rowHead8 w0 w1 w2 w3 w4 w5 w6 w7)) Finset.univ (View.stores_vmem h_S1x128x256 (harg12.storeExact_slice rfl _ packedbf16_S2x128x256_S1x128x256_0_0_0) (fun _ => rfl)) (.inl rfl)) >>= fun _ =>
  loadScales arg2 fun w0 w1 w2 w3 w4 w5 w6 w7 =>
  Prog.lift (.load arg5 (Rect.unit (s := S8x128) ![0, 0] S8x128.size inb_S8x128_S8x128_0_0).toLoadRect (View.loadsAt_vmem h_S8x128)) >>= fun (x : Vec F S8x128 .bf16) =>
  Prog.lift (.load arg10 (Rect.unit (s := S8x128) ![0, 0] S8x128.size inb_S8x128_S8x128_0_0).toLoadRect (View.loadsAt_vmem h_S8x128)) >>= fun (_v : Vec F S8x128 .fp8e4m3) =>
  Prog.lift (.store arg10 (Rect.unit (s := S8x128) ![0, 0] S8x128.size inb_S8x128_S8x128_0_0) (newCodes x (rowScale rowHead8 w0 w1 w2 w3 w4 w5 w6 w7)) Finset.univ (View.stores_vmem h_S8x128 (harg10.storeExact_slice rfl _ packedfp8e4m3_S8x128_S8x128_0_0) (fun _ => rfl)) (.inl rfl)) >>= fun _ =>
  Prog.lift (.load arg12 (Rect.unit (s := S2x128x256) ![1, 0, 0] S1x128x256.size inb_S2x128x256_S1x128x256_1_0_0).toLoadRect (View.loadsAt_vmem h_S1x128x256)) >>= fun (_v : Vec F S1x128x256 .bf16) =>
  Prog.lift (.store arg12 (Rect.unit (s := S2x128x256) ![1, 0, 0] S1x128x256.size inb_S2x128x256_S1x128x256_1_0_0) (newPair (newCodes x (rowScale rowHead8 w0 w1 w2 w3 w4 w5 w6 w7)) (rowScale rowHead8 w0 w1 w2 w3 w4 w5 w6 w7)) Finset.univ (View.stores_vmem h_S1x128x256 (harg12.storeExact_slice rfl _ packedbf16_S2x128x256_S1x128x256_1_0_0) (fun _ => rfl)) (.inl rfl)) >>= fun _ =>
  Prog.lift (.load arg12 (Rect.unit (s := S2x128x256) ![0, 0, 0] S1x128x256.size inb_S2x128x256_S1x128x256_0_0_0).toLoadRect (View.loadsAt_vmem h_S1x128x256)) >>= fun (k : Vec F S1x128x256 .bf16) =>
  Prog.lift (.load arg11 (Rect.unit (s := S128x256) ![0, 0] S128x256.size inb_S128x256_S128x256_0_0).toLoadRect (View.loadsAt_vmem h_S128x256)) >>= fun (q2 : Vec F S128x256 .bf16) =>
  Prog.lift (.load arg14 (Rect.unit (s := S8x128) ![0, 0] S8x128.size inb_S8x128_S8x128_0_0).toLoadRect (View.loadsAt_vmem h_S8x128)) >>= fun (_v : Vec F S8x128 .f32) =>
  Prog.lift (.store arg14 (Rect.unit (s := S8x128) ![0, 0] S8x128.size inb_S8x128_S8x128_0_0) (keep8 (newScores q2 k)) Finset.univ (View.stores_vmem_bits_univ h_S8x128 rfl) (.inl rfl)) >>= fun _ =>
  Prog.lift (.load arg15 (Rect.unit (s := S8x128) ![0, 0] S8x128.size inb_S8x128_S8x128_0_0).toLoadRect (View.loadsAt_vmem h_S8x128)) >>= fun (_v : Vec F S8x128 .f32) =>
  Prog.lift (.store arg15 (Rect.unit (s := S8x128) ![0, 0] S8x128.size inb_S8x128_S8x128_0_0) (keep8 (newScores q2 k)) Finset.univ (View.stores_vmem_bits_univ h_S8x128 rfl) (.inl rfl)) >>= fun _ =>
  Prog.lift (.load arg16 (Rect.unit (s := S8x128) ![0, 0] S8x128.size inb_S8x128_S8x128_0_0).toLoadRect (View.loadsAt_vmem h_S8x128)) >>= fun (_v : Vec F S8x128 .f32) =>
  Prog.lift (.store arg16 (Rect.unit (s := S8x128) ![0, 0] S8x128.size inb_S8x128_S8x128_0_0) (keep8 (broadcast S8x128 (Scalar.ofBits .f32 0x00000000#32))) Finset.univ (View.stores_vmem_bits_univ h_S8x128 rfl) (.inl rfl)) >>= fun _ =>
  Prog.lift (.load arg17 (Rect.unit (s := S128x256) ![0, 0] S128x256.size inb_S128x256_S128x256_0_0).toLoadRect (View.loadsAt_vmem h_S128x256)) >>= fun (_v : Vec F S128x256 .f32) =>
  Prog.lift (.store arg17 (Rect.unit (s := S128x256) ![0, 0] S128x256.size inb_S128x256_S128x256_0_0) (keepAcc (broadcast S128x256 (Scalar.ofBits .f32 0x00000000#32))) Finset.univ (View.stores_vmem_bits_univ h_S128x256 rfl) (.inl rfl)) >>= fun _ =>
  K

/-- Between the passes: the maximum over the lanes of a head. -/
def maxPass (arg15 : Memref sig .tc .vmem S8x128 .f32) (K : Pr F) : Pr F :=
  Prog.lift (.load arg15 (Rect.unit (s := S8x128) ![0, 0] S8x128.size inb_S8x128_S8x128_0_0).toLoadRect (View.loadsAt_vmem h_S8x128)) >>= fun (m : Vec F S8x128 .f32) =>
  Prog.lift (.load arg15 (Rect.unit (s := S8x128) ![0, 0] S8x128.size inb_S8x128_S8x128_0_0).toLoadRect (View.loadsAt_vmem h_S8x128)) >>= fun (_v : Vec F S8x128 .f32) =>
  Prog.lift (.store arg15 (Rect.unit (s := S8x128) ![0, 0] S8x128.size inb_S8x128_S8x128_0_0) (keep8 (headMax m)) Finset.univ (View.stores_vmem_bits_univ h_S8x128 rfl) (.inl rfl)) >>= fun _ =>
  K

/-- The last point: the result. -/
def finishPass (arg8 : Memref sig .tc .vmem S64x128 .bf16) (arg12 : Memref sig .tc .vmem S2x128x256 .bf16) (arg14 : Memref sig .tc .vmem S8x128 .f32) (arg15 : Memref sig .tc .vmem S8x128 .f32) (arg16 : Memref sig .tc .vmem S8x128 .f32) (arg17 : Memref sig .tc .vmem S128x256 .f32) (harg8 : arg8.IsWhole) (K : Pr F) : Pr F :=
  Prog.lift (.load arg14 (Rect.unit (s := S8x128) ![0, 0] S8x128.size inb_S8x128_S8x128_0_0).toLoadRect (View.loadsAt_vmem h_S8x128)) >>= fun (dn : Vec F S8x128 .f32) =>
  Prog.lift (.load arg15 (Rect.unit (s := S8x128) ![0, 0] S8x128.size inb_S8x128_S8x128_0_0).toLoadRect (View.loadsAt_vmem h_S8x128)) >>= fun (m : Vec F S8x128 .f32) =>
  Prog.lift (.load arg16 (Rect.unit (s := S8x128) ![0, 0] S8x128.size inb_S8x128_S8x128_0_0).toLoadRect (View.loadsAt_vmem h_S8x128)) >>= fun (l : Vec F S8x128 .f32) =>
  Prog.lift (.load arg17 (Rect.unit (s := S128x256) ![0, 0] S128x256.size inb_S128x256_S128x256_0_0).toLoadRect (View.loadsAt_vmem h_S128x256)) >>= fun (o : Vec F S128x256 .f32) =>
  Prog.lift (.load arg12 (Rect.unit (s := S2x128x256) ![1, 0, 0] S1x128x256.size inb_S2x128x256_S1x128x256_1_0_0).toLoadRect (View.loadsAt_vmem h_S1x128x256)) >>= fun (v : Vec F S1x128x256 .bf16) =>
  Prog.lift (.load arg8 (Rect.unit (s := S64x128) ![0, 0] S64x128.size inb_S64x128_S64x128_0_0).toLoadRect (View.loadsAt_vmem h_S64x128)) >>= fun (_v : Vec F S64x128 .bf16) =>
  Prog.lift (.store arg8 (Rect.unit (s := S64x128) ![0, 0] S64x128.size inb_S64x128_S64x128_0_0) (finish dn m l o v) Finset.univ (View.stores_vmem h_S64x128 (harg8.storeExact_slice rfl _ packedbf16_S64x128_S64x128_0_0) (fun _ => rfl)) (.inl rfl)) >>= fun _ =>
  K

/-- The condition of the pass between the two, as the body computes it. -/
def maxCond (i : grid0.Coords) : BitVec 1 := Scalar.cmpi .ne (Scalar.extui (Scalar.cmpi .eq (BitVec.ofNat 32 (i 0).val) 16#32)) 0#32

/-- The whole body: the five passes, each when its condition holds. -/
def body (i : grid0.Coords) (arg1 : Memref sig .tc .smem S8 .f32) (harg1 : arg1.IsWhole) (arg2 : Memref sig .tc .smem S8 .f32) (harg2 : arg2.IsWhole) (arg3 : Memref sig .tc .vmem S64x128 .bf16) (harg3 : arg3.IsWhole) (arg4 : Memref sig .tc .vmem S8x128 .bf16) (harg4 : arg4.IsWhole) (arg5 : Memref sig .tc .vmem S8x128 .bf16) (harg5 : arg5.IsWhole) (arg6 : Memref sig .tc .vmem S16384x128 .fp8e4m3) (harg6 : arg6.IsWhole) (arg7 : Memref sig .tc .vmem S16384x128 .fp8e4m3) (harg7 : arg7.IsWhole) (arg8 : Memref sig .tc .vmem S64x128 .bf16) (harg8 : arg8.IsWhole) (arg9 : Memref sig .tc .vmem S8x128 .fp8e4m3) (harg9 : arg9.IsWhole) (arg10 : Memref sig .tc .vmem S8x128 .fp8e4m3) (harg10 : arg10.IsWhole) (arg11 : Memref sig .tc .vmem S128x256 .bf16) (harg11 : arg11.IsWhole) (arg12 : Memref sig .tc .vmem S2x128x256 .bf16) (harg12 : arg12.IsWhole) (arg13 : Memref sig .tc .vmem S512x2x2x8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S128x256 .f32) (harg17 : arg17.IsWhole) : Pr F :=
  have pass5 : Pr F := if h5 : k0_cond5 i = 1#1 then finishPass arg8 arg12 arg14 arg15 arg16 arg17 harg8 (pure ⟨⟩) else pure ⟨⟩
  have pass4 : Pr F := if h4 : k0_cond4 i = 1#1 then valuePass i h4 arg2 arg7 arg13 arg15 arg16 arg17 pass5 else pass5
  have pass3 : Pr F := if h3 : maxCond i = 1#1 then maxPass arg15 pass4 else pass4
  have pass2 : Pr F := if h2 : k0_cond2 i = 1#1 then scorePass i h2 arg1 arg6 arg11 arg13 arg15 pass3 else pass3
  if h1 : k0_cond1 i = 1#1 then
    startPass arg1 arg2 arg3 arg4 arg5 arg9 arg10 arg11 arg12 arg14 arg15 arg16 arg17 harg9 harg10 harg11 harg12 pass2
  else pass2

/-- The printed body is this one: the same loads, stores and arithmetic, its windows of statements unfolded. -/
theorem body_eq (i : grid0.Coords) (arg1 : Memref sig .tc .smem S8 .f32) (harg1 : arg1.IsWhole) (arg2 : Memref sig .tc .smem S8 .f32) (harg2 : arg2.IsWhole) (arg3 : Memref sig .tc .vmem S64x128 .bf16) (harg3 : arg3.IsWhole) (arg4 : Memref sig .tc .vmem S8x128 .bf16) (harg4 : arg4.IsWhole) (arg5 : Memref sig .tc .vmem S8x128 .bf16) (harg5 : arg5.IsWhole) (arg6 : Memref sig .tc .vmem S16384x128 .fp8e4m3) (harg6 : arg6.IsWhole) (arg7 : Memref sig .tc .vmem S16384x128 .fp8e4m3) (harg7 : arg7.IsWhole) (arg8 : Memref sig .tc .vmem S64x128 .bf16) (harg8 : arg8.IsWhole) (arg9 : Memref sig .tc .vmem S8x128 .fp8e4m3) (harg9 : arg9.IsWhole) (arg10 : Memref sig .tc .vmem S8x128 .fp8e4m3) (harg10 : arg10.IsWhole) (arg11 : Memref sig .tc .vmem S128x256 .bf16) (harg11 : arg11.IsWhole) (arg12 : Memref sig .tc .vmem S2x128x256 .bf16) (harg12 : arg12.IsWhole) (arg13 : Memref sig .tc .vmem S512x2x2x8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S128x256 .f32) (harg17 : arg17.IsWhole) :
    cc0__attn_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  sl_kernel_rfl

end Cert.KernelIdeal.Hand

end
-- ==== Proof.KernelIdeal.Tiles.lean ====
/- What one tile of either pass does to the memory, at any tile number: the score tile writes its four score blocks and
   updates the maximum, the value tile reads them back and updates the sum and the accumulator. The passes follow by
   induction over the tiles. -/
module

public import proofs.«01_k».proof.Proof.KernelIdeal.Prog
public import proofs.«01_k».proof.Proof.Gen.KernelIdeal.Points
public import proofs.«01_k».proof.Proof.Gen.KernelIdeal.Skeleton
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Named F]

local notation "𝕄" => MT nD τ sig Unit (Elt F) ℕ (UR sig nD τ) ℕ

/-- The rows of tile `t` of a block. -/
def tileOf (x : Vec F S16384x128 .fp8e4m3) (t : Fin 32) : Vec F S512x128 .fp8e4m3 :=
  VecWindow.window x ![t.val * 512, 0] S512x128.size (tile_inb t)

/-- A tile's scores. -/
def scoresOf (sc : FVec F S16x128 .bf16) (q2 : FVec F S128x256 .bf16) (x : Vec F S16384x128 .fp8e4m3) (t : Fin 32) : FVec F S128x256 .f32 :=
  tileScores (dequantPair sc (tileOf x t)) q2

/-- The four score blocks of row `r`, put where they are kept. -/
def putScores (r : ℕ) (d : FVec F S512x2x2x8x128 .f32) (s : FVec F S128x256 .f32) : FVec F S512x2x2x8x128 .f32 :=
  VecWindow.put (VecWindow.put (VecWindow.put (VecWindow.put d
    ![r, 0, 0, 0, 0] S1x1x1x8x128.size (asSlice (score00 s)))
    ![r, 0, 1, 0, 0] S1x1x1x8x128.size (asSlice (score01 s)))
    ![r, 1, 0, 0, 0] S1x1x1x8x128.size (asSlice (score10 s)))
    ![r, 1, 1, 0, 0] S1x1x1x8x128.size (asSlice (score11 s))

set_option maxHeartbeats 1000000 in
theorem scoreTile_wp (c : Dev nD) (i : grid0.Coords) (h2 : k0_cond2 i = 1#1)
    (arg6 : Memref sig .tc .vmem S16384x128 .fp8e4m3) (harg6 : arg6.IsWhole) (arg11 : Memref sig .tc .vmem S128x256 .bf16) (harg11 : arg11.IsWhole)
    (arg13 : Memref sig .tc .vmem S512x2x2x8x128 .f32) (harg13 : arg13.IsWhole)
    (x : Vec F S16384x128 .fp8e4m3) (q2 : FVec F S128x256 .bf16) (d : FVec F S512x2x2x8x128 .f32)
    (sc : FVec F S16x128 .bf16) (t : Fin 32) (mx : FVec F S8x128 .f32) (K : FVec F S8x128 .f32 → Pr F) (E : Set ℕ) (Q : PUnit → sProp 𝕄) :
    iprop(owns (c : Thread nD τ) arg6 fullShare x ∗ owns (c : Thread nD τ) arg11 fullShare q2 ∗ owns (c : Thread nD τ) arg13 fullShare d
        ∗ (iprop(owns (c : Thread nD τ) arg6 fullShare x ∗ owns (c : Thread nD τ) arg11 fullShare q2
            ∗ owns (c : Thread nD τ) arg13 fullShare (putScores (32 * (i 0).val + t.val) d (scoresOf sc q2 x t)))
          -∗ wp frame (wpE (defs₀ (F := F)) Variants.none c none) E (K (tileMax mx (scoresOf sc q2 x t))) Q))
      ⊢ wp frame (wpE (defs₀ (F := F)) Variants.none c none) E (scoreTile i h2 arg6 arg11 arg13 sc t mx K) Q := by
  unfold scoreTile owns
  iintro ⟨⟨%f0, %hf0, H0⟩, ⟨%f1, %hf1, H1⟩, ⟨%f2, %hf2, H2⟩, Hk⟩
  have e6 : View.readAt (Elt F) arg6.view (Rect.unit (s := S16384x128) ![t.val * 512, 0] S512x128.size (tile_inb t)).toLoadRect f0 = tileOf x t := by
    rw [View.readAt_unit _ _ _ rfl (tile_inb t), hf0]; rfl
  have e11 : View.readAt (Elt F) arg11.view (Rect.unit (s := S128x256) ![0, 0] S128x256.size inb_S128x256_S128x256_0_0).toLoadRect f1 = q2 := by
    rw [View.readAt_full, hf1]
  sl_exec
  simp only [e6, e11]
  iapply Hk
  isplitl [H0]
  · iexists f0; isplitr; · ipureintro; exact hf0
    iexact H0
  isplitl [H1]
  · iexists f1; isplitr; · ipureintro; exact hf1
    iexact H1
  iexists _; isplitr
  swap; · iexact H2
  ipureintro
  rw [View.read_writes_cons_put _ _ _ _ _ (Gen.k0_off4_eq i t), View.read_writes_cons_put _ _ _ _ _ (Gen.k0_off3_eq i t),
    View.read_writes_cons_put _ _ _ _ _ (Gen.k0_off2_eq i t), View.read_writes_cons_put _ _ _ _ _ (Gen.k0_off1_eq i t), View.writes_nil, hf2]
  rfl

/-- Head scale `j` of the eight. -/
def scaleAt (s : Vec F S8 .f32) (j : Fin 8) : Elt F .f32 := s (fun a => ⟨j.val, by match a with | 0 => exact j.isLt⟩)

/-- The element a one-element rectangle of the eight names. -/
theorem read_scale (arg1 : Memref sig .tc .smem S8 .f32) (f0 : arg1.view.ty.Contents (Elt F)) (j : ℕ) (hj : j < 8)
    (inb : ∀ a, (![j] : Fin 1 → ℕ) a + S1.size a ≤ S8.size a) (y : (Rect.unit (s := S8) ![j] S1.size inb).shape.Idx) :
    arg1.view.readAt (Elt F) (Rect.unit (s := S8) ![j] S1.size inb).toLoadRect f0 y = scaleAt (arg1.view.read (Elt F) f0) ⟨j, hj⟩ := by
  refine congrArg (arg1.view.read (Elt F) f0) (funext fun a => Fin.ext ?_)
  match a with
  | 0 =>
    have h : (y 0).val < 1 := (y 0).isLt
    show j + 1 * (y 0).val = j
    omega

theorem loadScales_wp (c : Dev nD) (arg1 : Memref sig .tc .smem S8 .f32) (harg1 : arg1.IsWhole) (s : Vec F S8 .f32) (K : (w0 w1 w2 w3 w4 w5 w6 w7 : Elt F .f32) → Pr F) (E : Set ℕ) (Q : PUnit → sProp 𝕄) :
    iprop(owns (c : Thread nD τ) arg1 fullShare s
        ∗ (iprop(owns (c : Thread nD τ) arg1 fullShare s)
          -∗ wp frame (wpE (defs₀ (F := F)) Variants.none c none) E (K (scaleAt s 0) (scaleAt s 1) (scaleAt s 2) (scaleAt s 3) (scaleAt s 4) (scaleAt s 5) (scaleAt s 6) (scaleAt s 7)) Q))
      ⊢ wp frame (wpE (defs₀ (F := F)) Variants.none c none) E (loadScales arg1 K) Q := by
  unfold loadScales owns
  iintro ⟨⟨%f0, %hf0, H0⟩, Hk⟩
  subst hf0
  sl_exec
  have e0 : loadScales_wp.sl.r c arg1 f0 = scaleAt (arg1.view.read (Elt F) f0) 0 := read_scale arg1 f0 0 (by omega) _ _
  have e1 : loadScales_wp.sl.r_1 c arg1 f0 = scaleAt (arg1.view.read (Elt F) f0) 1 := read_scale arg1 f0 1 (by omega) _ _
  have e2 : loadScales_wp.sl.r_2 c arg1 f0 = scaleAt (arg1.view.read (Elt F) f0) 2 := read_scale arg1 f0 2 (by omega) _ _
  have e3 : loadScales_wp.sl.r_3 c arg1 f0 = scaleAt (arg1.view.read (Elt F) f0) 3 := read_scale arg1 f0 3 (by omega) _ _
  have e4 : loadScales_wp.sl.r_4 c arg1 f0 = scaleAt (arg1.view.read (Elt F) f0) 4 := read_scale arg1 f0 4 (by omega) _ _
  have e5 : loadScales_wp.sl.r_5 c arg1 f0 = scaleAt (arg1.view.read (Elt F) f0) 5 := read_scale arg1 f0 5 (by omega) _ _
  have e6 : loadScales_wp.sl.r_6 c arg1 f0 = scaleAt (arg1.view.read (Elt F) f0) 6 := read_scale arg1 f0 6 (by omega) _ _
  have e7 : loadScales_wp.sl.r_7 c arg1 f0 = scaleAt (arg1.view.read (Elt F) f0) 7 := read_scale arg1 f0 7 (by omega) _ _
  rw [e0, e1, e2, e3, e4, e5, e6, e7]
  iapply Hk
  iexists f0; isplitr; · ipureintro; rfl
  iexact H0

/-- Where the value pass reads its score block: the same row of the earlier half of the grid. -/
theorem off5_eq : ∀ i : grid0.Coords, k0_cond4 i = 1#1 → ∀ r : Fin 32,
    k0_off5 i (BitVec.ofNat 32 r.val) = ![32 * ((i 0).val - 16) + r.val, 0, 0, 0, 0] := by decide +kernel

/-- Where the value pass reads its score block: the same row of the earlier half of the grid. -/
theorem off6_eq : ∀ i : grid0.Coords, k0_cond4 i = 1#1 → ∀ r : Fin 32,
    k0_off6 i (BitVec.ofNat 32 r.val) = ![32 * ((i 0).val - 16) + r.val, 0, 1, 0, 0] := by decide +kernel

/-- Where the value pass reads its score block: the same row of the earlier half of the grid. -/
theorem off7_eq : ∀ i : grid0.Coords, k0_cond4 i = 1#1 → ∀ r : Fin 32,
    k0_off7 i (BitVec.ofNat 32 r.val) = ![32 * ((i 0).val - 16) + r.val, 1, 0, 0, 0] := by decide +kernel

/-- Where the value pass reads its score block: the same row of the earlier half of the grid. -/
theorem off8_eq : ∀ i : grid0.Coords, k0_cond4 i = 1#1 → ∀ r : Fin 32,
    k0_off8 i (BitVec.ofNat 32 r.val) = ![32 * ((i 0).val - 16) + r.val, 1, 1, 0, 0] := by decide +kernel

/-- A score block's place stays inside the kept scores. -/
theorem block_inb (r : ℕ) (hr : r < 512) (a b : ℕ) (ha : a < 2) (hb : b < 2) :
    ∀ k, (![r, a, b, 0, 0] : Fin 5 → ℕ) k + S1x1x1x8x128.size k ≤ S512x2x2x8x128.size k := by
  intro k
  fin_cases k
  · show r + 1 ≤ 512; omega
  · show a + 1 ≤ 2; omega
  · show b + 1 ≤ 2; omega
  · show 0 + 8 ≤ 8; omega
  · show 0 + 128 ≤ 128; omega

/-- The weights of the score block kept at row `r`, place `(a, b)`. -/
def weightsAt (m : FVec F S8x128 .f32) (d : FVec F S512x2x2x8x128 .f32) (r : ℕ) (hr : r < 512) (a b : Fin 2) : FVec F S8x128 .f32 :=
  weights m (ofSlice (VecWindow.window d ![r, a.val, b.val, 0, 0] S1x1x1x8x128.size (block_inb r hr a.val b.val a.isLt b.isLt)))

/-- The sum after a tile's weights. -/
def sumOf (m : FVec F S8x128 .f32) (d : FVec F S512x2x2x8x128 .f32) (r : ℕ) (hr : r < 512) (l : FVec F S8x128 .f32) : FVec F S8x128 .f32 :=
  tileSum l (weightsAt m d r hr 0 0) (weightsAt m d r hr 0 1) (weightsAt m d r hr 1 0) (weightsAt m d r hr 1 1)

/-- The accumulator after a tile's weights. -/
def accOf (m : FVec F S8x128 .f32) (d : FVec F S512x2x2x8x128 .f32) (r : ℕ) (hr : r < 512) (o : FVec F S128x256 .f32)
    (x2 : FVec F S256x256 .bf16) : FVec F S128x256 .f32 :=
  tileAcc o x2 (weightsAt m d r hr 0 0) (weightsAt m d r hr 0 1) (weightsAt m d r hr 1 0) (weightsAt m d r hr 1 1)

/-- The row of the kept scores tile `t` of a point reads, stays inside. -/
theorem row_lt (i : grid0.Coords) (t : Fin 32) : 32 * ((i 0).val - 16) + t.val < 512 := by
  have h : (i 0).val < 32 := (i 0).isLt
  have := t.isLt
  omega

set_option maxHeartbeats 1000000 in
theorem valueTile_wp (c : Dev nD) (i : grid0.Coords) (h4 : k0_cond4 i = 1#1) (arg7 : Memref sig .tc .vmem S16384x128 .fp8e4m3) (harg7 : arg7.IsWhole) (arg13 : Memref sig .tc .vmem S512x2x2x8x128 .f32) (harg13 : arg13.IsWhole) (x : Vec F S16384x128 .fp8e4m3) (d : FVec F S512x2x2x8x128 .f32) (sc : FVec F S16x128 .bf16) (mx : FVec F S8x128 .f32) (t : Fin 32) (l : FVec F S8x128 .f32) (o : FVec F S128x256 .f32) (K : FVec F S8x128 .f32 → FVec F S128x256 .f32 → Pr F) (E : Set ℕ) (Q : PUnit → sProp 𝕄) :
    iprop(owns (c : Thread nD τ) arg7 fullShare x ∗ owns (c : Thread nD τ) arg13 fullShare d
        ∗ (iprop(owns (c : Thread nD τ) arg7 fullShare x ∗ owns (c : Thread nD τ) arg13 fullShare d)
          -∗ wp frame (wpE (defs₀ (F := F)) Variants.none c none) E (K (sumOf mx d (32 * ((i 0).val - 16) + t.val) (row_lt i t) l) (accOf mx d (32 * ((i 0).val - 16) + t.val) (row_lt i t) o (dequantPair sc (tileOf x t)))) Q))
      ⊢ wp frame (wpE (defs₀ (F := F)) Variants.none c none) E (valueTile i h4 arg7 arg13 sc mx t l o K) Q := by
  unfold valueTile owns
  iintro ⟨⟨%f0, %hf0, H0⟩, ⟨%f1, %hf1, H1⟩, Hk⟩
  have e7 : View.readAt (Elt F) arg7.view (Rect.unit (s := S16384x128) ![t.val * 512, 0] S512x128.size (tile_inb t)).toLoadRect f0 = tileOf x t := by
    rw [View.readAt_unit _ _ _ rfl (tile_inb t), hf0]; rfl
  have d5 : weights mx (ofSlice (View.readAt (Elt F) arg13.view (Rect.unit (s := S512x2x2x8x128) (k0_off5 i (BitVec.ofNat 32 t.val)) S1x1x1x8x128.size (k0_off5_inb i h4 t)).toLoadRect f1))
      = weightsAt mx d (32 * ((i 0).val - 16) + t.val) (row_lt i t) 0 0 := by
    rw [View.readAt_unit _ _ _ (off5_eq i h4 t) (block_inb _ (row_lt i t) 0 0 (by omega) (by omega)), hf1]; rfl
  have d6 : weights mx (ofSlice (View.readAt (Elt F) arg13.view (Rect.unit (s := S512x2x2x8x128) (k0_off6 i (BitVec.ofNat 32 t.val)) S1x1x1x8x128.size (k0_off6_inb i h4 t)).toLoadRect f1))
      = weightsAt mx d (32 * ((i 0).val - 16) + t.val) (row_lt i t) 0 1 := by
    rw [View.readAt_unit _ _ _ (off6_eq i h4 t) (block_inb _ (row_lt i t) 0 1 (by omega) (by omega)), hf1]; rfl
  have d7 : weights mx (ofSlice (View.readAt (Elt F) arg13.view (Rect.unit (s := S512x2x2x8x128) (k0_off7 i (BitVec.ofNat 32 t.val)) S1x1x1x8x128.size (k0_off7_inb i h4 t)).toLoadRect f1))
      = weightsAt mx d (32 * ((i 0).val - 16) + t.val) (row_lt i t) 1 0 := by
    rw [View.readAt_unit _ _ _ (off7_eq i h4 t) (block_inb _ (row_lt i t) 1 0 (by omega) (by omega)), hf1]; rfl
  have d8 : weights mx (ofSlice (View.readAt (Elt F) arg13.view (Rect.unit (s := S512x2x2x8x128) (k0_off8 i (BitVec.ofNat 32 t.val)) S1x1x1x8x128.size (k0_off8_inb i h4 t)).toLoadRect f1))
      = weightsAt mx d (32 * ((i 0).val - 16) + t.val) (row_lt i t) 1 1 := by
    rw [View.readAt_unit _ _ _ (off8_eq i h4 t) (block_inb _ (row_lt i t) 1 1 (by omega) (by omega)), hf1]; rfl
  sl_exec
  simp only [e7, d5, d6, d7, d8]
  iapply Hk
  isplitl [H0]
  · iexists f0; isplitr; · ipureintro; exact hf0
    iexact H0
  iexists f1; isplitr; · ipureintro; exact hf1
  iexact H1

/-! ## The passes' recursions -/

/-- The kept scores after `n` tiles from `t` on. -/
def putTiles (i : grid0.Coords) (sc : FVec F S16x128 .bf16) (q2 : FVec F S128x256 .bf16) (x : Vec F S16384x128 .fp8e4m3) :
    (n t : ℕ) → n + t ≤ 32 → FVec F S512x2x2x8x128 .f32 → FVec F S512x2x2x8x128 .f32
  | 0, _, _, d => d
  | n + 1, t, h, d => putTiles i sc q2 x n (t + 1) (by omega) (putScores (32 * (i 0).val + t) d (scoresOf sc q2 x ⟨t, by omega⟩))

/-- The maximum after `n` tiles from `t` on. -/
def maxTiles (sc : FVec F S16x128 .bf16) (q2 : FVec F S128x256 .bf16) (x : Vec F S16384x128 .fp8e4m3) :
    (n t : ℕ) → n + t ≤ 32 → FVec F S8x128 .f32 → FVec F S8x128 .f32
  | 0, _, _, m => m
  | n + 1, t, h, m => maxTiles sc q2 x n (t + 1) (by omega) (tileMax m (scoresOf sc q2 x ⟨t, by omega⟩))

/-- The sum after `n` tiles from `t` on. -/
def sumTiles (i : grid0.Coords) (m : FVec F S8x128 .f32) (d : FVec F S512x2x2x8x128 .f32) :
    (n t : ℕ) → n + t ≤ 32 → FVec F S8x128 .f32 → FVec F S8x128 .f32
  | 0, _, _, l => l
  | n + 1, t, h, l => sumTiles i m d n (t + 1) (by omega) (sumOf m d (32 * ((i 0).val - 16) + t) (row_lt i ⟨t, by omega⟩) l)

/-- The accumulator after `n` tiles from `t` on. -/
def accTiles (i : grid0.Coords) (m : FVec F S8x128 .f32) (d : FVec F S512x2x2x8x128 .f32) (sc : FVec F S16x128 .bf16) (x : Vec F S16384x128 .fp8e4m3) :
    (n t : ℕ) → n + t ≤ 32 → FVec F S128x256 .f32 → FVec F S128x256 .f32
  | 0, _, _, o => o
  | n + 1, t, h, o => accTiles i m d sc x n (t + 1) (by omega)
      (accOf m d (32 * ((i 0).val - 16) + t) (row_lt i ⟨t, by omega⟩) o (dequantPair sc (tileOf x ⟨t, by omega⟩)))

theorem scoreTiles_wp (c : Dev nD) (i : grid0.Coords) (h2 : k0_cond2 i = 1#1) (arg6 : Memref sig .tc .vmem S16384x128 .fp8e4m3) (harg6 : arg6.IsWhole) (arg11 : Memref sig .tc .vmem S128x256 .bf16) (harg11 : arg11.IsWhole) (arg13 : Memref sig .tc .vmem S512x2x2x8x128 .f32) (harg13 : arg13.IsWhole) (x : Vec F S16384x128 .fp8e4m3) (q2 : FVec F S128x256 .bf16) (sc : FVec F S16x128 .bf16) (K : FVec F S8x128 .f32 → Pr F) (E : Set ℕ) (Q : PUnit → sProp 𝕄) :
    (n t : ℕ) → (h : n + t ≤ 32) → (mx : FVec F S8x128 .f32) → (d : FVec F S512x2x2x8x128 .f32) →
    iprop(owns (c : Thread nD τ) arg6 fullShare x ∗ owns (c : Thread nD τ) arg11 fullShare q2 ∗ owns (c : Thread nD τ) arg13 fullShare d
        ∗ (iprop(owns (c : Thread nD τ) arg6 fullShare x ∗ owns (c : Thread nD τ) arg11 fullShare q2 ∗ owns (c : Thread nD τ) arg13 fullShare (putTiles i sc q2 x n t h d))
          -∗ wp frame (wpE (defs₀ (F := F)) Variants.none c none) E (K (maxTiles sc q2 x n t h mx)) Q))
      ⊢ wp frame (wpE (defs₀ (F := F)) Variants.none c none) E (scoreTiles i h2 arg6 arg11 arg13 sc n t h mx K) Q
  | 0, t, h, mx, d => by
    iintro ⟨H0, H1, H2, Hk⟩
    iapply Hk
    isplitl [H0]; · iexact H0
    isplitl [H1]; · iexact H1
    iexact H2
  | n + 1, t, h, mx, d => by
    iintro ⟨H0, H1, H2, Hk⟩
    iapply (scoreTile_wp c i h2 arg6 harg6 arg11 harg11 arg13 harg13 x q2 d sc ⟨t, by omega⟩ mx _ E Q)
    isplitl [H0]; · iexact H0
    isplitl [H1]; · iexact H1
    isplitl [H2]; · iexact H2
    iintro ⟨H0, H1, H2⟩
    iapply (scoreTiles_wp c i h2 arg6 harg6 arg11 harg11 arg13 harg13 x q2 sc K E Q n (t + 1) _ _ _)
    isplitl [H0]; · iexact H0
    isplitl [H1]; · iexact H1
    isplitl [H2]; · iexact H2
    iexact Hk

theorem valueTiles_wp (c : Dev nD) (i : grid0.Coords) (h4 : k0_cond4 i = 1#1) (arg7 : Memref sig .tc .vmem S16384x128 .fp8e4m3) (harg7 : arg7.IsWhole) (arg13 : Memref sig .tc .vmem S512x2x2x8x128 .f32) (harg13 : arg13.IsWhole) (x : Vec F S16384x128 .fp8e4m3) (d : FVec F S512x2x2x8x128 .f32) (sc : FVec F S16x128 .bf16) (mx : FVec F S8x128 .f32) (K : FVec F S8x128 .f32 → FVec F S128x256 .f32 → Pr F) (E : Set ℕ) (Q : PUnit → sProp 𝕄) :
    (n t : ℕ) → (h : n + t ≤ 32) → (l : FVec F S8x128 .f32) → (o : FVec F S128x256 .f32) →
    iprop(owns (c : Thread nD τ) arg7 fullShare x ∗ owns (c : Thread nD τ) arg13 fullShare d
        ∗ (iprop(owns (c : Thread nD τ) arg7 fullShare x ∗ owns (c : Thread nD τ) arg13 fullShare d)
          -∗ wp frame (wpE (defs₀ (F := F)) Variants.none c none) E (K (sumTiles i mx d n t h l) (accTiles i mx d sc x n t h o)) Q))
      ⊢ wp frame (wpE (defs₀ (F := F)) Variants.none c none) E (valueTiles i h4 arg7 arg13 sc mx n t h l o K) Q
  | 0, t, h, l, o => by
    iintro ⟨H0, H1, Hk⟩
    iapply Hk
    isplitl [H0]; · iexact H0
    iexact H1
  | n + 1, t, h, l, o => by
    iintro ⟨H0, H1, Hk⟩
    iapply (valueTile_wp c i h4 arg7 harg7 arg13 harg13 x d sc mx ⟨t, by omega⟩ l o _ E Q)
    isplitl [H0]; · iexact H0
    isplitl [H1]; · iexact H1
    iintro ⟨H0, H1⟩
    iapply (valueTiles_wp c i h4 arg7 harg7 arg13 harg13 x d sc mx K E Q n (t + 1) _ _ _)
    isplitl [H0]; · iexact H0
    isplitl [H1]; · iexact H1
    iexact Hk

end Cert.KernelIdeal.Hand

end
-- ==== Proof.KernelIdeal.Passes.lean ====
/- What each of the five passes of the body does to the memory: whole buffers in, whole buffers out. -/
module

public import proofs.«01_k».proof.Proof.KernelIdeal.Tiles

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Named F]

local notation "𝕄" => MT nD τ sig Unit (Elt F) ℕ (UR sig nD τ) ℕ

/-- The eight scales by row of a tile. -/
def tileScaleOf (s : Vec F S8 .f32) : FVec F S16x128 .bf16 :=
  tileScale (scaleAt s 0) (scaleAt s 1) (scaleAt s 2) (scaleAt s 3) (scaleAt s 4) (scaleAt s 5) (scaleAt s 6) (scaleAt s 7)
/-- The eight scales by row of the new token. -/
def rowScaleOf (s : Vec F S8 .f32) : FVec F S8x128 .f32 :=
  rowScale rowHead8 (scaleAt s 0) (scaleAt s 1) (scaleAt s 2) (scaleAt s 3) (scaleAt s 4) (scaleAt s 5) (scaleAt s 6) (scaleAt s 7)

/-! ## Whole loads and stores, what follows them any program -/

section Access

theorem load_whole {s : Shape} {e : EltTy} (c : Dev nD) (a : Memref sig .tc .vmem s e) (E : Set ℕ) (Q : PUnit.{1} → sProp 𝕄)
    (x : Vec F s e) {off : Fin s.rank → ℕ} (inb : ∀ k, off k + s.size k ≤ s.size k)
    (hl : a.view.LoadsAt (Rect.unit (s := s) off s.size inb).toLoadRect) (K : Vec F s e → Pr F) :
    iprop(owns (c : Thread nD τ) a fullShare x ∗ (owns (c : Thread nD τ) a fullShare x -∗ wp frame (wpE (defs₀ (F := F)) Variants.none c none) E (K x) Q))
      ⊢ wp frame (wpE (defs₀ (F := F)) Variants.none c none) E
          (Prog.lift (.load a (Rect.unit (s := s) off s.size inb).toLoadRect hl) >>= K : Pr F) Q := by
  unfold owns
  iintro ⟨⟨%f, %hf, H⟩, Hk⟩
  have h : View.readAt (Elt F) a.view (Rect.unit (s := s) off s.size inb).toLoadRect f = x := by
    rw [View.readAt_full, hf]
  sl_exec
  iapply Hk
  iexists f; isplitr; · ipureintro; exact hf
  iexact H

theorem load_part {s : Shape} {e : EltTy} (c : Dev nD) (a : Memref sig .tc .vmem s e) (E : Set ℕ) (Q : PUnit.{1} → sProp 𝕄)
    (x : Vec F s e) {off size : Fin s.rank → ℕ} (inb : ∀ k, off k + size k ≤ s.size k)
    (hl : a.view.LoadsAt (Rect.unit (s := s) off size inb).toLoadRect) (K : Vec F ⟨s.rank, size⟩ e → Pr F) :
    iprop(owns (c : Thread nD τ) a fullShare x
        ∗ (owns (c : Thread nD τ) a fullShare x -∗ wp frame (wpE (defs₀ (F := F)) Variants.none c none) E (K (VecWindow.window x off size inb)) Q))
      ⊢ wp frame (wpE (defs₀ (F := F)) Variants.none c none) E
          (Prog.lift (.load a (Rect.unit (s := s) off size inb).toLoadRect hl) >>= K : Pr F) Q := by
  unfold owns
  iintro ⟨⟨%f, %hf, H⟩, Hk⟩
  have h : View.readAt (Elt F) a.view (Rect.unit (s := s) off size inb).toLoadRect f = VecWindow.window x off size inb := by
    rw [View.readAt_unit _ _ _ rfl inb, hf]
  sl_exec
  iapply Hk
  iexists f; isplitr; · ipureintro; exact hf
  iexact H

theorem store_part {s : Shape} {e : EltTy} (c : Dev nD) (a : Memref sig .tc .vmem s e) (E : Set ℕ) (Q : PUnit.{1} → sProp 𝕄)
    (x : Vec F s e) {off size : Fin s.rank → ℕ} (inb : ∀ k, off k + size k ≤ s.size k)
    (hl : a.view.LoadsAt (Rect.unit (s := s) off size inb).toLoadRect) (w : Vec F ⟨s.rank, size⟩ e)
    (hs : (a.access (Rect.unit (s := s) off size inb)).Stores Finset.univ)
    (hm : (Finset.univ : Finset (Rect.unit (s := s) off size inb).shape.Idx) = Finset.univ ∨ ∀ k, (Rect.unit (s := s) off size inb).stride k = 1) (K : Pr F) :
    iprop(owns (c : Thread nD τ) a fullShare x
        ∗ (owns (c : Thread nD τ) a fullShare (VecWindow.put x off size w) -∗ wp frame (wpE (defs₀ (F := F)) Variants.none c none) E K Q))
      ⊢ wp frame (wpE (defs₀ (F := F)) Variants.none c none) E
          (Prog.lift (.load a (Rect.unit (s := s) off size inb).toLoadRect hl) >>= fun _ =>
            Prog.lift (.store a (Rect.unit (s := s) off size inb) w Finset.univ hs hm) >>= fun _ => K : Pr F) Q := by
  unfold owns
  iintro ⟨⟨%f, %hf, H⟩, Hk⟩
  sl_exec
  iapply Hk
  iexists _; isplitr
  swap; · iexact H
  ipureintro
  refine (View.read_writes_cons_put _ _ _ _ _ rfl).trans ?_
  rw [View.writes_nil, hf]

theorem store_whole {s : Shape} {e : EltTy} (c : Dev nD) (a : Memref sig .tc .vmem s e) (E : Set ℕ) (Q : PUnit.{1} → sProp 𝕄)
    {off : Fin s.rank → ℕ} (inb : ∀ k, off k + s.size k ≤ s.size k)
    (hl : a.view.LoadsAt (Rect.unit (s := s) off s.size inb).toLoadRect) (w : Vec F s e)
    (hs : (a.access (Rect.unit (s := s) off s.size inb)).Stores Finset.univ)
    (hm : (Finset.univ : Finset (Rect.unit (s := s) off s.size inb).shape.Idx) = Finset.univ ∨ ∀ k, (Rect.unit (s := s) off s.size inb).stride k = 1) (K : Pr F) :
    iprop((∃ x, owns (c : Thread nD τ) a fullShare x)
        ∗ (owns (c : Thread nD τ) a fullShare w -∗ wp frame (wpE (defs₀ (F := F)) Variants.none c none) E K Q))
      ⊢ wp frame (wpE (defs₀ (F := F)) Variants.none c none) E
          (Prog.lift (.load a (Rect.unit (s := s) off s.size inb).toLoadRect hl) >>= fun _ =>
            Prog.lift (.store a (Rect.unit (s := s) off s.size inb) w Finset.univ hs hm) >>= fun _ => K : Pr F) Q := by
  unfold owns
  iintro ⟨⟨%x, %f, -, H⟩, Hk⟩
  sl_exec
  iapply Hk
  iexists _; isplitr
  swap; · iexact H
  ipureintro
  exact View.read_writes_full _ _ _ _ _

end Access

theorem scorePass_wp (c : Dev nD) (i : grid0.Coords) (h2 : k0_cond2 i = 1#1) (arg1 : Memref sig .tc .smem S8 .f32) (harg1 : arg1.IsWhole) (arg6 : Memref sig .tc .vmem S16384x128 .fp8e4m3) (harg6 : arg6.IsWhole) (arg11 : Memref sig .tc .vmem S128x256 .bf16) (harg11 : arg11.IsWhole) (arg13 : Memref sig .tc .vmem S512x2x2x8x128 .f32) (harg13 : arg13.IsWhole) (arg15 : Memref sig .tc .vmem S8x128 .f32) (harg15 : arg15.IsWhole) (s : Vec F S8 .f32) (x : Vec F S16384x128 .fp8e4m3) (q2 : FVec F S128x256 .bf16) (d : FVec F S512x2x2x8x128 .f32) (mx : FVec F S8x128 .f32) (K : Pr F) (E : Set ℕ) (Q : PUnit → sProp 𝕄) :
    iprop(owns (c : Thread nD τ) arg1 fullShare s ∗ owns (c : Thread nD τ) arg6 fullShare x ∗ owns (c : Thread nD τ) arg11 fullShare q2 ∗ owns (c : Thread nD τ) arg13 fullShare d ∗ owns (c : Thread nD τ) arg15 fullShare mx
        ∗ (iprop(owns (c : Thread nD τ) arg1 fullShare s ∗ owns (c : Thread nD τ) arg6 fullShare x ∗ owns (c : Thread nD τ) arg11 fullShare q2 ∗ owns (c : Thread nD τ) arg13 fullShare (putTiles i (tileScaleOf s) q2 x 32 0 (by omega) d) ∗ owns (c : Thread nD τ) arg15 fullShare (keep8 (maxTiles (tileScaleOf s) q2 x 32 0 (by omega) mx)))
          -∗ wp frame (wpE (defs₀ (F := F)) Variants.none c none) E K Q))
      ⊢ wp frame (wpE (defs₀ (F := F)) Variants.none c none) E (scorePass i h2 arg1 arg6 arg11 arg13 arg15 K) Q := by
  unfold scorePass
  iintro ⟨H1, H6, H11, H13, H15, Hk⟩
  iapply (loadScales_wp c arg1 harg1 s _ E Q)
  isplitl [H1]; · iexact H1
  iintro H1
  iapply (load_whole c arg15 E Q _ _ _ _)
  isplitl [H15]; · iexact H15
  iintro H15
  iapply (scoreTiles_wp c i h2 arg6 harg6 arg11 harg11 arg13 harg13 x q2 _ _ E Q 32 0 _ mx d)
  isplitl [H6]; · iexact H6
  isplitl [H11]; · iexact H11
  isplitl [H13]; · iexact H13
  iintro ⟨H6, H11, H13⟩
  iapply (store_whole c arg15 E Q _ _ _ _ _ _)
  isplitl [H15]; · iexists _; iexact H15
  iintro H15
  iapply Hk
  isplitl [H1]; · iexact H1
  isplitl [H6]; · iexact H6
  isplitl [H11]; · iexact H11
  isplitl [H13]; · iexact H13
  iexact H15

theorem valuePass_wp (c : Dev nD) (i : grid0.Coords) (h4 : k0_cond4 i = 1#1) (arg2 : Memref sig .tc .smem S8 .f32) (harg2 : arg2.IsWhole) (arg7 : Memref sig .tc .vmem S16384x128 .fp8e4m3) (harg7 : arg7.IsWhole) (arg13 : Memref sig .tc .vmem S512x2x2x8x128 .f32) (harg13 : arg13.IsWhole) (arg15 : Memref sig .tc .vmem S8x128 .f32) (harg15 : arg15.IsWhole) (arg16 : Memref sig .tc .vmem S8x128 .f32) (harg16 : arg16.IsWhole) (arg17 : Memref sig .tc .vmem S128x256 .f32) (harg17 : arg17.IsWhole) (s : Vec F S8 .f32) (x : Vec F S16384x128 .fp8e4m3) (d : FVec F S512x2x2x8x128 .f32) (mx l : FVec F S8x128 .f32) (o : FVec F S128x256 .f32) (K : Pr F) (E : Set ℕ) (Q : PUnit → sProp 𝕄) :
    iprop(owns (c : Thread nD τ) arg2 fullShare s ∗ owns (c : Thread nD τ) arg7 fullShare x ∗ owns (c : Thread nD τ) arg13 fullShare d ∗ owns (c : Thread nD τ) arg15 fullShare mx ∗ owns (c : Thread nD τ) arg16 fullShare l ∗ owns (c : Thread nD τ) arg17 fullShare o
        ∗ (iprop(owns (c : Thread nD τ) arg2 fullShare s ∗ owns (c : Thread nD τ) arg7 fullShare x ∗ owns (c : Thread nD τ) arg13 fullShare d ∗ owns (c : Thread nD τ) arg15 fullShare mx ∗ owns (c : Thread nD τ) arg16 fullShare (keep8 (sumTiles i mx d 32 0 (by omega) l)) ∗ owns (c : Thread nD τ) arg17 fullShare (keepAcc (accTiles i mx d (tileScaleOf s) x 32 0 (by omega) o)))
          -∗ wp frame (wpE (defs₀ (F := F)) Variants.none c none) E K Q))
      ⊢ wp frame (wpE (defs₀ (F := F)) Variants.none c none) E (valuePass i h4 arg2 arg7 arg13 arg15 arg16 arg17 K) Q := by
  unfold valuePass
  iintro ⟨H2, H7, H13, H15, H16, H17, Hk⟩
  iapply (loadScales_wp c arg2 harg2 s _ E Q)
  isplitl [H2]; · iexact H2
  iintro H2
  iapply (load_whole c arg15 E Q _ _ _ _)
  isplitl [H15]; · iexact H15
  iintro H15
  iapply (load_whole c arg16 E Q _ _ _ _)
  isplitl [H16]; · iexact H16
  iintro H16
  iapply (load_whole c arg17 E Q _ _ _ _)
  isplitl [H17]; · iexact H17
  iintro H17
  iapply (valueTiles_wp c i h4 arg7 harg7 arg13 harg13 x d _ mx _ E Q 32 0 _ l o)
  isplitl [H7]; · iexact H7
  isplitl [H13]; · iexact H13
  iintro ⟨H7, H13⟩
  iapply (store_whole c arg16 E Q _ _ _ _ _ _)
  isplitl [H16]; · iexists _; iexact H16
  iintro H16
  iapply (store_whole c arg17 E Q _ _ _ _ _ _)
  isplitl [H17]; · iexists _; iexact H17
  iintro H17
  iapply Hk
  isplitl [H2]; · iexact H2
  isplitl [H7]; · iexact H7
  isplitl [H13]; · iexact H13
  isplitl [H15]; · iexact H15
  isplitl [H16]; · iexact H16
  iexact H17

theorem maxPass_wp (c : Dev nD) (arg15 : Memref sig .tc .vmem S8x128 .f32) (harg15 : arg15.IsWhole) (mx : FVec F S8x128 .f32) (K : Pr F) (E : Set ℕ) (Q : PUnit → sProp 𝕄) :
    iprop(owns (c : Thread nD τ) arg15 fullShare mx
        ∗ (iprop(owns (c : Thread nD τ) arg15 fullShare (keep8 (headMax mx)))
          -∗ wp frame (wpE (defs₀ (F := F)) Variants.none c none) E K Q))
      ⊢ wp frame (wpE (defs₀ (F := F)) Variants.none c none) E (maxPass arg15 K) Q := by
  unfold maxPass
  iintro ⟨H15, Hk⟩
  iapply (load_whole c arg15 E Q _ _ _ _)
  isplitl [H15]; · iexact H15
  iintro H15
  iapply (store_whole c arg15 E Q _ _ _ _ _ _)
  isplitl [H15]; · iexists _; iexact H15
  iintro H15
  iapply Hk
  iexact H15

theorem half_inb (b : Fin 2) : ∀ k, (![b.val, 0, 0] : Fin 3 → ℕ) k + S1x128x256.size k ≤ S2x128x256.size k := by
  have := b.isLt
  intro k
  fin_cases k
  · show b.val + 1 ≤ 2; omega
  · show 0 + 128 ≤ 128; omega
  · show 0 + 256 ≤ 256; omega

/-- One of the two halves kept of the new token. -/
def halfOf (w : FVec F S2x128x256 .bf16) (b : Fin 2) : Vec F S1x128x256 .bf16 := VecWindow.window w ![b.val, 0, 0] S1x128x256.size (half_inb b)

theorem finishPass_wp (c : Dev nD) (arg8 : Memref sig .tc .vmem S64x128 .bf16) (harg8 : arg8.IsWhole) (arg12 : Memref sig .tc .vmem S2x128x256 .bf16) (harg12 : arg12.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S128x256 .f32) (harg17 : arg17.IsWhole) (w : FVec F S2x128x256 .bf16) (dn mx l : FVec F S8x128 .f32) (o : FVec F S128x256 .f32) (K : Pr F) (E : Set ℕ) (Q : PUnit → sProp 𝕄) :
    iprop((∃ d, owns (c : Thread nD τ) arg8 fullShare d) ∗ owns (c : Thread nD τ) arg12 fullShare w ∗ owns (c : Thread nD τ) arg14 fullShare dn ∗ owns (c : Thread nD τ) arg15 fullShare mx ∗ owns (c : Thread nD τ) arg16 fullShare l ∗ owns (c : Thread nD τ) arg17 fullShare o
        ∗ (iprop(owns (c : Thread nD τ) arg8 fullShare (finish dn mx l o (halfOf w 1)) ∗ owns (c : Thread nD τ) arg12 fullShare w ∗ owns (c : Thread nD τ) arg14 fullShare dn ∗ owns (c : Thread nD τ) arg15 fullShare mx ∗ owns (c : Thread nD τ) arg16 fullShare l ∗ owns (c : Thread nD τ) arg17 fullShare o)
          -∗ wp frame (wpE (defs₀ (F := F)) Variants.none c none) E K Q))
      ⊢ wp frame (wpE (defs₀ (F := F)) Variants.none c none) E (finishPass arg8 arg12 arg14 arg15 arg16 arg17 harg8 K) Q := by
  unfold finishPass
  iintro ⟨H8, H12, H14, H15, H16, H17, Hk⟩
  iapply (load_whole c arg14 E Q _ _ _ _)
  isplitl [H14]; · iexact H14
  iintro H14
  iapply (load_whole c arg15 E Q _ _ _ _)
  isplitl [H15]; · iexact H15
  iintro H15
  iapply (load_whole c arg16 E Q _ _ _ _)
  isplitl [H16]; · iexact H16
  iintro H16
  iapply (load_whole c arg17 E Q _ _ _ _)
  isplitl [H17]; · iexact H17
  iintro H17
  iapply (load_part c arg12 E Q _ _ _ _)
  isplitl [H12]; · iexact H12
  iintro H12
  iapply (store_whole c arg8 E Q _ _ _ _ _ _)
  isplitl [H8]; · iexact H8
  iintro H8
  iapply Hk
  isplitl [H8]; · iexact H8
  isplitl [H12]; · iexact H12
  isplitl [H14]; · iexact H14
  isplitl [H15]; · iexact H15
  isplitl [H16]; · iexact H16
  iexact H17

theorem startPass_wp (c : Dev nD) (arg1 : Memref sig .tc .smem S8 .f32) (harg1 : arg1.IsWhole) (arg2 : Memref sig .tc .smem S8 .f32) (harg2 : arg2.IsWhole) (arg3 : Memref sig .tc .vmem S64x128 .bf16) (harg3 : arg3.IsWhole) (arg4 : Memref sig .tc .vmem S8x128 .bf16) (harg4 : arg4.IsWhole) (arg5 : Memref sig .tc .vmem S8x128 .bf16) (harg5 : arg5.IsWhole) (arg9 : Memref sig .tc .vmem S8x128 .fp8e4m3) (harg9 : arg9.IsWhole) (arg10 : Memref sig .tc .vmem S8x128 .fp8e4m3) (harg10 : arg10.IsWhole) (arg11 : Memref sig .tc .vmem S128x256 .bf16) (harg11 : arg11.IsWhole) (arg12 : Memref sig .tc .vmem S2x128x256 .bf16) (harg12 : arg12.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S128x256 .f32) (harg17 : arg17.IsWhole) (sk sv : Vec F S8 .f32) (q : Vec F S64x128 .bf16) (kn vn : Vec F S8x128 .bf16) (K : Pr F) (E : Set ℕ) (Q : PUnit → sProp 𝕄) :
    iprop(owns (c : Thread nD τ) arg1 fullShare sk ∗ owns (c : Thread nD τ) arg2 fullShare sv ∗ owns (c : Thread nD τ) arg3 fullShare q ∗ owns (c : Thread nD τ) arg4 fullShare kn ∗ owns (c : Thread nD τ) arg5 fullShare vn ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare sk ∗ owns (c : Thread nD τ) arg2 fullShare sv ∗ owns (c : Thread nD τ) arg3 fullShare q ∗ owns (c : Thread nD τ) arg4 fullShare kn ∗ owns (c : Thread nD τ) arg5 fullShare vn ∗ owns (c : Thread nD τ) arg9 fullShare (newCodes kn (rowScaleOf sk)) ∗ owns (c : Thread nD τ) arg10 fullShare (newCodes vn (rowScaleOf sv)) ∗ owns (c : Thread nD τ) arg11 fullShare (query2 q) ∗ (∃ w, ⌜halfOf w 1 = (newPair (newCodes vn (rowScaleOf sv)) (rowScaleOf sv))⌝ ∗ owns (c : Thread nD τ) arg12 fullShare w) ∗ owns (c : Thread nD τ) arg14 fullShare (keep8 (newScores (query2 q) (newPair (newCodes kn (rowScaleOf sk)) (rowScaleOf sk)))) ∗ owns (c : Thread nD τ) arg15 fullShare (keep8 (newScores (query2 q) (newPair (newCodes kn (rowScaleOf sk)) (rowScaleOf sk)))) ∗ owns (c : Thread nD τ) arg16 fullShare (keep8 (broadcast S8x128 (Scalar.ofBits .f32 0x00000000#32))) ∗ owns (c : Thread nD τ) arg17 fullShare (keepAcc (broadcast S128x256 (Scalar.ofBits .f32 0x00000000#32))))
          -∗ wp frame (wpE (defs₀ (F := F)) Variants.none c none) E K Q))
      ⊢ wp frame (wpE (defs₀ (F := F)) Variants.none c none) E (startPass arg1 arg2 arg3 arg4 arg5 arg9 arg10 arg11 arg12 arg14 arg15 arg16 arg17 harg9 harg10 harg11 harg12 K) Q := by
  unfold startPass
  iintro ⟨H1, H2, H3, H4, H5, H9, H10, H11, ⟨%w, H12⟩, H14, H15, H16, H17, Hk⟩
  iapply (load_whole c arg3 E Q _ _ _ _)
  isplitl [H3]; · iexact H3
  iintro H3
  iapply (store_whole c arg11 E Q _ _ _ _ _ _)
  isplitl [H11]; · iexact H11
  iintro H11
  iapply (loadScales_wp c arg1 harg1 sk _ E Q)
  isplitl [H1]; · iexact H1
  iintro H1
  iapply (load_whole c arg4 E Q _ _ _ _)
  isplitl [H4]; · iexact H4
  iintro H4
  iapply (store_whole c arg9 E Q _ _ _ _ _ _)
  isplitl [H9]; · iexact H9
  iintro H9
  iapply (store_part c arg12 E Q _ _ _ _ _ _ _)
  isplitl [H12]; · iexact H12
  iintro H12
  iapply (loadScales_wp c arg2 harg2 sv _ E Q)
  isplitl [H2]; · iexact H2
  iintro H2
  iapply (load_whole c arg5 E Q _ _ _ _)
  isplitl [H5]; · iexact H5
  iintro H5
  iapply (store_whole c arg10 E Q _ _ _ _ _ _)
  isplitl [H10]; · iexact H10
  iintro H10
  iapply (store_part c arg12 E Q _ _ _ _ _ _ _)
  isplitl [H12]; · iexact H12
  iintro H12
  iapply (load_part c arg12 E Q _ _ _ _)
  isplitl [H12]; · iexact H12
  iintro H12
  rw [VecWindow.window_put_of_disjoint _ _ _ _ _ _ _ (0 : Fin 3) (Or.inl (by decide)), VecWindow.window_put_same]
  iapply (load_whole c arg11 E Q _ _ _ _)
  isplitl [H11]; · iexact H11
  iintro H11
  iapply (store_whole c arg14 E Q _ _ _ _ _ _)
  isplitl [H14]; · iexact H14
  iintro H14
  iapply (store_whole c arg15 E Q _ _ _ _ _ _)
  isplitl [H15]; · iexact H15
  iintro H15
  iapply (store_whole c arg16 E Q _ _ _ _ _ _)
  isplitl [H16]; · iexact H16
  iintro H16
  iapply (store_whole c arg17 E Q _ _ _ _ _ _)
  isplitl [H17]; · iexact H17
  iintro H17
  iapply Hk
  isplitl [H1]; · iexact H1
  isplitl [H2]; · iexact H2
  isplitl [H3]; · iexact H3
  isplitl [H4]; · iexact H4
  isplitl [H5]; · iexact H5
  isplitl [H9]; · iexact H9
  isplitl [H10]; · iexact H10
  isplitl [H11]; · iexact H11
  isplitl [H12]
  · iexists _; isplitr
    swap; · iexact H12
    ipureintro
    exact VecWindow.window_put_same _ _ _ _ _
  isplitl [H14]; · iexact H14
  isplitl [H15]; · iexact H15
  isplitl [H16]; · iexact H16
  iexact H17

end Cert.KernelIdeal.Hand

end
-- ==== Proof.KernelIdeal.State.lean ====
/- What the scratch buffers hold between grid points, as values: the score blocks kept (a fixed table of rows, written
   thirty-two rows a point), the running maximum, the running sum and the accumulator. -/
module

public import proofs.«01_k».proof.Proof.KernelIdeal.Passes

@[expose] public section

set_option maxRecDepth 16384

noncomputable section

namespace Cert.KernelIdeal.Hand

open Idealize.ShloMosaic
open Facts₀ Facts

variable {F : FTy → Type} [FloatOps F] [Named F]

/-- Score block `(a, b)` of a tile's scores. -/
def blockOf (s : FVec F S128x256 .f32) (a b : Fin 2) : FVec F S8x128 .f32 :=
  match a, b with
  | 0, 0 => score00 s
  | 0, 1 => score01 s
  | 1, 0 => score10 s
  | 1, 1 => score11 s

/-- The place of a score inside its block. -/
def inBlock (y : S512x2x2x8x128.Idx) : S1x1x1x8x128.Idx := fun a => match a with
  | 0 => (0 : Fin 1) | 1 => (0 : Fin 1) | 2 => (0 : Fin 1)
  | 3 => (y 3 : Fin 8) | 4 => (y 4 : Fin 128)

/-- The table of kept scores whose rows are the tiles `S`. -/
def keptOf (S : Fin 512 → FVec F S128x256 .f32) : FVec F S512x2x2x8x128 .f32 :=
  fun y => asSlice (blockOf (S (y 0)) (y 1) (y 2)) (inBlock y)

/-- The table `D` on its first `n` rows, what was there before on the others. -/
def upTo (D : FVec F S512x2x2x8x128 .f32) (n : ℕ) (d : FVec F S512x2x2x8x128 .f32) : FVec F S512x2x2x8x128 .f32 :=
  fun y => if (y 0).val < n then D y else d y

theorem upTo_all (D : FVec F S512x2x2x8x128 .f32) (n : ℕ) (h : 512 ≤ n) (d : FVec F S512x2x2x8x128 .f32) : upTo D n d = D := by
  funext y
  have : (y 0).val < 512 := (y 0).isLt
  exact if_pos (by omega)

/-- Being inside a block's place is having its row and its two small coordinates. -/
theorem inPlace_iff (r a b : ℕ) (y : S512x2x2x8x128.Idx) :
    (∀ k, (![r, a, b, 0, 0] : Fin 5 → ℕ) k ≤ (y k).val ∧ (y k).val < (![r, a, b, 0, 0] : Fin 5 → ℕ) k + S1x1x1x8x128.size k)
      ↔ (y 0).val = r ∧ (y 1).val = a ∧ (y 2).val = b := by
  constructor
  · intro h
    have h0 : r ≤ (y 0).val ∧ (y 0).val < r + 1 := h 0
    have h1 : a ≤ (y 1).val ∧ (y 1).val < a + 1 := h 1
    have h2 : b ≤ (y 2).val ∧ (y 2).val < b + 1 := h 2
    omega
  · rintro ⟨h0, h1, h2⟩ k
    have h3 : (y 3).val < 8 := (y 3).isLt
    have h4 : (y 4).val < 128 := (y 4).isLt
    match k with
    | 0 => show r ≤ (y 0).val ∧ (y 0).val < r + 1; omega
    | 1 => show a ≤ (y 1).val ∧ (y 1).val < a + 1; omega
    | 2 => show b ≤ (y 2).val ∧ (y 2).val < b + 1; omega
    | 3 => show 0 ≤ (y 3).val ∧ (y 3).val < 0 + 8; omega
    | 4 => show 0 ≤ (y 4).val ∧ (y 4).val < 0 + 128; omega

/-- One block put, read at an index: the block's value at its own place, what was there elsewhere. -/
theorem put_block (d : FVec F S512x2x2x8x128 .f32) (r a b : ℕ) (s : FVec F S8x128 .f32) (y : S512x2x2x8x128.Idx) :
    VecWindow.put d ![r, a, b, 0, 0] S1x1x1x8x128.size (asSlice s) y
      = if (y 0).val = r ∧ (y 1).val = a ∧ (y 2).val = b then asSlice s (inBlock y) else d y := by
  by_cases h : (y 0).val = r ∧ (y 1).val = a ∧ (y 2).val = b
  · rw [if_pos h]
    have h' := (inPlace_iff r a b y).mpr h
    refine (dif_pos h').trans (congrArg (asSlice s) (funext fun k => Fin.ext ?_))
    refine (Rect.unitLocal_val _ _ _).trans ?_
    obtain ⟨h0, h1, h2⟩ := h
    match k with
    | 0 => show (y 0).val - r = 0; omega
    | 1 => show (y 1).val - a = 0; omega
    | 2 => show (y 2).val - b = 0; omega
    | 3 => show (y 3).val - 0 = (y 3).val; omega
    | 4 => show (y 4).val - 0 = (y 4).val; omega
  · rw [if_neg h]
    exact dif_neg fun h' => h ((inPlace_iff r a b y).mp h')

theorem zero_or_one (u : Fin 2) : u = 0 ∨ u = 1 := by
  match u with
  | 0 => exact Or.inl rfl
  | 1 => exact Or.inr rfl

/-- A tile's four blocks put over the first `r` rows give the first `r + 1`. -/
theorem putScores_upTo (S : Fin 512 → FVec F S128x256 .f32) (r : Fin 512) (d : FVec F S512x2x2x8x128 .f32) :
    putScores r.val (upTo (keptOf S) r.val d) (S r) = upTo (keptOf S) (r.val + 1) d := by
  funext y
  unfold putScores
  rw [put_block, put_block, put_block, put_block]
  unfold upTo
  by_cases hr : (y 0).val = r.val
  · have e0 : (y 0 : Fin 512) = r := Fin.ext hr
    have hk : keptOf S y = asSlice (blockOf (S r) (y 1) (y 2)) (inBlock y) := by
      unfold keptOf; rw [e0]
    have c1 := zero_or_one (y 1)
    have c2 := zero_or_one (y 2)
    rcases c1 with c1 | c1 <;> rcases c2 with c2 | c2 <;>
      · have v1 := congrArg Fin.val c1
        have v2 := congrArg Fin.val c2
        rw [show blockOf (S r) (y 1) (y 2) = blockOf (S r) _ _ from congrArg₂ (blockOf (S r)) c1 c2] at hk
        rw [if_pos (show (y 0).val < r.val + 1 by omega), hk]
        simp [hr, v1, v2, blockOf]
  · rw [if_neg (fun h => hr h.1), if_neg (fun h => hr h.1), if_neg (fun h => hr h.1), if_neg (fun h => hr h.1)]
    by_cases hl : (y 0).val < r.val
    · rw [if_pos hl, if_pos (by omega)]
    · rw [if_neg hl, if_neg (by omega)]

/-- A run of tiles: the table is filled up to the run's end. -/
theorem putTiles_upTo (S : Fin 512 → FVec F S128x256 .f32) (i : grid0.Coords) (sc : FVec F S16x128 .bf16) (q2 : FVec F S128x256 .bf16)
    (x : Vec F S16384x128 .fp8e4m3) (hi : (i 0).val < 16)
    (hS : ∀ t : Fin 32, S ⟨32 * (i 0).val + t.val, by have := t.isLt; omega⟩ = scoresOf sc q2 x t) (d : FVec F S512x2x2x8x128 .f32) :
    (n t : ℕ) → (h : n + t ≤ 32) →
      putTiles i sc q2 x n t h (upTo (keptOf S) (32 * (i 0).val + t) d) = upTo (keptOf S) (32 * (i 0).val + (t + n)) d
  | 0, t, h => rfl
  | n + 1, t, h => by
    have e := putScores_upTo S ⟨32 * (i 0).val + t, by omega⟩ d
    rw [hS ⟨t, by omega⟩] at e
    unfold putTiles
    rw [e]
    refine (putTiles_upTo S i sc q2 x hi hS d n (t + 1) (by omega)).trans ?_
    congr 1; omega

/-- The block read back from the table. -/
theorem window_keptOf (S : Fin 512 → FVec F S128x256 .f32) (r : Fin 512) (a b : Fin 2)
    (h : ∀ k, (![r.val, a.val, b.val, 0, 0] : Fin 5 → ℕ) k + S1x1x1x8x128.size k ≤ S512x2x2x8x128.size k) :
    VecWindow.window (keptOf S) ![r.val, a.val, b.val, 0, 0] S1x1x1x8x128.size h = asSlice (blockOf (S r) a b) := by
  funext y
  have h0 : (y 0).val < 1 := (y 0).isLt
  have h1 : (y 1).val < 1 := (y 1).isLt
  have h2 : (y 2).val < 1 := (y 2).isLt
  show asSlice (blockOf (S _) _ _) (inBlock _) = _
  have e0 : ((Rect.unit (s := S512x2x2x8x128) ![r.val, a.val, b.val, 0, 0] S1x1x1x8x128.size h).emb y 0 : Fin 512) = r :=
    Fin.ext (by show r.val + 1 * (y 0).val = r.val; omega)
  have e1 : ((Rect.unit (s := S512x2x2x8x128) ![r.val, a.val, b.val, 0, 0] S1x1x1x8x128.size h).emb y 1 : Fin 2) = a :=
    Fin.ext (by show a.val + 1 * (y 1).val = a.val; omega)
  have e2 : ((Rect.unit (s := S512x2x2x8x128) ![r.val, a.val, b.val, 0, 0] S1x1x1x8x128.size h).emb y 2 : Fin 2) = b :=
    Fin.ext (by show b.val + 1 * (y 2).val = b.val; omega)
  rw [e0, e1, e2]
  refine congrArg (asSlice (blockOf (S r) a b)) (funext fun k => Fin.ext ?_)
  match k with
  | 0 => show 0 = (y 0).val; omega
  | 1 => show 0 = (y 1).val; omega
  | 2 => show 0 = (y 2).val; omega
  | 3 => show 0 + 1 * (y 3).val = (y 3).val; omega
  | 4 => show 0 + 1 * (y 4).val = (y 4).val; omega

end Cert.KernelIdeal.Hand

end
-- ==== Proof.KernelIdeal.Data.lean ====
/- The kernel's run at any float interpretation: what every scratch buffer and every window's buffer holds after each
   grid point, the body's obligation at each point, and from it the frame: the run ends, its arguments are unchanged and
   every semaphore is back at zero. -/
module

public import proofs.«01_k».proof.Proof.KernelIdeal.State
public import proofs.«01_k».proof.Proof.Gen.KernelIdeal.Frame
public import Idealize.ShloMosaic.Lib.Pipeline.TableIdle
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Facts₀ Facts

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents, point by point -/

/-- Grid point `n` (the last one past the end). -/
def pt (n : ℕ) : Fin cfg0.N := ⟨min n 31, by rw [show cfg0.N = 32 from N_0]; omega⟩

theorem lt_N (t : Fin cfg0.N) : t.val < 32 := lt_of_lt_of_eq t.isLt (show cfg0.N = 32 from N_0)

theorem pt_val (t : Fin cfg0.N) : pt t.val = t := Fin.ext (by have := lt_N t; show min t.val 31 = t.val; omega)

/-- The key scales, the value scales, the query, the new key and value rows, and a point's block of key and value codes. -/
abbrev ksBlk (c : Dev nD) (t : Fin cfg0.N) : FVec F S8 .f32 := iblk m c 0 t
abbrev vsBlk (c : Dev nD) (t : Fin cfg0.N) : FVec F S8 .f32 := iblk m c 1 t
abbrev qBlk (c : Dev nD) (t : Fin cfg0.N) : FVec F S64x128 .bf16 := iblk m c 2 t
abbrev knBlk (c : Dev nD) (t : Fin cfg0.N) : FVec F S8x128 .bf16 := iblk m c 3 t
abbrev vnBlk (c : Dev nD) (t : Fin cfg0.N) : FVec F S8x128 .bf16 := iblk m c 4 t
abbrev kBlk (c : Dev nD) (t : Fin cfg0.N) : Vec F S16384x128 .fp8e4m3 := iblk m c 5 t
abbrev vBlk (c : Dev nD) (t : Fin cfg0.N) : Vec F S16384x128 .fp8e4m3 := iblk m c 6 t

/-- The new token's codes. -/
def kCodes (c : Dev nD) : FVec F S8x128 .fp8e4m3 := newCodes (knBlk m c (pt 0)) (rowScaleOf (ksBlk m c (pt 0)))
def vCodes (c : Dev nD) : FVec F S8x128 .fp8e4m3 := newCodes (vnBlk m c (pt 0)) (rowScaleOf (vsBlk m c (pt 0)))
/-- The query rows as the products use them. -/
def qTwo (c : Dev nD) : FVec F S128x256 .bf16 := query2 (qBlk m c (pt 0))
/-- The new token's padded value rows. -/
def vPair (c : Dev nD) : FVec F S1x128x256 .bf16 := newPair (vCodes m c) (rowScaleOf (vsBlk m c (pt 0)))
/-- The new token's scores. -/
def dNew (c : Dev nD) : FVec F S8x128 .f32 :=
  keep8 (newScores (qTwo m c) (newPair (kCodes m c) (rowScaleOf (ksBlk m c (pt 0)))))

/-- The scores of tile `r` of the cache. -/
def scoreRow (c : Dev nD) (r : Fin 512) : FVec F S128x256 .f32 :=
  scoresOf (tileScaleOf (ksBlk m c (pt (r.val / 32)))) (qTwo m c) (kBlk m c (pt (r.val / 32))) ⟨r.val % 32, Nat.mod_lt _ (by decide)⟩

/-- All the scores. -/
def dAll (c : Dev nD) : FVec F S512x2x2x8x128 .f32 := keptOf (scoreRow m c)

/-- The running maximum before point `n` of the score pass. -/
def mxAt (c : Dev nD) : ℕ → FVec F S8x128 .f32
  | 0 => dNew m c
  | n + 1 => keep8 (maxTiles (tileScaleOf (ksBlk m c (pt n))) (qTwo m c) (kBlk m c (pt n)) 32 0 (by omega) (mxAt c n))

/-- The maximum over all keys. -/
def mFin (c : Dev nD) : FVec F S8x128 .f32 := keep8 (headMax (mxAt m c 16))

/-- The weight sum after `k` points of the value pass. -/
def lAt (c : Dev nD) : ℕ → FVec F S8x128 .f32
  | 0 => keep8 (broadcast S8x128 (Scalar.ofBits .f32 0x00000000#32))
  | k + 1 => keep8 (sumTiles (grid0.coords (pt (k + 16))) (mFin m c) (dAll m c) 32 0 (by omega) (lAt c k))

/-- The weighted value sum after `k` points of the value pass. -/
def oAt (c : Dev nD) : ℕ → FVec F S128x256 .f32
  | 0 => keepAcc (broadcast S128x256 (Scalar.ofBits .f32 0x00000000#32))
  | k + 1 => keepAcc (accTiles (grid0.coords (pt (k + 16))) (mFin m c) (dAll m c) (tileScaleOf (vsBlk m c (pt (k + 16)))) (vBlk m c (pt (k + 16))) 32 0 (by omega) (oAt c k))

/-- What the maximum's buffer holds after `n` points. -/
def mxS (c : Dev nD) (n : ℕ) : FVec F S8x128 .f32 := if n ≤ 16 then mxAt m c n else mFin m c

/-- The result of attention. -/
def yOut (c : Dev nD) : FVec F S64x128 .bf16 := finish (dNew m c) (mFin m c) (lAt m c 16) (oAt m c 16) (vPair m c)

/-! ## The conditions of the body's five passes, and the windows written at some points only -/

theorem coord_val (t : Fin cfg0.N) : (grid0.coords t 0).val = t.val := by
  have e0 : (grid0.coords t 0).val = t.val / 1 % 32 := Pipeline.Grid.coords_val t 0 (by decide) rfl
  have := lt_N t
  omega

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val < 16 :=
  (by decide +kernel : ∀ t : Fin grid0.N, k0_cond2 (grid0.coords t) = 1#1 ↔ t.val < 16)
theorem cond3_iff : ∀ t : Fin cfg0.N, maxCond (grid0.coords t) = 1#1 ↔ t.val = 16 :=
  (by decide +kernel : ∀ t : Fin grid0.N, maxCond (grid0.coords t) = 1#1 ↔ t.val = 16)
theorem cond4_iff : ∀ t : Fin cfg0.N, k0_cond4 (grid0.coords t) = 1#1 ↔ 16 ≤ t.val :=
  (by decide +kernel : ∀ t : Fin grid0.N, k0_cond4 (grid0.coords t) = 1#1 ↔ 16 ≤ t.val)
theorem cond5_iff : ∀ t : Fin cfg0.N, k0_cond5 (grid0.coords t) = 1#1 ↔ t.val = 31 :=
  (by decide +kernel : ∀ t : Fin grid0.N, k0_cond5 (grid0.coords t) = 1#1 ↔ t.val = 31)

theorem idle7 (t : Fin cfg0.N) (h : t.val ≠ 31) : cfg0.idle 7 (cfg0.grid.coords t) = true := by
  show (!(k0_cond5 (grid0.coords t) == 1#1)) = true
  rw [Bool.not_eq_true', beq_eq_false_iff_ne]; exact fun e => h ((cond5_iff t).mp e)
theorem live7 (t : Fin cfg0.N) (h : t.val = 31) : cfg0.idle 7 (cfg0.grid.coords t) = false := by
  show (!(k0_cond5 (grid0.coords t) == 1#1)) = false
  rw [(cond5_iff t).mpr h]; rfl
theorem idle8 (t : Fin cfg0.N) (h : t.val ≠ 0) : cfg0.idle 8 (cfg0.grid.coords t) = true := by
  show (!(k0_cond1 (grid0.coords t) == 1#1)) = true
  rw [Bool.not_eq_true', beq_eq_false_iff_ne]; exact fun e => h ((cond1_iff t).mp e)
theorem live8 (t : Fin cfg0.N) (h : t.val = 0) : cfg0.idle 8 (cfg0.grid.coords t) = false := by
  show (!(k0_cond1 (grid0.coords t) == 1#1)) = false
  rw [(cond1_iff t).mpr h]; rfl
theorem idle9 (t : Fin cfg0.N) (h : t.val ≠ 0) : cfg0.idle 9 (cfg0.grid.coords t) = true := idle8 t h
theorem live9 (t : Fin cfg0.N) (h : t.val = 0) : cfg0.idle 9 (cfg0.grid.coords t) = false := live8 t h

theorem flush7 : ∀ t : Fin cfg0.N, (cfg0.win 7).flush t = true ↔ t.val = 31 :=
  (by decide +kernel : ∀ t : Fin grid0.N, (win0 7).flush t = true ↔ t.val = 31)
theorem flush8 : ∀ t : Fin cfg0.N, (cfg0.win 8).flush t = true ↔ t.val = 31 :=
  (by decide +kernel : ∀ t : Fin grid0.N, (win0 8).flush t = true ↔ t.val = 31)
theorem flush9 : ∀ t : Fin cfg0.N, (cfg0.win 9).flush t = true ↔ t.val = 31 :=
  (by decide +kernel : ∀ t : Fin grid0.N, (win0 9).flush t = true ↔ t.val = 31)

/-! ## The invariant and the proof data -/

abbrev scM0 : Memref sig .tc .vmem S128x256 .bf16 := Memref.whole cc0_scratch0
abbrev scM1 : Memref sig .tc .vmem S2x128x256 .bf16 := Memref.whole cc0_scratch1
abbrev scM2 : Memref sig .tc .vmem S512x2x2x8x128 .f32 := Memref.whole cc0_scratch2
abbrev scM3 : Memref sig .tc .vmem S8x128 .f32 := Memref.whole cc0_scratch3
abbrev scM4 : Memref sig .tc .vmem S8x128 .f32 := Memref.whole cc0_scratch4
abbrev scM5 : Memref sig .tc .vmem S8x128 .f32 := Memref.whole cc0_scratch5
abbrev scM6 : Memref sig .tc .vmem S128x256 .f32 := Memref.whole cc0_scratch6

/-- Before the first point the scratch buffers are owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d)) ∗ (∃ r, prngReg c r)) := by
  unfold Pipeline.ΦA; rw [scopedRest0_eq]; simp only [scM0, scM1, scM2, scM3, scM4, scM5, scM6, owns_whole]; try rfl

/-- After `n` points, `n` at least one. -/
def PhiN (c : Dev nD) (n : ℕ) : sProp 𝕄 :=
  iprop(∃ d w, ⌜halfOf w 1 = vPair m c⌝ ∗ owns (c : Thread nD τ) scM0 fullShare (qTwo m c) ∗ owns (c : Thread nD τ) scM1 fullShare w
    ∗ owns (c : Thread nD τ) scM2 fullShare (upTo (dAll m c) (32 * n) d) ∗ owns (c : Thread nD τ) scM3 fullShare (dNew m c)
    ∗ owns (c : Thread nD τ) scM4 fullShare (mxS m c n) ∗ owns (c : Thread nD τ) scM5 fullShare (lAt m c (n - 16))
    ∗ owns (c : Thread nD τ) scM6 fullShare (oAt m c (n - 16)) ∗ (∃ r, prngReg c r))

/-- Before position `n`. -/
def PhiS (c : Dev nD) : (n : ℕ) → n ≤ cfg0.N → sProp 𝕄
  | 0, _ => Pipeline.ΦA spec0 c
  | n + 1, _ => PhiN m c (n + 1)

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) : PhiS m c n h = PhiN m c n := by
  cases n with
  | zero => exact absurd rfl hz
  | succ n => rfl

/-- The proof data: each input's buffer at its block, the result and the new codes in the outputs' buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yOut m c
    | ⟨8, _⟩ => kCodes m c
    | ⟨9, _⟩ => vCodes m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = yOut m c := by dsimp only [dats]
theorem after8 (c : Dev nD) (t : Fin cfg0.N) : (dats m 0 c).after 8 t = kCodes m c := by dsimp only [dats]
theorem after9 (c : Dev nD) (t : Fin cfg0.N) : (dats m 0 c).after 9 t = vCodes m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

theorem fresh8 : ∀ t : Fin cfg0.N, cfg0.fresh 8 t.val = true ↔ t.val = 0 :=
  (by decide +kernel : ∀ t : Fin grid0.N, cfg0.fresh 8 t.val = true ↔ t.val = 0)
theorem fresh9 : ∀ t : Fin cfg0.N, cfg0.fresh 9 t.val = true ↔ t.val = 0 :=
  (by decide +kernel : ∀ t : Fin grid0.N, cfg0.fresh 9 t.val = true ↔ t.val = 0)

/-- The new codes stay in their buffers from the first point on. -/
theorem before8 (c : Dev nD) (t : Fin cfg0.N) (h : t.val ≠ 0) (d) : (dats m 0 c).before 8 t d = kCodes m c := by
  rw [(dats m 0 c).before_out_traj 8 rfl (fun _ _ => rfl) (fun t _ _ _ => (after8 m c t).trans (after8 m c _).symm) _ t rfl d,
    if_neg (fun e => h ((fresh8 t).mp e)), after8]
theorem before9 (c : Dev nD) (t : Fin cfg0.N) (h : t.val ≠ 0) (d) : (dats m 0 c).before 9 t d = vCodes m c := by
  rw [(dats m 0 c).before_out_traj 9 rfl (fun _ _ => rfl) (fun t _ _ _ => (after9 m c t).trans (after9 m c _).symm) _ t rfl d,
    if_neg (fun e => h ((fresh9 t).mp e)), after9]

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)

theorem ne_true {b : Bool} (h : ¬b = true) : b = false := by cases b <;> simp_all

/-- The result's buffer is handed back as found before the last point, -/
theorem leaves7_of (c : Dev nD) (t : Fin cfg0.N) (h : t.val ≠ 31) :
    (iprop(∃ d, owns (c : Thread nD τ) (ms0_7 t) fullShare ((dats m 0 c).before 7 t d)) : sProp 𝕄) ⊢ (dats m 0 c).leavesExact 7 t := by
  rw [Dat.leavesExact_idle (dats m 0 c) 7 t (idle7 t h) (ne_true fun e => h ((flush7 t).mp e))]
  try exact Entails.refl _
/-- and at the last point it holds the result. -/
theorem leaves7_last (c : Dev nD) (t : Fin cfg0.N) (h : t.val = 31) :
    (dats m 0 c).leavesExact 7 t = owns (c : Thread nD τ) (ms0_7 t) fullShare (yOut m c) := by
  unfold Dat.leavesExact; rw [live7 t h, after7]
/-- The buffer of the new codes at the points after the first: they are there. -/
theorem leaves8_of (c : Dev nD) (t : Fin cfg0.N) (h : t.val ≠ 0) :
    (iprop(∃ d, owns (c : Thread nD τ) (ms0_8 t) fullShare ((dats m 0 c).before 8 t d)) : sProp 𝕄) ⊢ (dats m 0 c).leavesExact 8 t := by
  by_cases hf : t.val = 31
  · have e : (dats m 0 c).leavesExact 8 t = owns (c : Thread nD τ) (ms0_8 t) fullShare (kCodes m c) := by
      unfold Dat.leavesExact; rw [idle8 t h, (flush8 t).mpr hf, after8]
    rw [e]
    simp only [before8 m c t h]
    iintro ⟨%d, H⟩
    iexact H
  · rw [Dat.leavesExact_idle (dats m 0 c) 8 t (idle8 t h) (ne_true fun e => hf ((flush8 t).mp e))]
    try exact Entails.refl _
/-- At the first point they are stored. -/
theorem leaves8_first (c : Dev nD) (t : Fin cfg0.N) (h : t.val = 0) :
    (dats m 0 c).leavesExact 8 t = owns (c : Thread nD τ) (ms0_8 t) fullShare (kCodes m c) := by
  unfold Dat.leavesExact; rw [live8 t h, after8]
/-- The buffer of the new codes at the points after the first: they are there. -/
theorem leaves9_of (c : Dev nD) (t : Fin cfg0.N) (h : t.val ≠ 0) :
    (iprop(∃ d, owns (c : Thread nD τ) (ms0_9 t) fullShare ((dats m 0 c).before 9 t d)) : sProp 𝕄) ⊢ (dats m 0 c).leavesExact 9 t := by
  by_cases hf : t.val = 31
  · have e : (dats m 0 c).leavesExact 9 t = owns (c : Thread nD τ) (ms0_9 t) fullShare (vCodes m c) := by
      unfold Dat.leavesExact; rw [idle9 t h, (flush9 t).mpr hf, after9]
    rw [e]
    simp only [before9 m c t h]
    iintro ⟨%d, H⟩
    iexact H
  · rw [Dat.leavesExact_idle (dats m 0 c) 9 t (idle9 t h) (ne_true fun e => hf ((flush9 t).mp e))]
    try exact Entails.refl _
/-- At the first point they are stored. -/
theorem leaves9_first (c : Dev nD) (t : Fin cfg0.N) (h : t.val = 0) :
    (dats m 0 c).leavesExact 9 t = owns (c : Thread nD τ) (ms0_9 t) fullShare (vCodes m c) := by
  unfold Dat.leavesExact; rw [live9 t h, after9]
theorem leaves0 (c : Dev nD) (t : Fin cfg0.N) :
    (dats m 0 c).leavesExact 0 t = owns (c : Thread nD τ) (ms0_0 t) fullShare (iblk m c 0 t) := by
  unfold Dat.leavesExact; rw [show cfg0.idle 0 (cfg0.grid.coords t) = false from rfl, after0]
theorem leaves1 (c : Dev nD) (t : Fin cfg0.N) :
    (dats m 0 c).leavesExact 1 t = owns (c : Thread nD τ) (ms0_1 t) fullShare (iblk m c 1 t) := by
  unfold Dat.leavesExact; rw [show cfg0.idle 1 (cfg0.grid.coords t) = false from rfl, after1]
theorem leaves2 (c : Dev nD) (t : Fin cfg0.N) :
    (dats m 0 c).leavesExact 2 t = owns (c : Thread nD τ) (ms0_2 t) fullShare (iblk m c 2 t) := by
  unfold Dat.leavesExact; rw [show cfg0.idle 2 (cfg0.grid.coords t) = false from rfl, after2]
theorem leaves3 (c : Dev nD) (t : Fin cfg0.N) :
    (dats m 0 c).leavesExact 3 t = owns (c : Thread nD τ) (ms0_3 t) fullShare (iblk m c 3 t) := by
  unfold Dat.leavesExact; rw [show cfg0.idle 3 (cfg0.grid.coords t) = false from rfl, after3]
theorem leaves4 (c : Dev nD) (t : Fin cfg0.N) :
    (dats m 0 c).leavesExact 4 t = owns (c : Thread nD τ) (ms0_4 t) fullShare (iblk m c 4 t) := by
  unfold Dat.leavesExact; rw [show cfg0.idle 4 (cfg0.grid.coords t) = false from rfl, after4]
theorem leaves5 (c : Dev nD) (t : Fin cfg0.N) :
    (dats m 0 c).leavesExact 5 t = owns (c : Thread nD τ) (ms0_5 t) fullShare (iblk m c 5 t) := by
  unfold Dat.leavesExact; rw [show cfg0.idle 5 (cfg0.grid.coords t) = false from rfl, after5]
theorem leaves6 (c : Dev nD) (t : Fin cfg0.N) :
    (dats m 0 c).leavesExact 6 t = owns (c : Thread nD τ) (ms0_6 t) fullShare (iblk m c 6 t) := by
  unfold Dat.leavesExact; rw [show cfg0.idle 6 (cfg0.grid.coords t) = false from rfl, after6]

end Cert.KernelIdeal.Hand

end
-- ==== Proof.KernelIdeal.Run.lean ====
/- The body's obligation at each grid point, case by case of the passes that run there, and from it the whole run. -/
module

public import proofs.«01_k».proof.Proof.KernelIdeal.Data

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Facts₀ Facts

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## One point's step of each buffer -/

theorem putRow (c : Dev nD) (t : Fin cfg0.N) (ht : t.val < 16) (d : FVec F S512x2x2x8x128 .f32) :
    putTiles (grid0.coords t) (tileScaleOf (ksBlk m c t)) (qTwo m c) (kBlk m c t) 32 0 (by omega) (upTo (dAll m c) (32 * t.val) d)
      = upTo (dAll m c) (32 * (t.val + 1)) d := by
  have e := coord_val t
  have h := putTiles_upTo (scoreRow m c) (grid0.coords t) (tileScaleOf (ksBlk m c t)) (qTwo m c) (kBlk m c t) (by omega)
    (fun u => by
      unfold scoreRow
      have hu := u.isLt
      have e1 : (32 * (grid0.coords t 0).val + u.val) / 32 = t.val := by omega
      have e2 : (⟨(32 * (grid0.coords t 0).val + u.val) % 32, Nat.mod_lt _ (by decide)⟩ : Fin 32) = u := Fin.ext (by show _ % 32 = _; omega)
      simp only [e1, e2, pt_val]) d 32 0 (by omega)
  rw [e] at h
  exact h

theorem upTo_none (D d : FVec F S512x2x2x8x128 .f32) : upTo D 0 d = d := by
  funext y; exact if_neg (Nat.not_lt_zero _)

theorem mxS_score (c : Dev nD) (t : Fin cfg0.N) (ht : t.val < 16) :
    keep8 (maxTiles (tileScaleOf (ksBlk m c t)) (qTwo m c) (kBlk m c t) 32 0 (by omega) (mxS m c t.val)) = mxS m c (t.val + 1) := by
  unfold mxS
  rw [if_pos (by omega), if_pos (by omega)]
  conv_rhs => unfold mxAt
  rw [pt_val]

theorem mxS_max (c : Dev nD) (t : Fin cfg0.N) (ht : t.val = 16) : keep8 (headMax (mxS m c t.val)) = mxS m c (t.val + 1) := by
  unfold mxS
  rw [if_pos (by omega), if_neg (by omega), ht]; rfl

theorem mxS_last (c : Dev nD) (n : ℕ) (h : 16 < n) : mxS m c n = mFin m c := if_neg (by omega)

theorem lStep (c : Dev nD) (t : Fin cfg0.N) (ht : 16 ≤ t.val) :
    keep8 (sumTiles (grid0.coords t) (mFin m c) (dAll m c) 32 0 (by omega) (lAt m c (t.val - 16))) = lAt m c (t.val + 1 - 16) := by
  rw [show t.val + 1 - 16 = (t.val - 16) + 1 by omega]
  conv_rhs => unfold lAt
  rw [show t.val - 16 + 16 = t.val by omega, pt_val]

theorem oStep (c : Dev nD) (t : Fin cfg0.N) (ht : 16 ≤ t.val) :
    keepAcc (accTiles (grid0.coords t) (mFin m c) (dAll m c) (tileScaleOf (vsBlk m c t)) (vBlk m c t) 32 0 (by omega) (oAt m c (t.val - 16))) = oAt m c (t.val + 1 - 16) := by
  rw [show t.val + 1 - 16 = (t.val - 16) + 1 by omega]
  conv_rhs => unfold oAt
  rw [show t.val - 16 + 16 = t.val by omega, pt_val]

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- The first point: the new token, then the first block of scores. -/
theorem sound_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  rw [body_eq]
  dsimp only [body]
  rw [dif_pos ((cond1_iff t).mpr (by omega)), dif_pos ((cond2_iff t).mpr (by omega)), dif_neg (fun e => absurd ((cond3_iff t).mp e) (by omega)), dif_neg (fun e => absurd ((cond4_iff t).mp e) (by omega)), dif_neg (fun e => absurd ((cond5_iff t).mp e) (by omega))]
  simp only [before0, before1, before2, before3, before4, before5, before6, leaves0, leaves1, leaves2, leaves3, leaves4, leaves5, leaves6]
  rw [show (dats m 0 c).owesAt () t.succ = (dats m 0 c).owesAt () t.castSucc from rfl]
  rw [show (dats m 0 c).Φ t.succ = PhiS m c (t.val + 1) t.isLt from rfl, PhiS_pos m c (t.val + 1) _ (by omega), PhiS_castSucc m c t]
  rw [PhiS_zero m c _ _ h0, PhiA_eq, leaves8_first m c t h0, leaves9_first m c t h0]
  iintro ⟨⟨⟨S0, S1, ⟨%d, S2⟩, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (startPass_wp c _ (Facts₀.hstage0_0 ((cfg0.slots t 0).cast Facts₀.nbuf0_0)) _ (Facts₀.hstage0_1 ((cfg0.slots t 1).cast Facts₀.nbuf0_1)) _ (Facts₀.hstage0_2 ((cfg0.slots t 2).cast Facts₀.nbuf0_2)) _ (Facts₀.hstage0_3 ((cfg0.slots t 3).cast Facts₀.nbuf0_3)) _ (Facts₀.hstage0_4 ((cfg0.slots t 4).cast Facts₀.nbuf0_4)) _ (Facts₀.hstage0_8 ((cfg0.slots t 8).cast Facts₀.nbuf0_8)) _ (Facts₀.hstage0_9 ((cfg0.slots t 9).cast Facts₀.nbuf0_9)) _ (Memref.isWhole_whole _) _ (Memref.isWhole_whole _) _ (Memref.isWhole_whole _) _ (Memref.isWhole_whole _) _ (Memref.isWhole_whole _) _ (Memref.isWhole_whole _) (ksBlk m c t) (vsBlk m c t) (qBlk m c t) (knBlk m c t) (vnBlk m c t) _ _ _)
  isplitl [H0]; · iexact H0
  isplitl [H1]; · iexact H1
  isplitl [H2]; · iexact H2
  isplitl [H3]; · iexact H3
  isplitl [H4]; · iexact H4
  isplitl [H8]; · icases H8 with ⟨%d8, H8⟩; iexists _; iexact H8
  isplitl [H9]; · icases H9 with ⟨%d9, H9⟩; iexists _; iexact H9
  isplitl [S0]; · iexact S0
  isplitl [S1]; · iexact S1
  isplitl [S3]; · iexact S3
  isplitl [S4]; · iexact S4
  isplitl [S5]; · iexact S5
  isplitl [S6]; · iexact S6
  iintro ⟨H0, H1, H2, H3, H4, H8, H9, S0, ⟨%w, %hw, S1⟩, S3, S4, S5, S6⟩
  have et : t = pt 0 := Fin.ext (by rw [h0]; rfl)
  have e8 : newCodes (knBlk m c t) (rowScaleOf (ksBlk m c t)) = kCodes m c := by rw [et]; rfl
  have e9 : newCodes (vnBlk m c t) (rowScaleOf (vsBlk m c t)) = vCodes m c := by rw [et]; rfl
  have eq2 : query2 (qBlk m c t) = qTwo m c := by rw [et]; rfl
  have ed : keep8 (newScores (qTwo m c) (newPair (kCodes m c) (rowScaleOf (ksBlk m c t)))) = dNew m c := by rw [et]; rfl
  have ev : newPair (vCodes m c) (rowScaleOf (vsBlk m c t)) = vPair m c := by rw [et]; rfl
  have em : mxS m c t.val = dNew m c := by rw [h0]; rfl
  have el : lAt m c (t.val + 1 - 16) = keep8 (broadcast S8x128 (Scalar.ofBits .f32 0x00000000#32)) := by rw [h0]; rfl
  have eo : oAt m c (t.val + 1 - 16) = keepAcc (broadcast S128x256 (Scalar.ofBits .f32 0x00000000#32)) := by rw [h0]; rfl
  rw [e9, ev] at hw
  rw [e8, e9, eq2, ed, ← el, ← eo]
  have emx := mxS_score m c t (by omega)
  rw [em] at emx
  iapply (scorePass_wp c _ _ _ (Facts₀.hstage0_0 ((cfg0.slots t 0).cast Facts₀.nbuf0_0)) _ (Facts₀.hstage0_5 ((cfg0.slots t 5).cast Facts₀.nbuf0_5)) _ (Memref.isWhole_whole _) _ (Memref.isWhole_whole _) _ (Memref.isWhole_whole _) (ksBlk m c t) (kBlk m c t) (qTwo m c) d (dNew m c) _ _ _)
  isplitl [H0]; · iexact H0
  isplitl [H5]; · iexact H5
  isplitl [S0]; · iexact S0
  isplitl [S2]; · iexact S2
  isplitl [S4]; · iexact S4
  iintro ⟨H0, H5, S0, S2, S4⟩
  have ep := putRow m c t (by omega) d
  rw [show 32 * t.val = 0 by omega, upTo_none] at ep
  rw [ep, emx]
  rw [wp_pure]
  imodintro
  isplitl [S0 S1 S2 S3 S4 S5 S6 Hg]
  · unfold PhiN
    iexists d, w
    isplitl []; · ipureintro; exact hw
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7_of m c t (by omega)); iexact H7
  isplitl [H8]; · iexact H8
  iexact H9

set_option maxHeartbeats 1600000 in
/-- A later point of the score pass. -/
theorem sound_score (c : Dev nD) (t : Fin cfg0.N) (h0 : t.val ≠ 0) (h16 : t.val < 16) :
    bodyPre m c t ⊢ wp frame (wpE (defs₀ (F := F)) Variants.none c none) Set.univ (bodyAt0 t) (fun _ => bodyPost m c t) := by
  unfold bodyPre bodyPost bodyAt0
  rw [body_eq]
  dsimp only [body]
  rw [dif_neg (fun e => absurd ((cond1_iff t).mp e) (by omega)), dif_pos ((cond2_iff t).mpr (by omega)), dif_neg (fun e => absurd ((cond3_iff t).mp e) (by omega)), dif_neg (fun e => absurd ((cond4_iff t).mp e) (by omega)), dif_neg (fun e => absurd ((cond5_iff t).mp e) (by omega))]
  simp only [before0, before1, before2, before3, before4, before5, before6, leaves0, leaves1, leaves2, leaves3, leaves4, leaves5, leaves6]
  rw [show (dats m 0 c).owesAt () t.succ = (dats m 0 c).owesAt () t.castSucc from rfl]
  rw [show (dats m 0 c).Φ t.succ = PhiS m c (t.val + 1) t.isLt from rfl, PhiS_pos m c (t.val + 1) _ (by omega), PhiS_castSucc m c t]
  rw [PhiS_pos m c _ _ h0]
  unfold PhiN
  iintro ⟨⟨%d, %w, %hw, S0, S1, S2, S3, S4, S5, S6, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (scorePass_wp c _ _ _ (Facts₀.hstage0_0 ((cfg0.slots t 0).cast Facts₀.nbuf0_0)) _ (Facts₀.hstage0_5 ((cfg0.slots t 5).cast Facts₀.nbuf0_5)) _ (Memref.isWhole_whole _) _ (Memref.isWhole_whole _) _ (Memref.isWhole_whole _) (ksBlk m c t) (kBlk m c t) (qTwo m c) _ _ _ _ _)
  isplitl [H0]; · iexact H0
  isplitl [H5]; · iexact H5
  isplitl [S0]; · iexact S0
  isplitl [S2]; · iexact S2
  isplitl [S4]; · iexact S4
  iintro ⟨H0, H5, S0, S2, S4⟩
  rw [putRow m c t h16 d, mxS_score m c t h16, show t.val - 16 = t.val + 1 - 16 by omega]
  rw [wp_pure]
  imodintro
  isplitl [S0 S1 S2 S3 S4 S5 S6 Hg]
  · iexists d, w
    isplitl []; · ipureintro; exact hw
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7_of m c t (by omega)); iexact H7
  isplitl [H8]; · iapply (leaves8_of m c t (by omega)); iexact H8
  iapply (leaves9_of m c t (by omega)); iexact H9

set_option maxHeartbeats 1600000 in
/-- The point between the passes: the maximum is finished, then the first block of values. -/
theorem sound_max (c : Dev nD) (t : Fin cfg0.N) (h16 : t.val = 16) :
    bodyPre m c t ⊢ wp frame (wpE (defs₀ (F := F)) Variants.none c none) Set.univ (bodyAt0 t) (fun _ => bodyPost m c t) := by
  unfold bodyPre bodyPost bodyAt0
  rw [body_eq]
  dsimp only [body]
  rw [dif_neg (fun e => absurd ((cond1_iff t).mp e) (by omega)), dif_neg (fun e => absurd ((cond2_iff t).mp e) (by omega)), dif_pos ((cond3_iff t).mpr (by omega)), dif_pos ((cond4_iff t).mpr (by omega)), dif_neg (fun e => absurd ((cond5_iff t).mp e) (by omega))]
  simp only [before0, before1, before2, before3, before4, before5, before6, leaves0, leaves1, leaves2, leaves3, leaves4, leaves5, leaves6]
  rw [show (dats m 0 c).owesAt () t.succ = (dats m 0 c).owesAt () t.castSucc from rfl]
  rw [show (dats m 0 c).Φ t.succ = PhiS m c (t.val + 1) t.isLt from rfl, PhiS_pos m c (t.val + 1) _ (by omega), PhiS_castSucc m c t]
  rw [PhiS_pos m c _ _ (by omega)]
  unfold PhiN
  iintro ⟨⟨%d, %w, %hw, S0, S1, S2, S3, S4, S5, S6, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (maxPass_wp c _ (Memref.isWhole_whole _) _ _ _ _)
  isplitl [S4]; · iexact S4
  iintro S4
  rw [mxS_max m c t h16, mxS_last m c (t.val + 1) (by omega), upTo_all (dAll m c) (32 * t.val) (by omega)]
  simp only [upTo_all (dAll m c) (32 * (t.val + 1)) (by omega)]
  iapply (valuePass_wp c _ _ _ (Facts₀.hstage0_1 ((cfg0.slots t 1).cast Facts₀.nbuf0_1)) _ (Facts₀.hstage0_6 ((cfg0.slots t 6).cast Facts₀.nbuf0_6)) _ (Memref.isWhole_whole _) _ (Memref.isWhole_whole _) _ (Memref.isWhole_whole _) _ (Memref.isWhole_whole _) (vsBlk m c t) (vBlk m c t) _ _ _ _ _ _ _)
  isplitl [H1]; · iexact H1
  isplitl [H6]; · iexact H6
  isplitl [S2]; · iexact S2
  isplitl [S4]; · iexact S4
  isplitl [S5]; · iexact S5
  isplitl [S6]; · iexact S6
  iintro ⟨H1, H6, S2, S4, S5, S6⟩
  rw [lStep m c t (by omega), oStep m c t (by omega)]
  rw [wp_pure]
  imodintro
  isplitl [S0 S1 S2 S3 S4 S5 S6 Hg]
  · iexists d, w
    isplitl []; · ipureintro; exact hw
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7_of m c t (by omega)); iexact H7
  isplitl [H8]; · iapply (leaves8_of m c t (by omega)); iexact H8
  iapply (leaves9_of m c t (by omega)); iexact H9

set_option maxHeartbeats 1600000 in
/-- A later point of the value pass but the last. -/
theorem sound_value (c : Dev nD) (t : Fin cfg0.N) (h16 : 16 < t.val) (h31 : t.val ≠ 31) :
    bodyPre m c t ⊢ wp frame (wpE (defs₀ (F := F)) Variants.none c none) Set.univ (bodyAt0 t) (fun _ => bodyPost m c t) := by
  unfold bodyPre bodyPost bodyAt0
  rw [body_eq]
  dsimp only [body]
  rw [dif_neg (fun e => absurd ((cond1_iff t).mp e) (by omega)), dif_neg (fun e => absurd ((cond2_iff t).mp e) (by omega)), dif_neg (fun e => absurd ((cond3_iff t).mp e) (by omega)), dif_pos ((cond4_iff t).mpr (by omega)), dif_neg (fun e => absurd ((cond5_iff t).mp e) (by omega))]
  simp only [before0, before1, before2, before3, before4, before5, before6, leaves0, leaves1, leaves2, leaves3, leaves4, leaves5, leaves6]
  rw [show (dats m 0 c).owesAt () t.succ = (dats m 0 c).owesAt () t.castSucc from rfl]
  rw [show (dats m 0 c).Φ t.succ = PhiS m c (t.val + 1) t.isLt from rfl, PhiS_pos m c (t.val + 1) _ (by omega), PhiS_castSucc m c t]
  rw [PhiS_pos m c _ _ (by omega)]
  unfold PhiN
  iintro ⟨⟨%d, %w, %hw, S0, S1, S2, S3, S4, S5, S6, Hg⟩, Ho, ⟨%d0, H0⟩, ⟨%d1, H1⟩, ⟨%d2, H2⟩, ⟨%d3, H3⟩, ⟨%d4, H4⟩, ⟨%d5, H5⟩, ⟨%d6, H6⟩, H7, H8, H9⟩
  rw [mxS_last m c t.val h16, mxS_last m c (t.val + 1) (by omega), upTo_all (dAll m c) (32 * t.val) (by omega)]
  simp only [upTo_all (dAll m c) (32 * (t.val + 1)) (by omega)]
  iapply (valuePass_wp c _ _ _ (Facts₀.hstage0_1 ((cfg0.slots t 1).cast Facts₀.nbuf0_1)) _ (Facts₀.hstage0_6 ((cfg0.slots t 6).cast Facts₀.nbuf0_6)) _ (Memref.isWhole_whole _) _ (Memref.isWhole_whole _) _ (Memref.isWhole_whole _) _ (Memref.isWhole_whole _) (vsBlk m c t) (vBlk m c t) _ _ _ _ _ _ _)
  isplitl [H1]; · iexact H1
  isplitl [H6]; · iexact H6
  isplitl [S2]; · iexact S2
  isplitl [S4]; · iexact S4
  isplitl [S5]; · iexact S5
  isplitl [S6]; · iexact S6
  iintro ⟨H1, H6, S2, S4, S5, S6⟩
  rw [lStep m c t (by omega), oStep m c t (by omega)]
  rw [wp_pure]
  imodintro
  isplitl [S0 S1 S2 S3 S4 S5 S6 Hg]
  · iexists d, w
    isplitl []; · ipureintro; exact hw
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7_of m c t (by omega)); iexact H7
  isplitl [H8]; · iapply (leaves8_of m c t (by omega)); iexact H8
  iapply (leaves9_of m c t (by omega)); iexact H9

set_option maxHeartbeats 1600000 in
/-- The last point: the last block of values, then the division. -/
theorem sound_last (c : Dev nD) (t : Fin cfg0.N) (h31 : t.val = 31) :
    bodyPre m c t ⊢ wp frame (wpE (defs₀ (F := F)) Variants.none c none) Set.univ (bodyAt0 t) (fun _ => bodyPost m c t) := by
  unfold bodyPre bodyPost bodyAt0
  rw [body_eq]
  dsimp only [body]
  rw [dif_neg (fun e => absurd ((cond1_iff t).mp e) (by omega)), dif_neg (fun e => absurd ((cond2_iff t).mp e) (by omega)), dif_neg (fun e => absurd ((cond3_iff t).mp e) (by omega)), dif_pos ((cond4_iff t).mpr (by omega)), dif_pos ((cond5_iff t).mpr (by omega))]
  simp only [before0, before1, before2, before3, before4, before5, before6, leaves0, leaves1, leaves2, leaves3, leaves4, leaves5, leaves6]
  rw [show (dats m 0 c).owesAt () t.succ = (dats m 0 c).owesAt () t.castSucc from rfl]
  rw [show (dats m 0 c).Φ t.succ = PhiS m c (t.val + 1) t.isLt from rfl, PhiS_pos m c (t.val + 1) _ (by omega), PhiS_castSucc m c t]
  rw [PhiS_pos m c _ _ (by omega), leaves7_last m c t h31]
  unfold PhiN
  iintro ⟨⟨%d, %w, %hw, S0, S1, S2, S3, S4, S5, S6, Hg⟩, Ho, ⟨%d0, H0⟩, ⟨%d1, H1⟩, ⟨%d2, H2⟩, ⟨%d3, H3⟩, ⟨%d4, H4⟩, ⟨%d5, H5⟩, ⟨%d6, H6⟩, H7, H8, H9⟩
  rw [mxS_last m c t.val (by omega), mxS_last m c (t.val + 1) (by omega), upTo_all (dAll m c) (32 * t.val) (by omega)]
  simp only [upTo_all (dAll m c) (32 * (t.val + 1)) (by omega)]
  iapply (valuePass_wp c _ _ _ (Facts₀.hstage0_1 ((cfg0.slots t 1).cast Facts₀.nbuf0_1)) _ (Facts₀.hstage0_6 ((cfg0.slots t 6).cast Facts₀.nbuf0_6)) _ (Memref.isWhole_whole _) _ (Memref.isWhole_whole _) _ (Memref.isWhole_whole _) _ (Memref.isWhole_whole _) (vsBlk m c t) (vBlk m c t) _ _ _ _ _ _ _)
  isplitl [H1]; · iexact H1
  isplitl [H6]; · iexact H6
  isplitl [S2]; · iexact S2
  isplitl [S4]; · iexact S4
  isplitl [S5]; · iexact S5
  isplitl [S6]; · iexact S6
  iintro ⟨H1, H6, S2, S4, S5, S6⟩
  rw [lStep m c t (by omega), oStep m c t (by omega)]
  iapply (finishPass_wp c _ (Facts₀.hstage0_7 ((cfg0.slots t 7).cast Facts₀.nbuf0_7)) _ (Memref.isWhole_whole _) _ (Memref.isWhole_whole _) _ (Memref.isWhole_whole _) _ (Memref.isWhole_whole _) _ (Memref.isWhole_whole _) w _ _ _ _ _ _ _)
  isplitl [H7]; · icases H7 with ⟨%d7, H7⟩; iexists _; iexact H7
  isplitl [S1]; · iexact S1
  isplitl [S3]; · iexact S3
  isplitl [S4]; · iexact S4
  isplitl [S5]; · iexact S5
  isplitl [S6]; · iexact S6
  iintro ⟨H7, S1, S3, S4, S5, S6⟩
  have ey : finish (dNew m c) (mFin m c) (lAt m c (t.val + 1 - 16)) (oAt m c (t.val + 1 - 16)) (halfOf w 1) = yOut m c := by
    rw [hw, h31]; rfl
  rw [ey]
  rw [wp_pure]
  imodintro
  isplitl [S0 S1 S2 S3 S4 S5 S6 Hg]
  · iexists d, w
    isplitl []; · ipureintro; exact hw
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8_of m c t (by omega)); iexact H8
  iapply (leaves9_of m c t (by omega)); iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h16 : t.val < 16
  · exact sound_score m c t h0 h16
  by_cases h16' : t.val = 16
  · exact sound_max m c t h16'
  by_cases h31 : t.val = 31
  · exact sound_last m c t h31
  exact sound_value m c t (by omega) h31

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  unfold PhiN
  iintro ⟨%d, %w, %hw, S0, S1, S2, S3, S4, S5, S6, Hg⟩
  isplitl [S0 S1 S2 S3 S4 S5 S6]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  iexact Hg

/-! ## The run and the frame -/

set_option backward.isDefEq.respectTransparency.types false in
set_option maxHeartbeats 800000 in
/-- The run, with every semaphore back at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the run ends, the arguments are unchanged, every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Value.Blocks.lean ====
/- The kernel's windows in terms of its arguments, and its results in terms of what the body leaves in the output windows. -/
module

public import proofs.«01_k».proof.Proof.KernelIdeal.Run
public import Idealize.ShloMosaic.Lib.Pipeline.Value
public import Idealize.ShloMosaic.Lib.Pointwise

@[expose] public section

set_option maxRecDepth 16384

noncomputable section

namespace Cert.KernelIdeal.Hand

open Idealize.ShloMosaic Idealize.ShloMosaic.TcCoe Idealize.SL.Sem Cert.KernelIdeal
open Cert.KernelIdeal.Gen hiding shapeCasts_S1x1x8192_S64x128 shapeCasts_S1x1x8x128_S8x128 shapeCasts_S1x32768x8x128_S262144x128 shapeCasts_S64x128_S1x1x8192 shapeCasts_S8x128_S1x1x8x128
open Idealize.ShloMosaic.Pipeline (Dat)
open Facts₀

variable {F : FTy → Type} [FloatOps F] [Named F]
variable (m : (ℓ : Loc nD τ sig) → Buf (Elt F) ℓ) (ρ : Dev nD → PrngReg)

/-! ## What the region finds in the reshaped arguments -/

theorem V_main_v0 (c : Dev nD) : V m c main_v0 = shapeCast S64x128 (m ((c : Thread nD τ).loc main_arg0)) shapeCasts_S1x1x8192_S64x128 := by
  entry_read <;> rfl
theorem V_main_v1 (c : Dev nD) : V m c main_v1 = shapeCast S8x128 (m ((c : Thread nD τ).loc main_arg1)) shapeCasts_S1x1x8x128_S8x128 := by
  entry_read <;> rfl
theorem V_main_v2 (c : Dev nD) : V m c main_v2 = shapeCast S8x128 (m ((c : Thread nD τ).loc main_arg2)) shapeCasts_S1x1x8x128_S8x128 := by
  entry_read <;> rfl
theorem V_main_v3 (c : Dev nD) : V m c main_v3 = shapeCast S262144x128 (m ((c : Thread nD τ).loc main_arg3)) shapeCasts_S1x32768x8x128_S262144x128 := by
  entry_read <;> rfl
theorem V_main_v4 (c : Dev nD) : V m c main_v4 = shapeCast S262144x128 (m ((c : Thread nD τ).loc main_arg5)) shapeCasts_S1x32768x8x128_S262144x128 := by
  entry_read <;> rfl

/-! ## The windows' blocks -/

/-- Which block each window reads or writes at each grid point. -/
theorem idx0 : ∀ t : Fin cfg0.N, win0_0.index t (0 : Fin 1) = 0 := (by decide +kernel : ∀ t : Fin grid0.N, _)
theorem idx1 : ∀ t : Fin cfg0.N, win0_1.index t (0 : Fin 1) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = min t.val 15 ∧ win0_5.index t (1 : Fin 2) = 0 := (by decide +kernel : ∀ t : Fin grid0.N, _)
theorem idx6 : ∀ t : Fin cfg0.N, win0_6.index t (0 : Fin 2) = t.val - 16 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)

/-- The block of the key scales is the whole argument, at every grid point. -/
theorem ksBlk_eq (c : Dev nD) (t : Fin cfg0.N) : ksBlk m c t = m ((c : Thread nD τ).loc main_arg4) := by
  have e0 := idx0 t
  rw [← V_main_arg4 m c]; funext j
  refine congrArg (V m c main_arg4) (funext fun a => Fin.ext ?_)
  match a with
  | ⟨0, _⟩ => show win0_0.index t (0 : Fin 1) * 8 + 1 * (j 0).val = (j 0).val; omega

/-- The block of the value scales is the whole argument. -/
theorem vsBlk_eq (c : Dev nD) (t : Fin cfg0.N) : vsBlk m c t = m ((c : Thread nD τ).loc main_arg6) := by
  have e0 := idx1 t
  rw [← V_main_arg6 m c]; funext j
  refine congrArg (V m c main_arg6) (funext fun a => Fin.ext ?_)
  match a with
  | ⟨0, _⟩ => show win0_1.index t (0 : Fin 1) * 8 + 1 * (j 0).val = (j 0).val; omega

/-- The block of the query is the whole reshaped query. -/
theorem qBlk_eq (c : Dev nD) (t : Fin cfg0.N) : qBlk m c t = shapeCast S64x128 (m ((c : Thread nD τ).loc main_arg0)) shapeCasts_S1x1x8192_S64x128 := by
  obtain ⟨e0, e1⟩ := idx2 t
  rw [← V_main_v0 m c]; funext j
  refine congrArg (V m c main_v0) (funext fun a => Fin.ext ?_)
  match a with
  | ⟨0, _⟩ => show win0_2.index t (0 : Fin 2) * 64 + 1 * (j 0).val = (j 0).val; omega
  | ⟨1, _⟩ => show win0_2.index t (1 : Fin 2) * 128 + 1 * (j 1).val = (j 1).val; omega

/-- The block of the new key is the whole reshaped new key. -/
theorem knBlk_eq (c : Dev nD) (t : Fin cfg0.N) : knBlk m c t = shapeCast S8x128 (m ((c : Thread nD τ).loc main_arg1)) shapeCasts_S1x1x8x128_S8x128 := by
  obtain ⟨e0, e1⟩ := idx3 t
  rw [← V_main_v1 m c]; funext j
  refine congrArg (V m c main_v1) (funext fun a => Fin.ext ?_)
  match a with
  | ⟨0, _⟩ => show win0_3.index t (0 : Fin 2) * 8 + 1 * (j 0).val = (j 0).val; omega
  | ⟨1, _⟩ => show win0_3.index t (1 : Fin 2) * 128 + 1 * (j 1).val = (j 1).val; omega

/-- The block of the new value is the whole reshaped new value. -/
theorem vnBlk_eq (c : Dev nD) (t : Fin cfg0.N) : vnBlk m c t = shapeCast S8x128 (m ((c : Thread nD τ).loc main_arg2)) shapeCasts_S1x1x8x128_S8x128 := by
  obtain ⟨e0, e1⟩ := idx4 t
  rw [← V_main_v2 m c]; funext j
  refine congrArg (V m c main_v2) (funext fun a => Fin.ext ?_)
  match a with
  | ⟨0, _⟩ => show win0_4.index t (0 : Fin 2) * 8 + 1 * (j 0).val = (j 0).val; omega
  | ⟨1, _⟩ => show win0_4.index t (1 : Fin 2) * 128 + 1 * (j 1).val = (j 1).val; omega

/-- A point's block of key codes. -/
theorem kBlk_apply (c : Dev nD) (n : ℕ) (hn : n < 16) (r : Fin 16384) (d : Fin 128) :
    kBlk m c (pt n) (ix2 r d) = shapeCast S262144x128 (m ((c : Thread nD τ).loc main_arg3)) shapeCasts_S1x32768x8x128_S262144x128 (ix2 ⟨16384 * n + r.val, by omega⟩ d) := by
  obtain ⟨e0, e1⟩ := idx5 (pt n)
  have hp : (pt n).val = n := by show min n 31 = n; omega
  rw [← V_main_v3 m c]
  refine congrArg (V m c main_v3) (funext fun a => Fin.ext ?_)
  match a with
  | ⟨0, _⟩ => show win0_5.index (pt n) (0 : Fin 2) * 16384 + 1 * r.val = 16384 * n + r.val; rw [e0, hp]; omega
  | ⟨1, _⟩ => show win0_5.index (pt n) (1 : Fin 2) * 128 + 1 * d.val = d.val; omega

/-- A point's block of value codes. -/
theorem vBlk_apply (c : Dev nD) (n : ℕ) (hn : n < 16) (r : Fin 16384) (d : Fin 128) :
    vBlk m c (pt (n + 16)) (ix2 r d) = shapeCast S262144x128 (m ((c : Thread nD τ).loc main_arg5)) shapeCasts_S1x32768x8x128_S262144x128 (ix2 ⟨16384 * n + r.val, by omega⟩ d) := by
  obtain ⟨e0, e1⟩ := idx6 (pt (n + 16))
  have hp : (pt (n + 16)).val = n + 16 := by show min (n + 16) 31 = n + 16; omega
  rw [← V_main_v4 m c]
  refine congrArg (V m c main_v4) (funext fun a => Fin.ext ?_)
  match a with
  | ⟨0, _⟩ => show win0_6.index (pt (n + 16)) (0 : Fin 2) * 16384 + 1 * r.val = 16384 * n + r.val; rw [e0, hp]; omega
  | ⟨1, _⟩ => show win0_6.index (pt (n + 16)) (1 : Fin 2) * 128 + 1 * d.val = d.val; omega

/-! ## The output arrays -/

/-- The three output windows cover their arrays: an index of the block is the same index of the array. -/
theorem emb7 (t : Fin cfg0.N) (j : S64x128.Idx) : ((cfg0.win 7).blk t).view.emb j = j := by
  obtain ⟨e0, e1⟩ := idx7 t
  funext a; apply Fin.ext
  match a with
  | ⟨0, _⟩ => show win0_7.index t (0 : Fin 2) * 64 + 1 * (j 0).val = (j 0).val; omega
  | ⟨1, _⟩ => show win0_7.index t (1 : Fin 2) * 128 + 1 * (j 1).val = (j 1).val; omega
theorem emb8 (t : Fin cfg0.N) (j : S8x128.Idx) : ((cfg0.win 8).blk t).view.emb j = j := by
  obtain ⟨e0, e1⟩ := idx8 t
  funext a; apply Fin.ext
  match a with
  | ⟨0, _⟩ => show win0_8.index t (0 : Fin 2) * 8 + 1 * (j 0).val = (j 0).val; omega
  | ⟨1, _⟩ => show win0_8.index t (1 : Fin 2) * 128 + 1 * (j 1).val = (j 1).val; omega
theorem emb9 (t : Fin cfg0.N) (j : S8x128.Idx) : ((cfg0.win 9).blk t).view.emb j = j := by
  obtain ⟨e0, e1⟩ := idx9 t
  funext a; apply Fin.ext
  match a with
  | ⟨0, _⟩ => show win0_9.index t (0 : Fin 2) * 8 + 1 * (j 0).val = (j 0).val; omega
  | ⟨1, _⟩ => show win0_9.index t (1 : Fin 2) * 128 + 1 * (j 1).val = (j 1).val; omega

/-- Cutting the window's block out of an array of its size leaves the array. -/
theorem cut7 (t : Fin cfg0.N) (X : FVec F S64x128 .bf16) :
    (cfg0.win 7).cut (grid0.coords t) X = ((cfg0.win 7).blk t).view.read (Elt F) X := by
  funext j
  show X j = X (((cfg0.win 7).blk t).view.emb j)
  rw [emb7]
/-- The attention result's array ends as the last grid point's block. -/
theorem final7 (c : Dev nD) : (dats m 0 c).arrAt 7 cfg0.N = yOut m c :=
  (dats m 0 c).arrAt_eq_of_cover 7 (yOut m c) (fun t _ => by
    show (cfg0.win 7).cut (grid0.coords t) ((dats m 0 c).after 7 t) = _
    rw [after7]; exact cut7 t _)
    fun i => ⟨pt 31, (flush7 _).mpr rfl, by have h := ((cfg0.win 7).blk (pt 31)).view.emb_mem_set i; rwa [emb7] at h⟩

theorem cut8 (t : Fin cfg0.N) (X : FVec F S8x128 .fp8e4m3) :
    (cfg0.win 8).cut (grid0.coords t) X = ((cfg0.win 8).blk t).view.read (Elt F) X := by
  funext j
  show X j = X (((cfg0.win 8).blk t).view.emb j)
  rw [emb8]
/-- The key codes' array ends as the first grid point's block. -/
theorem final8 (c : Dev nD) : (dats m 0 c).arrAt 8 cfg0.N = kCodes m c :=
  (dats m 0 c).arrAt_eq_of_cover 8 (kCodes m c) (fun t _ => by
    show (cfg0.win 8).cut (grid0.coords t) ((dats m 0 c).after 8 t) = _
    rw [after8]; exact cut8 t _)
    fun i => ⟨pt 31, (flush8 _).mpr rfl, by have h := ((cfg0.win 8).blk (pt 31)).view.emb_mem_set i; rwa [emb8] at h⟩

theorem cut9 (t : Fin cfg0.N) (X : FVec F S8x128 .fp8e4m3) :
    (cfg0.win 9).cut (grid0.coords t) X = ((cfg0.win 9).blk t).view.read (Elt F) X := by
  funext j
  show X j = X (((cfg0.win 9).blk t).view.emb j)
  rw [emb9]
/-- The value codes' array ends as the first grid point's block. -/
theorem final9 (c : Dev nD) : (dats m 0 c).arrAt 9 cfg0.N = vCodes m c :=
  (dats m 0 c).arrAt_eq_of_cover 9 (vCodes m c) (fun t _ => by
    show (cfg0.win 9).cut (grid0.coords t) ((dats m 0 c).after 9 t) = _
    rw [after9]; exact cut9 t _)
    fun i => ⟨pt 31, (flush9 _).mpr rfl, by have h := ((cfg0.win 9).blk (pt 31)).view.emb_mem_set i; rwa [emb9] at h⟩

/-! ## The results -/

/-- The ten windows are of ten different arrays. -/
theorem arr_inj : Function.Injective (Pipeline.arrRef spec0) := fun w w' h =>
  (by decide : ∀ w w', Pipeline.arrRef spec0 w = Pipeline.arrRef spec0 w' → w = w') w w' h

/-- After the last reshapes: the attention result, -/
theorem W_main_v6 (c : Dev nD) :
    Pipeline.afterTail₀ cfgs (dats m) 0 (V0 m) [hostOps1] c main_v6 = shapeCast S1x1x8192 (yOut m c) shapeCasts_S64x128_S1x1x8192 := by
  unfold Pipeline.afterTail₀
  have e : Pipeline.withArrays (cfgs 0).spec c (V0 m c) (fun w => (dats m 0 c).arrAt w (cfgs 0).N) (Proc.devRef .tc main_v5_0) = yOut m c :=
    (Pipeline.withArrays_arr (cfgs 0).spec arr_inj c (V0 m c) (fun w => (dats m 0 c).arrAt w (cfgs 0).N) 7).trans (final7 m c)
  simp only [hostOps1, List.flatten_cons, List.flatten_nil, List.append_nil]
  after_results
  rw [e]; rfl

/-- the new key's codes, -/
theorem W_main_v7 (c : Dev nD) :
    Pipeline.afterTail₀ cfgs (dats m) 0 (V0 m) [hostOps1] c main_v7 = shapeCast S1x1x8x128 (kCodes m c) shapeCasts_S8x128_S1x1x8x128 := by
  unfold Pipeline.afterTail₀
  have e : Pipeline.withArrays (cfgs 0).spec c (V0 m c) (fun w => (dats m 0 c).arrAt w (cfgs 0).N) (Proc.devRef .tc main_v5_1) = kCodes m c :=
    (Pipeline.withArrays_arr (cfgs 0).spec arr_inj c (V0 m c) (fun w => (dats m 0 c).arrAt w (cfgs 0).N) 8).trans (final8 m c)
  simp only [hostOps1, List.flatten_cons, List.flatten_nil, List.append_nil]
  after_results
  rw [e]; rfl

/-- and the new value's codes. -/
theorem W_main_v8 (c : Dev nD) :
    Pipeline.afterTail₀ cfgs (dats m) 0 (V0 m) [hostOps1] c main_v8 = shapeCast S1x1x8x128 (vCodes m c) shapeCasts_S8x128_S1x1x8x128 := by
  unfold Pipeline.afterTail₀
  have e : Pipeline.withArrays (cfgs 0).spec c (V0 m c) (fun w => (dats m 0 c).arrAt w (cfgs 0).N) (Proc.devRef .tc main_v5_2) = vCodes m c :=
    (Pipeline.withArrays_arr (cfgs 0).spec arr_inj c (V0 m c) (fun w => (dats m 0 c).arrAt w (cfgs 0).N) 9).trans (final9 m c)
  simp only [hostOps1, List.flatten_cons, List.flatten_nil, List.append_nil]
  after_results
  rw [e]; rfl

/-- The kernel's run: its five results, and its arguments as they were. -/
theorem run_values : θ_run defs (onTc (τ := τ) (main (F := F))) ⟨m, fun _ => 0, ρ⟩ (fun r => ∀ c : Dev nD,
    r.2.mem ((c.tc : Thread nD τ).loc main_v6) = shapeCast S1x1x8192 (yOut m c) shapeCasts_S64x128_S1x1x8192
    ∧ r.2.mem ((c.tc : Thread nD τ).loc main_v7) = shapeCast S1x1x8x128 (kCodes m c) shapeCasts_S8x128_S1x1x8x128
    ∧ r.2.mem ((c.tc : Thread nD τ).loc main_v8) = shapeCast S1x1x8x128 (vCodes m c) shapeCasts_S8x128_S1x1x8x128
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun _ h c =>
    ⟨((h c).2 main_v6 (Pipeline.mem_restRefs_of main_v6 (by decide) (by decide))).trans (W_main_v6 m c),
      ((h c).2 main_v7 (Pipeline.mem_restRefs_of main_v7 (by decide) (by decide))).trans (W_main_v7 m c),
      ((h c).2 main_v8 (Pipeline.mem_restRefs_of main_v8 (by decide) (by decide))).trans (W_main_v8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 0).trans (((dats m 0 c).arrAt_in 0 rfl _).trans ((A_eq m c 0).trans (V_main_arg4 m c))),
      ((h c).2 main_arg5 (Pipeline.mem_restRefs_of main_arg5 (by decide) (by decide))).trans (W_main_arg5 m (dats m) c),
      ((h c).1 1).trans (((dats m 0 c).arrAt_in 1 rfl _).trans ((A_eq m c 1).trans (V_main_arg6 m c)))⟩) (run_main m ρ)

end Cert.KernelIdeal.Hand

end
-- ==== Proof.Value.Reads.lean ====
/- The body's named steps read at an index over the extended reals: which entry of the operands each entry of a dequantised
   tile, of a score block, of the spread weights and of the last division is made of. -/
module

public import proofs.«01_k».proof.Proof.KernelIdeal.Passes
public import Idealize.ShloMosaic.Lib.Pointwise

@[expose] public section

set_option maxRecDepth 16384
set_option synthInstance.maxSize 4096

noncomputable section

namespace Cert.KernelIdeal.Hand

open Idealize.ShloMosaic Idealize.SL.Sem Cert.KernelIdeal
open Facts₀ Facts

/-! ## Heads of lanes and rows -/

/-- The head of a lane. -/
theorem laneHead_apply (g : Fin 8) (l : Fin 128) : laneHead (ix2 g l) = BitVec.ofNat 32 (l.val % 8) := by
  pointwise [laneHead, modEight]
  revert l; decide

/-- The head of a row of eight. -/
theorem rowHead8_apply (r : Fin 8) (l : Fin 128) : rowHead8 (ix2 r l) = BitVec.ofNat 32 (r.val % 8) := by
  pointwise [rowHead8, modEight]
  revert r; decide

/-- The head of a row of sixteen. -/
theorem rowHead16_apply (r : Fin 16) (l : Fin 128) : rowHead16 (ix2 r l) = BitVec.ofNat 32 (r.val % 8) := by
  pointwise [rowHead16, modEight]
  revert r; decide

/-- The head of a lane, for sixteen rows. -/
theorem laneHead16_apply (r : Fin 16) (l : Fin 128) : laneHead16 (ix2 r l) = BitVec.ofNat 32 (l.val % 8) := by
  pointwise [laneHead16, modEight]
  revert l; decide

/-- Which eight rows of sixteen a row is in. -/
theorem rowGroup16_apply (r : Fin 16) (l : Fin 128) : rowGroup16 (ix2 r l) = BitVec.ofNat 32 (r.val / 8) := by
  pointwise [rowGroup16]
  revert r; decide

/-- Two entries of a matrix at equal coordinates. -/
theorem rd2 {α : Type} {n m : ℕ} (x : (⟨2, ![n, m]⟩ : Shape).Idx → α) {a a' : Fin n} {b b' : Fin m} (ha : a.val = a'.val) (hb : b.val = b'.val) :
    x (ix2 a b) = x (ix2 a' b') := by rw [Fin.ext ha, Fin.ext hb]

/-- A selection by the equality of two numbers below eight. -/
theorem select_eq8 (n k : ℕ) (hn : n < 8) (hk : k < 8) (a b : EReal) :
    Scalar.select (IntOp.cmpi .eq (BitVec.ofNat 32 n) (BitVec.ofNat 32 k)) a b = if n = k then a else b := by
  rw [Scalar.select_def]
  interval_cases n <;> interval_cases k <;> rfl

/-- From the products of all query rows with a lane's key, the rows of the lane's own head are kept. -/
theorem selectHeads_apply (x : FVec Ideal S64x128 .f32) (g : Fin 8) (l : Fin 128) :
    selectHeads x (ix2 g l) = x (ix2 ⟨8 * (l.val % 8) + g.val, by omega⟩ l) := by
  pointwise [selectHeads]
  rw [laneHead_apply]
  have hl : l.val % 8 < 8 := Nat.mod_lt _ (by decide)
  rw [select_eq8 _ 7 hl (by decide), select_eq8 _ 6 hl (by decide), select_eq8 _ 5 hl (by decide), select_eq8 _ 4 hl (by decide),
    select_eq8 _ 3 hl (by decide), select_eq8 _ 2 hl (by decide), select_eq8 _ 1 hl (by decide)]
  split_ifs <;> exact rd2 x (by dsimp only; omega) rfl

/-- The scale of a row of eight is its head's. -/
theorem rowScaleOf_apply (s : Vec Ideal S8 .f32) (r : Fin 8) (d : Fin 128) : rowScaleOf s (ix2 r d) = s (ix1 r) := by
  pointwise [rowScaleOf, rowScale]
  rw [rowHead8_apply]
  have e : ∀ j : Fin 8, scaleAt s j = s (ix1 j) := fun j => congrArg s (funext fun a => by match a with | 0 => rfl)
  simp only [e]
  fin_cases r <;> rfl

/-- The scale of a row of sixteen is its head's. -/
theorem tileScaleOf_apply (s : Vec Ideal S8 .f32) (r : Fin 16) (d : Fin 128) : tileScaleOf s (ix2 r d) = s (ix1 ⟨r.val % 8, by omega⟩) := by
  pointwise [tileScaleOf, tileScale, rowScale]
  rw [rowHead16_apply]
  have e : ∀ j : Fin 8, scaleAt s j = s (ix1 j) := fun j => congrArg s (funext fun a => by match a with | 0 => rfl)
  simp only [e]
  fin_cases r <;> rfl

/-- The left half of a dequantised tile is the tile's first half, -/
theorem dequant_left (sc : FVec Ideal S16x128 .bf16) (x : Vec Ideal S512x128 .fp8e4m3) (k : Fin 256) (d : Fin 128) :
    dequantPair sc x (ix2 k ⟨d.val, by omega⟩) = x (ix2 ⟨k.val, by omega⟩ d) * sc (ix2 ⟨k.val % 16, by omega⟩ d) := by
  pointwise [dequantPair]
  exact congrArg₂ _ (rd2 x (by show k.val / 16 * 16 + k.val % 16 = k.val; omega) rfl) rfl

/-- and the right half is the tile's second half. -/
theorem dequant_right (sc : FVec Ideal S16x128 .bf16) (x : Vec Ideal S512x128 .fp8e4m3) (k : Fin 256) (d : Fin 128) :
    dequantPair sc x (ix2 k ⟨128 + d.val, by omega⟩) = x (ix2 ⟨256 + k.val, by omega⟩ d) * sc (ix2 ⟨k.val % 16, by omega⟩ d) := by
  pointwise [dequantPair]
  exact congrArg₂ _ (rd2 x (by show (256 + k.val) / 16 * 16 + (256 + k.val) % 16 = 256 + k.val; omega) rfl)
    (rd2 sc (by show (256 + k.val) % 16 = k.val % 16; omega) rfl)

/-- The upper half of a tile's scores is of its first half, -/
theorem tileScores_low (x2 : FVec Ideal S256x256 .bf16) (q : Vec Ideal S64x128 .bf16) (i : Fin 64) (k : Fin 256) :
    tileScores x2 (query2 q) (ix2 ⟨i.val, by omega⟩ k) = ∑ d : Fin 128, q (ix2 i d) * x2 (ix2 k ⟨d.val, by omega⟩) := by
  pointwise [tileScores, query2]
  simp only [zero_mul, Finset.sum_const_zero, add_zero, zero_add]

/-- and the lower half is of its second half. -/
theorem tileScores_high (x2 : FVec Ideal S256x256 .bf16) (q : Vec Ideal S64x128 .bf16) (i : Fin 64) (k : Fin 256) :
    tileScores x2 (query2 q) (ix2 ⟨64 + i.val, by omega⟩ k) = ∑ d : Fin 128, q (ix2 i d) * x2 (ix2 k ⟨128 + d.val, by omega⟩) := by
  pointwise [tileScores, query2]
  simp only [zero_mul, Finset.sum_const_zero, add_zero, zero_add]

/-- A mask of the spread weights, as a selection. -/
theorem headMask_apply (k : BitVec 32) (r : Fin 16) (l : Fin 128) :
    (headMask k : FVec Ideal S16x128 .bf16) (ix2 r l) = Scalar.select (IntOp.cmpi .eq (BitVec.ofNat 32 (l.val % 8)) (IntOp.addi (BitVec.ofNat 32 (r.val / 8)) k)) (1 : EReal) 0 := by
  pointwise [headMask]
  rw [laneHead16_apply, rowGroup16_apply]

/-- The mask as a condition. -/
theorem headMask_if (k : ℕ) (hk : k < 7) (r : Fin 16) (l : Fin 128) :
    (headMask (BitVec.ofNat 32 k) : FVec Ideal S16x128 .bf16) (ix2 r l) = if l.val % 8 = r.val / 8 + k then (1 : EReal) else 0 := by
  rw [headMask_apply, show IntOp.addi (BitVec.ofNat 32 (r.val / 8)) (BitVec.ofNat 32 k) = BitVec.ofNat 32 (r.val / 8 + k) from (BitVec.ofNat_add _ _).symm]
  exact select_eq8 _ _ (by omega) (by omega) _ _

/-- One piece of the spread weights. -/
theorem spread_piece (p : FVec Ideal S8x128 .f32) (b : ℕ) (hb : b < 4) (i : Fin 64) (l : Fin 128) (h : i.val / 16 = b) (r : Fin 16) (hr : r.val = i.val % 16) :
    (if h1 : r.val < 8 then p (ix2 ⟨r.val, h1⟩ l) else p (ix2 ⟨r.val - 8, by omega⟩ l)) * (headMask (BitVec.ofNat 32 (2 * b)) : FVec Ideal S16x128 .bf16) (ix2 r l)
      = if l.val % 8 = i.val / 8 then p (ix2 ⟨i.val % 8, by omega⟩ l) else 0 := by
  rw [headMask_if _ (by omega)]
  have e : (if h1 : r.val < 8 then p (ix2 ⟨r.val, h1⟩ l) else p (ix2 ⟨r.val - 8, by omega⟩ l)) = p (ix2 ⟨i.val % 8, by omega⟩ l) := by
    by_cases h1 : r.val < 8
    · rw [dif_pos h1]; exact rd2 p (by show r.val = i.val % 8; omega) rfl
    · rw [dif_neg h1]; exact rd2 p (by show r.val - 8 = i.val % 8; omega) rfl
  rw [e]
  by_cases hc : l.val % 8 = i.val / 8
  · rw [if_pos hc, if_pos (by omega), mul_one]
  · rw [if_neg hc, if_neg (by omega), mul_zero]

/-- The weights spread over all query rows: a row has its own on the lanes of its head, and zero on the others. -/
theorem spreadHeads_apply (p : FVec Ideal S8x128 .f32) (i : Fin 64) (l : Fin 128) :
    spreadHeads p (ix2 i l) = if l.val % 8 = i.val / 8 then p (ix2 ⟨i.val % 8, by omega⟩ l) else 0 := by
  pointwise [spreadHeads]
  by_cases h0 : i.val < 16
  · rw [dif_pos h0]; exact spread_piece p 0 (by decide) i l (by omega) ⟨i.val, h0⟩ (by show i.val = _; omega)
  by_cases h1 : i.val - 16 < 16
  · rw [dif_neg h0, dif_pos h1]; exact spread_piece p 1 (by decide) i l (by omega) ⟨i.val - 16, h1⟩ (by show i.val - 16 = _; omega)
  by_cases h2 : i.val - 16 - 16 < 16
  · rw [dif_neg h0, dif_neg h1, dif_pos h2]; exact spread_piece p 2 (by decide) i l (by omega) ⟨i.val - 16 - 16, h2⟩ (by show i.val - 16 - 16 = _; omega)
  · rw [dif_neg h0, dif_neg h1, dif_neg h2]; exact spread_piece p 3 (by decide) i l (by omega) ⟨i.val - 16 - 16 - 16, by omega⟩ (by show i.val - 16 - 16 - 16 = _; omega)

/-- The dequantised new token, in the first eight rows of the scratch. -/
theorem newPair_apply (codes : FVec Ideal S8x128 .fp8e4m3) (sc : FVec Ideal S8x128 .f32) (k : Fin 128) (d : Fin 128) :
    newPair codes sc (ix3 0 k ⟨d.val, by omega⟩) = if h : k.val < 8 then codes (ix2 ⟨k.val, h⟩ d) * sc (ix2 ⟨k.val, h⟩ d) else 0 := by
  pointwise [newPair]

/-- The bits of negative infinity. -/
theorem ofBits_negInf : Ideal.ofBits .f32 0xFF800000#32 = ⊥ := by
  simp [Ideal.ofBits, Ideal.ieee]

/-- The comparison of a lane with eight. -/
theorem lt8_bit (l : Fin 128) : IntOp.cmpi .slt (BitVec.ofNat 32 l.val) 8#32 = if l.val < 8 then 1#1 else 0#1 := by
  revert l; decide

/-- The new token's scores on the first eight lanes, and negative infinity on the others. -/
theorem newScores_apply (q : Vec Ideal S64x128 .bf16) (v : Vec Ideal S1x128x256 .bf16) (g : Fin 8) (l : Fin 128) :
    newScores (query2 q) v (ix2 g l) = if l.val < 8 then ∑ d : Fin 128, q (ix2 ⟨8 * (l.val % 8) + g.val, by omega⟩ d) * v (ix3 0 l ⟨d.val, by omega⟩) else ⊥ := by
  pointwise [newScores]
  rw [selectHeads_apply, lt8_bit]
  have e : ∀ i : Fin 64, extractStridedSlice S64x128 ![0, 0] (Ideal.matmul dot_S128x256_S128x256_S128x128_1_1_0_0_n_n (query2 q)
      (shapeCast S128x256 v shapeCasts_S1x128x256_S128x256) (constant S128x128 FTy.f32 0#32 : FVec Ideal S128x128 .f32)) slices_S128x128_o0_0_S64x128 (ix2 i l)
      = ∑ d : Fin 128, q (ix2 i d) * v (ix3 0 l ⟨d.val, by omega⟩) := by
    intro i
    pointwise [query2]
    simp only [zero_mul, Finset.sum_const_zero, add_zero, zero_add]
  rw [e]
  by_cases h : l.val < 8
  · rw [if_pos h, if_pos h]; rfl
  · rw [if_neg h, if_neg h]; exact ofBits_negInf

/-- The weight sum of one query row. -/
theorem headSum_apply (l : FVec Ideal S8x128 .f32) (k : ℕ) (hk : k < 8) (i : Fin 64) (hi : i.val / 8 = k) (g : Fin 8) (hg : g.val = i.val % 8) :
    (∑ x : Fin 128, Scalar.select (IntOp.cmpi CmpIPredicate.eq (laneHead (ix2 g x)) (BitVec.ofNat 32 k)) (l (ix2 g x)) (0 : EReal))
      = ∑ x : Fin 128, if x.val % 8 = i.val / 8 then l (ix2 ⟨i.val % 8, by omega⟩ x) else 0 := by
  refine Finset.sum_congr rfl fun x _ => ?_
  rw [laneHead_apply, select_eq8 _ _ (by omega) hk, hi, rd2 l (show g.val = (⟨i.val % 8, by omega⟩ : Fin 8).val from hg) rfl]

/-- The weight sum of a query row is over the lanes of its head. -/
theorem headSums_apply (l : FVec Ideal S8x128 .f32) (i : Fin 64) (d : Fin 128) :
    headSums l (ix2 i d) = ∑ k : Fin 128, if k.val % 8 = i.val / 8 then l (ix2 ⟨i.val % 8, by omega⟩ k) else 0 := by
  pointwise [headSums, headSum]
  by_cases h0 : i.val < 8
  · rw [dif_pos h0]; exact headSum_apply l 0 (by decide) i (by omega) ⟨i.val, h0⟩ (by show i.val = _; omega)
  rw [dif_neg h0]
  by_cases h1 : i.val - 8 < 8
  · rw [dif_pos h1]; exact headSum_apply l 1 (by decide) i (by omega) ⟨i.val - 8, h1⟩ (by show i.val - 8 = _; omega)
  rw [dif_neg h1]
  by_cases h2 : i.val - 8 - 8 < 8
  · rw [dif_pos h2]; exact headSum_apply l 2 (by decide) i (by omega) ⟨i.val - 8 - 8, h2⟩ (by show i.val - 8 - 8 = _; omega)
  rw [dif_neg h2]
  by_cases h3 : i.val - 8 - 8 - 8 < 8
  · rw [dif_pos h3]; exact headSum_apply l 3 (by decide) i (by omega) ⟨i.val - 8 - 8 - 8, h3⟩ (by show i.val - 8 - 8 - 8 = _; omega)
  rw [dif_neg h3]
  by_cases h4 : i.val - 8 - 8 - 8 - 8 < 8
  · rw [dif_pos h4]; exact headSum_apply l 4 (by decide) i (by omega) ⟨i.val - 8 - 8 - 8 - 8, h4⟩ (by show i.val - 8 - 8 - 8 - 8 = _; omega)
  rw [dif_neg h4]
  by_cases h5 : i.val - 8 - 8 - 8 - 8 - 8 < 8
  · rw [dif_pos h5]; exact headSum_apply l 5 (by decide) i (by omega) ⟨i.val - 8 - 8 - 8 - 8 - 8, h5⟩ (by show i.val - 8 - 8 - 8 - 8 - 8 = _; omega)
  rw [dif_neg h5]
  by_cases h6 : i.val - 8 - 8 - 8 - 8 - 8 - 8 < 8
  · rw [dif_pos h6]; exact headSum_apply l 6 (by decide) i (by omega) ⟨i.val - 8 - 8 - 8 - 8 - 8 - 8, h6⟩ (by show i.val - 8 - 8 - 8 - 8 - 8 - 8 = _; omega)
  rw [dif_neg h6]
  exact headSum_apply l 7 (by decide) i (by omega) ⟨i.val - 8 - 8 - 8 - 8 - 8 - 8 - 8, by omega⟩ (by show i.val - 8 - 8 - 8 - 8 - 8 - 8 - 8 = _; omega)

/-- The last division, entry by entry. -/
theorem finish_apply (dn m l : Vec Ideal S8x128 .f32) (o : Vec Ideal S128x256 .f32) (v : Vec Ideal S1x128x256 .bf16) (i : Fin 64) (d : Fin 128) :
    finish dn m l o v (ix2 i d) = Ideal.div
      (o (ix2 ⟨i.val, by omega⟩ ⟨d.val, by omega⟩) + o (ix2 ⟨64 + i.val, by omega⟩ ⟨128 + d.val, by omega⟩) +
        ∑ k : Fin 128, (if k.val % 8 = i.val / 8 then (weights (F := Ideal) m dn (ix2 ⟨i.val % 8, by omega⟩ k) : EReal) else 0) * v (ix3 0 k ⟨d.val, by omega⟩))
      (∑ k : Fin 128, if k.val % 8 = i.val / 8 then l (ix2 ⟨i.val % 8, by omega⟩ k) + (weights (F := Ideal) m dn (ix2 ⟨i.val % 8, by omega⟩ k) : EReal) else 0) := by
  pointwise [finish]
  rw [headSums_apply]
  simp only [spreadHeads_apply]
  rfl

/-- Place `n` of row `g`, the lanes taken round, is at most `z`. -/
def Le (v : FVec Ideal S8x128 .f32) (g : Fin 8) (z : EReal) (n : ℕ) : Prop := v (ix2 g ⟨n % 128, by omega⟩) ≤ z

/-- At a lane, without going round. -/
theorem Le_lane (v : FVec Ideal S8x128 .f32) (g : Fin 8) (z : EReal) (l : Fin 128) : Le v g z l.val ↔ v (ix2 g l) ≤ z := by
  unfold Le
  rw [rd2 v (show g.val = g.val from rfl) (show (⟨l.val % 128, by omega⟩ : Fin 128).val = l.val from Nat.mod_eq_of_lt l.isLt)]

/-- One rotation. -/
theorem roll_le (v : FVec Ideal S8x128 .f32) (s : ℕ) (hs : s < 128) (w : BitVec 32)
    (g : Fin 8) (z : EReal) (n : ℕ)
    (h : ∀ l : Fin 128, maximumf v (dynamicRotate 1 w none v rotates_S8x128_d1) (ix2 g l) = max (v (ix2 g l)) (v (ix2 g ⟨(l.val + 128 - s) % 128, Nat.mod_lt _ (by decide)⟩))) :
    Le (maximumf v (dynamicRotate 1 w none v rotates_S8x128_d1)) g z n ↔ Le v g z n ∧ Le v g z (n + (128 - s)) := by
  unfold Le
  rw [h, max_le_iff, rd2 v (show g.val = g.val from rfl) (show (⟨((n % 128 : ℕ) + 128 - s) % 128, Nat.mod_lt _ (by decide)⟩ : Fin 128).val = (⟨(n + (128 - s)) % 128, Nat.mod_lt _ (by decide)⟩ : Fin 128).val by dsimp only; omega)]

/-- The four rotations: by 8, 16, 32 and 64 lanes. -/
theorem roll8 (v : FVec Ideal S8x128 .f32) (g : Fin 8) (z : EReal) (n : ℕ) :
    Le (maximumf v (dynamicRotate 1 8#32 none v rotates_S8x128_d1)) g z n ↔ Le v g z n ∧ Le v g z (n + 120) :=
  roll_le v 8 (by decide) _ g z n (fun l => by pointwise)
theorem roll16 (v : FVec Ideal S8x128 .f32) (g : Fin 8) (z : EReal) (n : ℕ) :
    Le (maximumf v (dynamicRotate 1 16#32 none v rotates_S8x128_d1)) g z n ↔ Le v g z n ∧ Le v g z (n + 112) :=
  roll_le v 16 (by decide) _ g z n (fun l => by pointwise)
theorem roll32 (v : FVec Ideal S8x128 .f32) (g : Fin 8) (z : EReal) (n : ℕ) :
    Le (maximumf v (dynamicRotate 1 32#32 none v rotates_S8x128_d1)) g z n ↔ Le v g z n ∧ Le v g z (n + 96) :=
  roll_le v 32 (by decide) _ g z n (fun l => by pointwise)
theorem roll64 (v : FVec Ideal S8x128 .f32) (g : Fin 8) (z : EReal) (n : ℕ) :
    Le (maximumf v (dynamicRotate 1 64#32 none v rotates_S8x128_d1)) g z n ↔ Le v g z n ∧ Le v g z (n + 64) :=
  roll_le v 64 (by decide) _ g z n (fun l => by pointwise)

/-- The maximum over the lanes of one head is at most `z` when each of them is. -/
theorem headMax_le (m : FVec Ideal S8x128 .f32) (g : Fin 8) (l : Fin 128) (z : EReal) :
    headMax m (ix2 g l) ≤ z ↔ ∀ l' : Fin 128, l'.val % 8 = l.val % 8 → m (ix2 g l') ≤ z := by
  rw [← Le_lane]
  have r8 := fun n => roll8 m g z n
  have r4 := fun n => (roll16 _ g z n).trans (and_congr (r8 n) (r8 (n + 112)))
  have r2 := fun n => (roll32 _ g z n).trans (and_congr (r4 n) (r4 (n + 96)))
  refine ((roll64 _ g z _).trans (and_congr (r2 l.val) (r2 (l.val + 64)))).trans ?_
  constructor
  · rintro ⟨⟨⟨⟨a0, a1⟩, a2, a3⟩, ⟨a4, a5⟩, a6, a7⟩, ⟨⟨a8, a9⟩, a10, a11⟩, ⟨a12, a13⟩, a14, a15⟩ l' h
    obtain ⟨k, hk, e⟩ : ∃ k, k < 16 ∧ l'.val = (l.val + 120 * k) % 128 := ⟨(l.val + 128 - l'.val) / 8 % 16, by omega, by omega⟩
    interval_cases k
    · exact le_of_eq_of_le (rd2 m rfl (by dsimp only; omega)) a0
    · exact le_of_eq_of_le (rd2 m rfl (by dsimp only; omega)) a1
    · exact le_of_eq_of_le (rd2 m rfl (by dsimp only; omega)) a2
    · exact le_of_eq_of_le (rd2 m rfl (by dsimp only; omega)) a3
    · exact le_of_eq_of_le (rd2 m rfl (by dsimp only; omega)) a4
    · exact le_of_eq_of_le (rd2 m rfl (by dsimp only; omega)) a5
    · exact le_of_eq_of_le (rd2 m rfl (by dsimp only; omega)) a6
    · exact le_of_eq_of_le (rd2 m rfl (by dsimp only; omega)) a7
    · exact le_of_eq_of_le (rd2 m rfl (by dsimp only; omega)) a8
    · exact le_of_eq_of_le (rd2 m rfl (by dsimp only; omega)) a9
    · exact le_of_eq_of_le (rd2 m rfl (by dsimp only; omega)) a10
    · exact le_of_eq_of_le (rd2 m rfl (by dsimp only; omega)) a11
    · exact le_of_eq_of_le (rd2 m rfl (by dsimp only; omega)) a12
    · exact le_of_eq_of_le (rd2 m rfl (by dsimp only; omega)) a13
    · exact le_of_eq_of_le (rd2 m rfl (by dsimp only; omega)) a14
    · exact le_of_eq_of_le (rd2 m rfl (by dsimp only; omega)) a15
  · intro h
    have h' : ∀ n, n % 8 = l.val % 8 → Le m g z n := fun n hn => h _ (by show n % 128 % 8 = _; omega)
    refine ⟨⟨⟨⟨h' _ ?_, h' _ ?_⟩, h' _ ?_, h' _ ?_⟩, ⟨h' _ ?_, h' _ ?_⟩, h' _ ?_, h' _ ?_⟩, ⟨⟨h' _ ?_, h' _ ?_⟩, h' _ ?_, h' _ ?_⟩, ⟨h' _ ?_, h' _ ?_⟩, h' _ ?_, h' _ ?_⟩
    all_goals omega

end Cert.KernelIdeal.Hand

end
-- ==== Proof.Value.Passes.lean ====
/- The two passes over the tiles as a maximum and as sums over the tiles, entry by entry, over the extended reals. -/
module

public import proofs.«01_k».proof.Proof.KernelIdeal.Data
public import proofs.«01_k».proof.Proof.Value.Reads

@[expose] public section

set_option maxRecDepth 16384
set_option synthInstance.maxSize 4096

noncomputable section

namespace Cert.KernelIdeal.Hand

open Idealize.ShloMosaic Idealize.ShloMosaic.TcCoe Idealize.SL.Sem Cert.KernelIdeal Cert.KernelIdeal.Gen
open Facts₀ Facts

/-- Storing an 8×128 value and reading it back changes nothing. -/
theorem keep8_eq (x : FVec Ideal S8x128 .f32) : keep8 x = x := by
  funext i; pointwise [keep8]
/-- Storing the accumulator and reading it back changes nothing. -/
theorem keepAcc_eq (x : FVec Ideal S128x256 .f32) : keepAcc x = x := by
  funext i; pointwise [keepAcc]
/-- Reshaping a score block for the scratch and back changes nothing. -/
theorem ofSlice_asSlice (x : FVec Ideal S8x128 .f32) : ofSlice (asSlice x) = x := by
  funext i; pointwise [ofSlice, asSlice]

/-- An entry of tile `t` of a cache block. -/
theorem tileOf_apply (x : Vec Ideal S16384x128 .fp8e4m3) (t : Fin 32) (r : Fin 512) (d : Fin 128) :
    tileOf x t (ix2 r d) = x (ix2 ⟨512 * t.val + r.val, by omega⟩ d) := by
  refine congrArg x (funext fun a => Fin.ext ?_)
  match a with
  | ⟨0, _⟩ => show t.val * 512 + 1 * r.val = 512 * t.val + r.val; omega
  | ⟨1, _⟩ => show 0 + 1 * d.val = d.val; omega

/-- An entry of a score block: the product of a query row and a dequantised key row. -/
theorem blockOf_scores (ks : FVec Ideal S8 .f32) (q : FVec Ideal S64x128 .bf16) (x : Vec Ideal S16384x128 .fp8e4m3) (t : Fin 32) (a b : Fin 2) (g : Fin 8) (l : Fin 128) :
    blockOf (scoresOf (tileScaleOf ks) (query2 q) x t) a b (ix2 g l)
      = ∑ d : Fin 128, q (ix2 ⟨8 * (l.val % 8) + g.val, by omega⟩ d)
          * (x (ix2 ⟨512 * t.val + (256 * b.val + 128 * a.val + l.val), by omega⟩ d) * ks (ix1 ⟨l.val % 8, by omega⟩)) := by
  rcases zero_or_one a with rfl | rfl <;> rcases zero_or_one b with rfl | rfl
  · show score00 _ (ix2 g l) = _
    unfold score00 scoresOf
    rw [selectHeads_apply]
    pointwise
    refine (tileScores_low _ q ⟨8 * (l.val % 8) + g.val, by omega⟩ ⟨l.val, by omega⟩).trans (Finset.sum_congr rfl fun d _ => congrArg _ ?_)
    rw [dequant_left, tileScaleOf_apply, tileOf_apply]
    exact congrArg₂ _ (rd2 x (by dsimp only [Fin.val_zero, Fin.val_one] <;> omega) rfl) (congrArg ks (congrArg ix1 (Fin.ext (by dsimp only; omega))))
  · show score01 _ (ix2 g l) = _
    unfold score01 scoresOf
    rw [selectHeads_apply]
    pointwise
    refine (tileScores_high _ q ⟨8 * (l.val % 8) + g.val, by omega⟩ ⟨l.val, by omega⟩).trans (Finset.sum_congr rfl fun d _ => congrArg _ ?_)
    rw [dequant_right, tileScaleOf_apply, tileOf_apply]
    exact congrArg₂ _ (rd2 x (by dsimp only [Fin.val_zero, Fin.val_one] <;> omega) rfl) (congrArg ks (congrArg ix1 (Fin.ext (by dsimp only; omega))))
  · show score10 _ (ix2 g l) = _
    unfold score10 scoresOf
    rw [selectHeads_apply]
    pointwise
    refine (tileScores_low _ q ⟨8 * (l.val % 8) + g.val, by omega⟩ ⟨128 + l.val, by omega⟩).trans (Finset.sum_congr rfl fun d _ => congrArg _ ?_)
    rw [dequant_left, tileScaleOf_apply, tileOf_apply]
    exact congrArg₂ _ (rd2 x (by dsimp only [Fin.val_zero, Fin.val_one] <;> omega) rfl) (congrArg ks (congrArg ix1 (Fin.ext (by dsimp only; omega))))
  · show score11 _ (ix2 g l) = _
    unfold score11 scoresOf
    rw [selectHeads_apply]
    pointwise
    refine (tileScores_high _ q ⟨8 * (l.val % 8) + g.val, by omega⟩ ⟨128 + l.val, by omega⟩).trans (Finset.sum_congr rfl fun d _ => congrArg _ ?_)
    rw [dequant_right, tileScaleOf_apply, tileOf_apply]
    exact congrArg₂ _ (rd2 x (by dsimp only [Fin.val_zero, Fin.val_one] <;> omega) rfl) (congrArg ks (congrArg ix1 (Fin.ext (by dsimp only; omega))))

/-- One step of a sum that is taken from the left. -/
theorem add_step {l s S A B : EReal} (hS : S = A) (hs : s = l + B) : s + S = l + (A + B) := by
  rw [hS, hs, add_assoc, add_comm B A]

/-! ## The maximum -/

/-- A tile's running maximum is at most `z` when the one before and the tile's four score blocks are. -/
theorem tileMax_le (mx : FVec Ideal S8x128 .f32) (s : FVec Ideal S128x256 .f32) (g : Fin 8) (l : Fin 128) (z : EReal) :
    tileMax mx s (ix2 g l) ≤ z ↔ mx (ix2 g l) ≤ z ∧ ∀ a b, blockOf s a b (ix2 g l) ≤ z := by
  have e : tileMax mx s (ix2 g l) = max (max (max (max (mx (ix2 g l)) (score00 s (ix2 g l))) (score01 s (ix2 g l))) (score10 s (ix2 g l))) (score11 s (ix2 g l)) := rfl
  rw [e, max_le_iff, max_le_iff, max_le_iff, max_le_iff]
  constructor
  · rintro ⟨⟨⟨⟨h, h00⟩, h01⟩, h10⟩, h11⟩
    refine ⟨h, fun a b => ?_⟩
    rcases zero_or_one a with rfl | rfl <;> rcases zero_or_one b with rfl | rfl
    exacts [h00, h01, h10, h11]
  · rintro ⟨h, hb⟩
    exact ⟨⟨⟨⟨h, hb 0 0⟩, hb 0 1⟩, hb 1 0⟩, hb 1 1⟩

/-- The running maximum over `n` tiles from tile `t` is at most `z` when the one before and those tiles' scores are. -/
theorem maxTiles_le (sc : FVec Ideal S16x128 .bf16) (q2 : FVec Ideal S128x256 .bf16) (x : Vec Ideal S16384x128 .fp8e4m3) (g : Fin 8) (l : Fin 128) (z : EReal) :
    (n t : ℕ) → (h : n + t ≤ 32) → (mx : FVec Ideal S8x128 .f32) →
    (maxTiles sc q2 x n t h mx (ix2 g l) ≤ z ↔ mx (ix2 g l) ≤ z ∧ ∀ (j : Fin 32), t ≤ j.val → j.val < n + t → ∀ a b, blockOf (scoresOf sc q2 x j) a b (ix2 g l) ≤ z)
  | 0, t, h, mx => by
    unfold maxTiles
    exact ⟨fun e => ⟨e, fun j h1 h2 => absurd h2 (by omega)⟩, fun e => e.1⟩
  | n + 1, t, h, mx => by
    unfold maxTiles
    rw [maxTiles_le sc q2 x g l z n (t + 1) (by omega), tileMax_le]
    constructor
    · rintro ⟨⟨h0, h1⟩, h2⟩
      refine ⟨h0, fun j hj hj' => ?_⟩
      by_cases e : j.val = t
      · rw [show j = ⟨t, by omega⟩ from Fin.ext e]; exact h1
      · exact h2 j (by omega) (by omega)
    · rintro ⟨h0, h1⟩
      exact ⟨⟨h0, h1 ⟨t, by omega⟩ le_rfl (by show t < _; omega)⟩, fun j hj hj' => h1 j (by omega) (by omega)⟩

variable (m : (ℓ : Loc nD τ sig) → Buf (Elt Ideal) ℓ)

/-- The running maximum is at most `z` when the new token's score and the scores of the tiles so far are. -/
theorem mxAt_le (c : Dev nD) (g : Fin 8) (l : Fin 128) (z : EReal) : (n : ℕ) → n ≤ 16 →
    (mxAt m c n (ix2 g l) ≤ z ↔ dNew m c (ix2 g l) ≤ z ∧ ∀ r : Fin 512, r.val < 32 * n → ∀ a b, blockOf (scoreRow m c r) a b (ix2 g l) ≤ z)
  | 0, _ => ⟨fun h => ⟨h, fun r hr => absurd hr (by omega)⟩, fun h => h.1⟩
  | n + 1, hn => by
    show (keep8 (F := Ideal) _ (ix2 g l) : EReal) ≤ z ↔ _
    rw [keep8_eq, maxTiles_le, mxAt_le c g l z n (by omega)]
    constructor
    · rintro ⟨⟨h0, h1⟩, h2⟩
      refine ⟨h0, fun r hr a b => ?_⟩
      by_cases e : r.val < 32 * n
      · exact h1 r e a b
      · have hd : r.val / 32 = n := by omega
        have h3 := h2 ⟨r.val % 32, Nat.mod_lt _ (by decide)⟩ (Nat.zero_le _) (by show r.val % 32 < 32 + 0; omega) a b
        unfold scoreRow; rw [hd]; exact h3
    · rintro ⟨h0, h1⟩
      refine ⟨⟨h0, fun r hr => h1 r (by omega)⟩, fun j _ _ a b => ?_⟩
      have h3 := h1 ⟨32 * n + j.val, by omega⟩ (by show 32 * n + j.val < _; omega) a b
      unfold scoreRow at h3
      have hd : (32 * n + j.val) / 32 = n := by omega
      have hm : (⟨(32 * n + j.val) % 32, Nat.mod_lt _ (by decide)⟩ : Fin 32) = j := Fin.ext (by show (32 * n + j.val) % 32 = j.val; omega)
      dsimp only at h3
      rw [hd, hm] at h3; exact h3

/-- The maximum over all keys of a head is at most `z` when each of its scores is. -/
theorem mFin_le (c : Dev nD) (g : Fin 8) (l : Fin 128) (z : EReal) :
    mFin m c (ix2 g l) ≤ z ↔ ∀ l' : Fin 128, l'.val % 8 = l.val % 8 →
      dNew m c (ix2 g l') ≤ z ∧ ∀ (r : Fin 512) a b, blockOf (scoreRow m c r) a b (ix2 g l') ≤ z := by
  unfold mFin
  rw [keep8_eq, headMax_le]
  exact forall_congr' fun l' => imp_congr_right fun _ => (mxAt_le m c g l' z 16 le_rfl).trans
    (and_congr_right fun _ => ⟨fun h r => h r (by omega), fun h r _ => h r⟩)

/-! ## The sums -/

/-- The weights read off the kept scores are those of the tile's scores. -/
theorem weightsAt_dAll (c : Dev nD) (r : ℕ) (hr : r < 512) (a b : Fin 2) :
    weightsAt (mFin m c) (dAll m c) r hr a b = weights (mFin m c) (blockOf (scoreRow m c ⟨r, hr⟩) a b) := by
  unfold weightsAt dAll
  rw [window_keptOf (scoreRow m c) ⟨r, hr⟩ a b, ofSlice_asSlice]

/-- The weights of tile `r`'s block `(a, b)`. -/
def wBlock (c : Dev nD) (r : ℕ) (a b : Fin 2) : FVec Ideal S8x128 .f32 :=
  if hr : r < 512 then weights (mFin m c) (blockOf (scoreRow m c ⟨r, hr⟩) a b) else fun _ => 0

/-- The same, for tiles by number. -/
theorem wBlock_eq (c : Dev nD) (r : ℕ) (hr : r < 512) (a b : Fin 2) : weightsAt (mFin m c) (dAll m c) r hr a b = wBlock m c r a b := by
  rw [weightsAt_dAll]; unfold wBlock; rw [dif_pos hr]

/-- The running weight sum over `n` tiles from tile `t`. -/
theorem sumTiles_eq (c : Dev nD) (i : grid0.Coords) (x : S8x128.Idx) : (n t : ℕ) → (h : n + t ≤ 32) → (l : FVec Ideal S8x128 .f32) →
    sumTiles i (mFin m c) (dAll m c) n t h l x
      = l x + ∑ j ∈ Finset.range n, (wBlock m c (32 * ((i 0).val - 16) + t + j) 0 0 x + wBlock m c (32 * ((i 0).val - 16) + t + j) 0 1 x
          + wBlock m c (32 * ((i 0).val - 16) + t + j) 1 0 x + wBlock m c (32 * ((i 0).val - 16) + t + j) 1 1 x)
  | 0, t, h, l => by unfold sumTiles; rw [Finset.sum_range_zero, add_zero]
  | n + 1, t, h, l => by
    unfold sumTiles
    rw [sumTiles_eq c i x n (t + 1) (by omega), Finset.sum_range_succ']
    refine add_step (Finset.sum_congr rfl fun j _ => ?_) ?_
    swap
    · unfold sumOf
      rw [wBlock_eq, wBlock_eq, wBlock_eq, wBlock_eq]
      show l x + _ + _ + _ + _ = l x + (_ + _ + _ + _)
      rw [add_assoc, add_assoc, add_assoc, add_assoc, add_assoc]; rfl
    · rw [show 32 * ((i 0).val - 16) + (t + 1) + j = 32 * ((i 0).val - 16) + t + (j + 1) by omega]

/-- The grid coordinate in the value pass. -/
theorem pt_coord (k : ℕ) (hk : k < 16) : (grid0.coords (pt (k + 16)) 0).val = k + 16 := by
  rw [coord_val]; show min (k + 16) 31 = k + 16; omega

/-- The weight sum after `k` blocks of the value pass is the sum over the tiles so far. -/
theorem lAt_eq (c : Dev nD) (x : S8x128.Idx) : (k : ℕ) → k ≤ 16 →
    lAt m c k x = ∑ r ∈ Finset.range (32 * k), (wBlock m c r 0 0 x + wBlock m c r 0 1 x + wBlock m c r 1 0 x + wBlock m c r 1 1 x)
  | 0, _ => by
    show keep8 _ x = _
    rw [keep8_eq]
    show Ideal.ofBits .f32 0x00000000#32 = ∑ r ∈ Finset.range 0, _
    rw [Finset.sum_range_zero]; simp [Ideal.ofBits, Ideal.ieee]
  | k + 1, hk => by
    show keep8 _ x = _
    rw [keep8_eq, sumTiles_eq, lAt_eq c x k (by omega), pt_coord k (by omega), Nat.mul_succ, Finset.sum_range_add]
    refine congrArg₂ (· + ·) rfl (Finset.sum_congr rfl fun j _ => ?_)
    rw [show 32 * (k + 16 - 16) + 0 + j = 32 * k + j by omega]

/-! ## The weighted values -/

/-- The four quarters of a tile's matrix of weights. -/
theorem tileWeights_00 (p00 p01 p10 p11 : FVec Ideal S8x128 .f32) (i : Fin 64) (l : Fin 128) :
    tileWeights p00 p01 p10 p11 (ix2 ⟨i.val, by omega⟩ ⟨l.val, by omega⟩) = spreadHeads p00 (ix2 i l) := by pointwise [tileWeights]
theorem tileWeights_01 (p00 p01 p10 p11 : FVec Ideal S8x128 .f32) (i : Fin 64) (l : Fin 128) :
    tileWeights p00 p01 p10 p11 (ix2 ⟨64 + i.val, by omega⟩ ⟨l.val, by omega⟩) = spreadHeads p01 (ix2 i l) := by pointwise [tileWeights]
theorem tileWeights_10 (p00 p01 p10 p11 : FVec Ideal S8x128 .f32) (i : Fin 64) (l : Fin 128) :
    tileWeights p00 p01 p10 p11 (ix2 ⟨i.val, by omega⟩ ⟨128 + l.val, by omega⟩) = spreadHeads p10 (ix2 i l) := by pointwise [tileWeights]
theorem tileWeights_11 (p00 p01 p10 p11 : FVec Ideal S8x128 .f32) (i : Fin 64) (l : Fin 128) :
    tileWeights p00 p01 p10 p11 (ix2 ⟨64 + i.val, by omega⟩ ⟨128 + l.val, by omega⟩) = spreadHeads p11 (ix2 i l) := by pointwise [tileWeights]

/-- One tile's step of the accumulator. -/
theorem tileAcc_apply (o : FVec Ideal S128x256 .f32) (x2 : FVec Ideal S256x256 .bf16) (p00 p01 p10 p11 : FVec Ideal S8x128 .f32) (i : Fin 128) (d : Fin 256) :
    tileAcc o x2 p00 p01 p10 p11 (ix2 i d) = o (ix2 i d) + ∑ k : Fin 256, tileWeights p00 p01 p10 p11 (ix2 i k) * x2 (ix2 k d) := by
  pointwise [tileAcc]

/-- A sum over 256 places as two sums over 128. -/
theorem sum_halves (f : Fin 256 → EReal) : ∑ k : Fin 256, f k = ∑ l : Fin 128, f ⟨l.val, by omega⟩ + ∑ l : Fin 128, f ⟨128 + l.val, by omega⟩ :=
  Fin.sum_univ_add (a := 128) (b := 128) f

/-- What tile `r` adds to an entry of the weighted value sum. -/
def vTerm (c : Dev nD) (r : ℕ) (i : Fin 128) (d : Fin 256) : EReal :=
  ∑ k : Fin 256, tileWeights (wBlock m c r 0 0) (wBlock m c r 0 1) (wBlock m c r 1 0) (wBlock m c r 1 1) (ix2 i k)
    * dequantPair (tileScaleOf (vsBlk m c (pt (r / 32 + 16)))) (tileOf (vBlk m c (pt (r / 32 + 16))) ⟨r % 32, Nat.mod_lt _ (by decide)⟩) (ix2 k d)

/-- The accumulator over `n` tiles from tile `t`. -/
theorem accTiles_eq (c : Dev nD) (k : ℕ) (hk : k < 16) (i : Fin 128) (d : Fin 256) : (n t : ℕ) → (h : n + t ≤ 32) → (o : FVec Ideal S128x256 .f32) →
    accTiles (grid0.coords (pt (k + 16))) (mFin m c) (dAll m c) (tileScaleOf (vsBlk m c (pt (k + 16)))) (vBlk m c (pt (k + 16))) n t h o (ix2 i d)
      = o (ix2 i d) + ∑ j ∈ Finset.range n, vTerm m c (32 * k + t + j) i d
  | 0, t, h, o => by unfold accTiles; rw [Finset.sum_range_zero, add_zero]
  | n + 1, t, h, o => by
    unfold accTiles
    rw [accTiles_eq c k hk i d n (t + 1) (by omega), Finset.sum_range_succ']
    refine add_step (Finset.sum_congr rfl fun j _ => ?_) ?_
    · rw [show 32 * k + (t + 1) + j = 32 * k + t + (j + 1) by omega]
    · have hc := pt_coord k hk
      have hr : 32 * ((grid0.coords (pt (k + 16)) 0).val - 16) + t = 32 * k + t + 0 := by rw [hc]; omega
      have hd : (32 * k + t + 0) / 32 = k := by omega
      have hm : (⟨(32 * k + t + 0) % 32, Nat.mod_lt _ (by decide)⟩ : Fin 32) = ⟨t, by omega⟩ := Fin.ext (by show (32 * k + t + 0) % 32 = t; omega)
      unfold accOf vTerm
      rw [wBlock_eq, wBlock_eq, wBlock_eq, wBlock_eq, tileAcc_apply, hr, hd, hm]

/-- The accumulator after `k` blocks of the value pass is the sum over the tiles so far. -/
theorem oAt_eq (c : Dev nD) (i : Fin 128) (d : Fin 256) : (k : ℕ) → k ≤ 16 →
    oAt m c k (ix2 i d) = ∑ r ∈ Finset.range (32 * k), vTerm m c r i d
  | 0, _ => by
    show keepAcc _ (ix2 i d) = _
    rw [keepAcc_eq]
    show Ideal.ofBits .f32 0x00000000#32 = ∑ r ∈ Finset.range 0, _
    rw [Finset.sum_range_zero]; simp [Ideal.ofBits, Ideal.ieee]
  | k + 1, hk => by
    show keepAcc _ (ix2 i d) = _
    rw [keepAcc_eq, accTiles_eq m c k (by omega), oAt_eq c i d k (by omega), Nat.mul_succ, Finset.sum_range_add]
    refine congrArg₂ (· + ·) rfl (Finset.sum_congr rfl fun j _ => ?_)
    rw [show 32 * k + 0 + j = 32 * k + j by omega]

end Cert.KernelIdeal.Hand

end
-- ==== Proof.Value.Sums.lean ====
/- Plain mathematics over the extended reals, used by both sides: a sum over a cache's rows cut into tiles, halves and lanes, and the
   exponential of a scaled difference as a power of two. -/
module

public import Idealize.ShloMosaic.PureOps.Ideal
public import Idealize.ShloMosaic.PureOps.IdealRules
public import Mathlib.Analysis.SpecialFunctions.Pow.Real

@[expose] public section

noncomputable section

namespace Cert.Value

open Idealize.ShloMosaic Finset

/-- A sum over a product of ranges, outer by inner. -/
theorem sum_range_mul {M : Type} [AddCommMonoid M] (a b : ℕ) (f : ℕ → M) :
    ∑ x ∈ range (a * b), f x = ∑ i ∈ range a, ∑ j ∈ range b, f (b * i + j) := by
  induction a with
  | zero => simp
  | succ a ih => rw [Nat.succ_mul, sum_range_add, ih, sum_range_succ, Nat.mul_comm a b]

/-- The sum over a head's tokens is the sum over the rows of the cache that belong to the head, -/
theorem sum_tokens (f : ℕ → EReal) (h : ℕ) (hh : h < 8) :
    ∑ t ∈ range 32768, f (8 * t + h) = ∑ x ∈ range (32768 * 8), if x % 8 = h then f x else 0 := by
  rw [sum_range_mul]
  refine sum_congr rfl fun t _ => ?_
  rw [sum_eq_single h]
  · rw [if_pos (by omega)]
  · intro j hj hne
    rw [mem_range] at hj
    exact if_neg (by omega)
  · intro hn; exact absurd (mem_range.mpr hh) hn

/-- and that is the sum over tiles, halves of a tile, halves of a half and lanes. -/
theorem sum_tiles (f : ℕ → EReal) :
    ∑ x ∈ range (32768 * 8), f x
      = ∑ r ∈ range 512, ∑ a ∈ range 2, ∑ c ∈ range 2, ∑ l ∈ range 128, f (512 * r + 256 * a + 128 * c + l) := by
  rw [show 32768 * 8 = 512 * 512 from rfl, sum_range_mul]
  refine sum_congr rfl fun r _ => ?_
  rw [show (512 : ℕ) = 2 * 256 from rfl, sum_range_mul]
  refine sum_congr rfl fun a _ => ?_
  rw [show (256 : ℕ) = 2 * 128 from rfl, sum_range_mul]
  refine sum_congr rfl fun c _ => sum_congr rfl fun l _ => congrArg f (by ring)

/-- The scale of the scores. -/
def S : ℝ := (Real.sqrt 128)⁻¹

/-- It is positive. -/
theorem S_pos : 0 < S := inv_pos.mpr (Real.sqrt_pos.mpr (by norm_num))

/-- The power of two of a difference scaled by `S / log 2` is the exponential of the difference of the scaled values. -/
theorem exp2_eq (d m : EReal) :
    Ideal.exp2 ((d - m) * ((S * (Real.log 2)⁻¹ : ℝ) : EReal)) = Ideal.exp (d * ((S : ℝ) : EReal) - m * ((S : ℝ) : EReal)) := by
  have hS := S_pos
  have hlog : 0 < Real.log 2 := Real.log_pos (by norm_num)
  have hC : 0 < S * (Real.log 2)⁻¹ := mul_pos hS (inv_pos.mpr hlog)
  induction d with
  | bot =>
    rw [EReal.bot_sub, EReal.bot_mul_coe_of_pos hC, EReal.bot_mul_coe_of_pos hS, EReal.bot_sub]; rfl
  | top =>
    induction m with
    | bot =>
      rw [EReal.top_mul_coe_of_pos hS, EReal.bot_mul_coe_of_pos hS, EReal.top_sub_bot, EReal.top_mul_coe_of_pos hC]; rfl
    | top =>
      rw [EReal.top_mul_coe_of_pos hS, EReal.sub_top, EReal.bot_mul_coe_of_pos hC]; rfl
    | coe m =>
      rw [EReal.top_mul_coe_of_pos hS, ← EReal.coe_mul, EReal.top_sub_coe, EReal.top_sub_coe, EReal.top_mul_coe_of_pos hC]; rfl
  | coe d =>
    induction m with
    | bot =>
      rw [EReal.bot_mul_coe_of_pos hS, ← EReal.coe_mul, EReal.coe_sub_bot, EReal.coe_sub_bot, EReal.top_mul_coe_of_pos hC]; rfl
    | top =>
      rw [EReal.top_mul_coe_of_pos hS, EReal.sub_top, EReal.sub_top, EReal.bot_mul_coe_of_pos hC]; rfl
    | coe m =>
      rw [← EReal.coe_sub, ← EReal.coe_mul, ← EReal.coe_mul, ← EReal.coe_mul, ← EReal.coe_sub]
      show ((Real.rpow 2 _ : ℝ) : EReal) = ((Real.exp _ : ℝ) : EReal)
      congr 1
      show (2 : ℝ) ^ ((d - m) * (S * (Real.log 2)⁻¹)) = _
      rw [Real.rpow_def_of_pos (by norm_num)]
      congr 1
      field_simp

/-- The scale is monotone on upper bounds. -/
theorem mul_S_le (x y : EReal) (h : x ≤ y) : x * ((S : ℝ) : EReal) ≤ y * ((S : ℝ) : EReal) :=
  mul_le_mul_of_nonneg_right h (EReal.coe_nonneg.mpr S_pos.le)

/-- The bits of negative infinity. -/
theorem ofBits_negInf : Ideal.ofBits .f32 0xFF800000#32 = ⊥ := by
  simp [Ideal.ofBits, Ideal.ieee]

/-- The maximum of the scaled values is the scaled maximum. -/
theorem fold_scaled {n : ℕ} (f : Fin n → EReal) (μ : EReal) (hμ : ∀ z, μ ≤ z ↔ ∀ t, f t ≤ z) :
    Finset.fold max (⊥ : EReal) (fun t => f t * ((S : ℝ) : EReal)) Finset.univ = μ * ((S : ℝ) : EReal) := by
  refine eq_of_forall_ge_iff fun z => ?_
  have hS : (0 : EReal) < ((S : ℝ) : EReal) := EReal.coe_pos.mpr S_pos
  rw [Finset.fold_max_le, ← EReal.le_div_iff_mul_le hS (EReal.coe_ne_top S), hμ]
  exact ⟨fun h t => (EReal.le_div_iff_mul_le hS (EReal.coe_ne_top S)).mpr (h.2 t (Finset.mem_univ t)),
    fun h => ⟨bot_le, fun t _ => (EReal.le_div_iff_mul_le hS (EReal.coe_ne_top S)).mp (h t)⟩⟩

/-- A value per token, read at the rows of the cache. -/
def tok (f : Fin 32768 → EReal) (R : ℕ) : EReal := if hR : R / 8 < 32768 then f ⟨R / 8, hR⟩ else 0

/-- A value per token, put at the token's row of head `h`, and zero at the other heads' rows. -/
def lane (f : Fin 32768 → EReal) (h R : ℕ) : EReal := if R % 8 = h then tok f R else 0

/-- The sum over the tokens, as the sum over the cache's rows by tile, half, half of a half and lane. -/
theorem sum_lanes (f : Fin 32768 → EReal) (h : ℕ) (hh : h < 8) :
    ∑ t, f t = ∑ r ∈ range 512, ((∑ l : Fin 128, lane f h (512 * r + (256 * 0 + 128 * 0 + l.val)) + ∑ l : Fin 128, lane f h (512 * r + (256 * 0 + 128 * 1 + l.val)))
      + (∑ l : Fin 128, lane f h (512 * r + (256 * 1 + 128 * 0 + l.val)) + ∑ l : Fin 128, lane f h (512 * r + (256 * 1 + 128 * 1 + l.val)))) := by
  have e : ∑ t, f t = ∑ t ∈ range 32768, tok f (8 * t + h) := by
    rw [sum_range]
    refine sum_congr rfl fun t _ => ?_
    have h1 : (8 * t.val + h) / 8 = t.val := by omega
    unfold tok
    rw [dif_pos (by rw [h1]; exact t.isLt)]
    exact congrArg f (Fin.ext h1.symm)
  rw [e]
  refine (sum_tokens (tok f) h hh).trans ((sum_tiles (lane f h)).trans ?_)
  refine sum_congr rfl fun r _ => ?_
  simp only [sum_range_succ, sum_range_zero, zero_add, sum_range (n := 128)]
  simp only [add_assoc]

end Cert.Value

end
-- ==== Proof.Value.Ref.lean ====
/- The reference's attention result at an index over the extended reals: a softmax over the 32769 keys, weighted by the values. -/
module

public import proofs.«01_k».proof.Proof.Gen.ReferenceIdeal.Value
public import proofs.«01_k».proof.Proof.Value.Sums
public import Idealize.ShloMosaic.Lib.Pointwise

@[expose] public section

set_option maxRecDepth 16384
set_option synthInstance.maxSize 4096

noncomputable section

namespace Cert.ReferenceIdeal.Hand

open Idealize.ShloMosaic Idealize.SL.Sem Cert.ReferenceIdeal Cert.ReferenceIdeal.Value Cert.ReferenceIdeal.Gen
open Facts₀ Facts

variable (x : FVec Ideal S1x1x8192 .bf16) (kn vn : FVec Ideal S1x1x8x128 .bf16) (kc : FVec Ideal S1x32768x8x128 .fp8e4m3)
  (ks : FVec Ideal S8 .f32) (vc : FVec Ideal S1x32768x8x128 .fp8e4m3) (vs : FVec Ideal S8 .f32)

open Cert.Value (S)

/-- The scale of the scores is one over the square root of the head's width. -/
theorem invSqrt : (Named.named κ "inv_sqrt_d" 0x3DB504F3#32 : Ideal .f32) = ((S : ℝ) : EReal) :=
  IdealRules.named_const.ideal_named_scalar _ _ _ _ rfl

/-- Query head `(h, g)` against a cached key, before scaling. -/
def oldScore (h g : Fin 8) (t : Fin 32768) : EReal :=
  ∑ d : Fin 128, x (ix3 0 0 ⟨h.val * 1024 + g.val * 128 + d.val, by omega⟩) * (kc (ix4 0 t h d) * ks (ix1 h))
/-- Query head `(h, g)` against the new key, before scaling. -/
def newScore (h g : Fin 8) : EReal :=
  ∑ d : Fin 128, x (ix3 0 0 ⟨h.val * 1024 + g.val * 128 + d.val, by omega⟩) * (k0_pay2 (F := Ideal) ks kn (ix4 0 0 h d) * ks (ix1 h))

/-- The weight of a score `s` under the maximum `μ`. -/
def wt (μ s : EReal) : EReal := Ideal.exp2 ((s - μ) * ((S * (Real.log 2)⁻¹ : ℝ) : EReal))

/-- The reference's attention: the weighted values over the weights, under any `μ` that is the maximum of the scores. -/
theorem G7_apply (h g : Fin 8) (d : Fin 128) (μ : EReal)
    (hμ : ∀ z, μ ≤ z ↔ newScore x kn ks h g ≤ z ∧ ∀ t, oldScore x kc ks h g t ≤ z) :
    G7 (F := Ideal) x kn vn kc ks vc vs (ix3 0 0 ⟨h.val * 1024 + g.val * 128 + d.val, by omega⟩)
      = Ideal.div
        ((∑ t : Fin 32768, wt μ (oldScore x kc ks h g t) * (vc (ix4 0 t h d) * vs (ix1 h)))
          + wt μ (newScore x kn ks h g) * (k0_pay3 (F := Ideal) vs vn (ix4 0 0 h d) * vs (ix1 h)))
        ((∑ t : Fin 32768, wt μ (oldScore x kc ks h g t)) + wt μ (newScore x kn ks h g)) := by
  unfold G7
  pointwise [k0_pay1, k0_pay4, k0_pay5, k0_pay6]
  rw [Cert.Value.ofBits_negInf, invSqrt]
  rw [Cert.Value.fold_scaled (fun t : Fin 32769 => ∑ d : Fin 128, x (ix3 0 0 ⟨h.val * 1024 + g.val * 128 + d.val, by omega⟩)
      * (if h' : t.val < 32768 then kc (ix4 0 ⟨t.val, h'⟩ h d) * ks (ix1 h) else k0_pay2 (F := Ideal) ks kn (ix4 0 ⟨t.val - 32768, by omega⟩ h d) * ks (ix1 h))) μ ?_]
  · simp only [← Cert.Value.exp2_eq, Fin.sum_univ_one]
    rfl
  · intro z
    rw [hμ]
    constructor
    · rintro ⟨h0, h1⟩ t
      by_cases ht : t.val < 32768
      · refine le_of_eq_of_le (Finset.sum_congr rfl fun d _ => ?_) (h1 ⟨t.val, ht⟩)
        rw [dif_pos ht]
      · refine le_of_eq_of_le (Finset.sum_congr rfl fun d _ => ?_) h0
        rw [dif_neg ht, show (⟨t.val - 32768, by omega⟩ : Fin 1) = 0 from Subsingleton.elim _ _]
    · intro h1
      refine ⟨le_of_eq_of_le (Finset.sum_congr rfl fun d _ => ?_) (h1 ⟨32768, by decide⟩), fun t => le_of_eq_of_le (Finset.sum_congr rfl fun d _ => ?_) (h1 ⟨t.val, by omega⟩)⟩
      · rw [dif_neg (by decide)]; rfl
      · rw [dif_pos t.isLt]

end Cert.ReferenceIdeal.Hand

end
-- ==== Proof.Value.Attn.lean ====
/- The kernel's attention result at an index over the extended reals: the softmax over the 32769 keys, weighted by the values. -/
module

public import proofs.«01_k».proof.Proof.Value.Blocks
public import proofs.«01_k».proof.Proof.Value.Passes
public import proofs.«01_k».proof.Proof.Value.Ref

@[expose] public section

set_option maxRecDepth 16384
set_option synthInstance.maxSize 4096

noncomputable section

namespace Cert.KernelIdeal.Hand

open Idealize.ShloMosaic Idealize.ShloMosaic.TcCoe Idealize.SL.Sem Cert.KernelIdeal
open Cert.ReferenceIdeal.Hand (oldScore newScore wt)
open Cert.Value (S lane sum_lanes)
open Facts₀

variable (m : (ℓ : Loc nD τ sig) → Buf (Elt Ideal) ℓ) (c : Dev nD)

/-- The seven arguments. -/
abbrev aX : FVec Ideal S1x1x8192 .bf16 := m ((c : Thread nD τ).loc main_arg0)
abbrev aKn : FVec Ideal S1x1x8x128 .bf16 := m ((c : Thread nD τ).loc main_arg1)
abbrev aVn : FVec Ideal S1x1x8x128 .bf16 := m ((c : Thread nD τ).loc main_arg2)
abbrev aKc : FVec Ideal S1x32768x8x128 .fp8e4m3 := m ((c : Thread nD τ).loc main_arg3)
abbrev aKs : FVec Ideal S8 .f32 := m ((c : Thread nD τ).loc main_arg4)
abbrev aVc : FVec Ideal S1x32768x8x128 .fp8e4m3 := m ((c : Thread nD τ).loc main_arg5)
abbrev aVs : FVec Ideal S8 .f32 := m ((c : Thread nD τ).loc main_arg6)

/-- A query row of the reshaped query. -/
theorem q_apply (x : FVec Ideal S1x1x8192 .bf16) (h g : Fin 8) (i : Fin 64) (hi : i.val = 8 * h.val + g.val) (d : Fin 128) :
    shapeCast S64x128 x shapeCasts_S1x1x8192_S64x128 (ix2 i d) = x (ix3 0 0 ⟨h.val * 1024 + g.val * 128 + d.val, by omega⟩) := by
  pointwise
  exact congrArg x (congrArg (ix3 0 0) (Fin.ext (by dsimp only; omega)))

/-- A row of the reshaped cache. -/
theorem flat_apply (k : FVec Ideal S1x32768x8x128 .fp8e4m3) (R : Fin 262144) (d : Fin 128) :
    shapeCast S262144x128 k shapeCasts_S1x32768x8x128_S262144x128 (ix2 R d) = k (ix4 0 ⟨R.val / 8, by omega⟩ ⟨R.val % 8, by omega⟩ d) := by
  pointwise

/-- The kernel's codes of a row are the reference's. -/
theorem codes_key (x : FVec Ideal S1x1x8x128 .bf16) (s : FVec Ideal S8 .f32) (h : Fin 8) (d : Fin 128) :
    newCodes (shapeCast S8x128 x shapeCasts_S1x1x8x128_S8x128) (rowScaleOf s) (ix2 h d) = ReferenceIdeal.Gen.k0_pay2 (F := Ideal) s x (ix4 0 0 h d) := by
  pointwise [newCodes, ReferenceIdeal.Gen.k0_pay2]
  rw [rowScaleOf_apply]

/-- The same for the values. -/
theorem codes_value (x : FVec Ideal S1x1x8x128 .bf16) (s : FVec Ideal S8 .f32) (h : Fin 8) (d : Fin 128) :
    newCodes (shapeCast S8x128 x shapeCasts_S1x1x8x128_S8x128) (rowScaleOf s) (ix2 h d) = ReferenceIdeal.Gen.k0_pay3 (F := Ideal) s x (ix4 0 0 h d) := by
  pointwise [newCodes, ReferenceIdeal.Gen.k0_pay3]
  rw [rowScaleOf_apply]

/-- The new key's codes, entry by entry, are the reference's. -/
theorem kCodes_apply (h : Fin 8) (d : Fin 128) : kCodes m c (ix2 h d) = ReferenceIdeal.Gen.k0_pay2 (F := Ideal) (aKs m c) (aKn m c) (ix4 0 0 h d) := by
  unfold kCodes
  rw [ksBlk_eq, knBlk_eq]
  exact codes_key _ _ h d

/-- The new value's codes, entry by entry, are the reference's. -/
theorem vCodes_apply (h : Fin 8) (d : Fin 128) : vCodes m c (ix2 h d) = ReferenceIdeal.Gen.k0_pay3 (F := Ideal) (aVs m c) (aVn m c) (ix4 0 0 h d) := by
  unfold vCodes
  rw [vsBlk_eq, vnBlk_eq]
  exact codes_value _ _ h d

/-- The new token's scores: on the first eight lanes the reference's score of that head, below everything elsewhere. -/
theorem dNew_apply (g : Fin 8) (l : Fin 128) :
    dNew m c (ix2 g l) = if h : l.val < 8 then newScore (aX m c) (aKn m c) (aKs m c) ⟨l.val, h⟩ g else ⊥ := by
  unfold dNew qTwo
  rw [keep8_eq, newScores_apply, ksBlk_eq, qBlk_eq]
  by_cases h : l.val < 8
  · rw [if_pos h, dif_pos h]
    unfold newScore
    refine Finset.sum_congr rfl fun d _ => ?_
    rw [newPair_apply, dif_pos h, rowScaleOf_apply, kCodes_apply, q_apply _ ⟨l.val, h⟩ g _ (by dsimp only; omega)]
  · rw [if_neg h, dif_neg h]

/-- An entry of a tile's score block is the reference's score of the cached token that lies at that row. -/
theorem block_apply (r : Fin 512) (a b : Fin 2) (g : Fin 8) (l : Fin 128) (h : Fin 8) (hl : l.val % 8 = h.val) :
    blockOf (scoreRow m c r) a b (ix2 g l)
      = oldScore (aX m c) (aKc m c) (aKs m c) h g ⟨(512 * r.val + (256 * b.val + 128 * a.val + l.val)) / 8, by omega⟩ := by
  unfold scoreRow qTwo
  rw [blockOf_scores, qBlk_eq, ksBlk_eq]
  unfold oldScore
  refine Finset.sum_congr rfl fun d _ => ?_
  rw [kBlk_apply m c (r.val / 32) (by omega), flat_apply, q_apply _ h g _ (by dsimp only; omega)]
  refine congrArg _ (congrArg₂ _ (congrArg (aKc m c) ?_) (congrArg (aKs m c) (congrArg ix1 (Fin.ext hl))))
  exact congrArg₂ (fun u v => ix4 0 u v d) (Fin.ext (by dsimp only; omega)) (Fin.ext (by dsimp only; omega))

/-- The kernel's maximum is the maximum of the scores. -/
theorem mFin_iff (h g : Fin 8) (l : Fin 128) (hl : l.val % 8 = h.val) (z : EReal) :
    mFin m c (ix2 g l) ≤ z ↔ newScore (aX m c) (aKn m c) (aKs m c) h g ≤ z ∧ ∀ t, oldScore (aX m c) (aKc m c) (aKs m c) h g t ≤ z := by
  rw [mFin_le]
  constructor
  · intro H
    constructor
    · have h1 := (H ⟨h.val, by omega⟩ (by dsimp only; omega)).1
      rw [dNew_apply, dif_pos h.isLt] at h1; exact h1
    · intro t
      have h1 := (H ⟨(8 * t.val + h.val) % 128, by omega⟩ (by dsimp only; omega)).2 ⟨(8 * t.val + h.val) / 512, by omega⟩
        ⟨(8 * t.val + h.val) % 256 / 128, by omega⟩ ⟨(8 * t.val + h.val) % 512 / 256, by omega⟩
      rw [block_apply m c _ _ _ g _ h (by dsimp only; omega)] at h1
      refine le_of_eq_of_le (congrArg _ (Fin.ext ?_)) h1
      dsimp only; omega
  · rintro ⟨h0, h1⟩ l' hl'
    constructor
    · rw [dNew_apply]
      by_cases e : l'.val < 8
      · rw [dif_pos e, show (⟨l'.val, e⟩ : Fin 8) = h from Fin.ext (by dsimp only; omega)]; exact h0
      · rw [dif_neg e]; exact bot_le
    · intro r a b
      rw [block_apply m c r a b g l' h (by omega)]; exact h1 _

/-- Lanes of one head hold one maximum. -/
theorem mFin_lane (g : Fin 8) (l l' : Fin 128) (hl : l.val % 8 = l'.val % 8) : mFin m c (ix2 g l) = mFin m c (ix2 g l') :=
  eq_of_forall_ge_iff fun z => (mFin_iff m c ⟨l.val % 8, by omega⟩ g l rfl z).trans (mFin_iff m c ⟨l.val % 8, by omega⟩ g l' hl.symm z).symm

/-- The scale of the exponent is the scores' scale over the logarithm of two. -/
theorem expScale_eq : (expScale : Ideal .f32) = ((S * (Real.log 2)⁻¹ : ℝ) : EReal) :=
  IdealRules.named_const.ideal_named_scalar _ _ _ _ rfl

/-- The kernel's weight of a score. -/
theorem weights_apply (M D : FVec Ideal S8x128 .f32) (x : S8x128.Idx) : weights M D x = wt (M x) (D x) := by
  show Ideal.exp2 ((D x - M x) * (expScale (F := Ideal) : EReal)) = _
  rw [expScale_eq]; rfl

/-- A score below everything has weight zero. -/
theorem wt_bot (μ : EReal) : wt μ ⊥ = 0 := by
  unfold wt
  rw [EReal.bot_sub, EReal.bot_mul_coe_of_pos (mul_pos Cert.Value.S_pos (inv_pos.mpr (Real.log_pos (by norm_num))))]; rfl

/-- The weights of head `h`, query `g`, over the old keys. -/
def wOld (h g : Fin 8) (t : Fin 32768) : EReal := wt (mFin m c (ix2 g ⟨h.val, by omega⟩)) (oldScore (aX m c) (aKc m c) (aKs m c) h g t)
/-- The weight of the new key. -/
def wNew (h g : Fin 8) : EReal := wt (mFin m c (ix2 g ⟨h.val, by omega⟩)) (newScore (aX m c) (aKn m c) (aKs m c) h g)

/-- The weights of a tile's block are the weights of the reference's scores. -/
theorem wBlock_apply (r : ℕ) (hr : r < 512) (a b : Fin 2) (h g : Fin 8) (l : Fin 128) :
    (if l.val % 8 = h.val then wBlock m c r a b (ix2 g l) else 0) = lane (wOld m c h g) h.val (512 * r + (256 * b.val + 128 * a.val + l.val)) := by
  unfold lane Cert.Value.tok
  by_cases e : l.val % 8 = h.val
  · rw [if_pos e, if_pos (by omega), dif_pos (by omega)]
    unfold wBlock wOld
    rw [dif_pos hr, weights_apply, block_apply m c _ a b g l h e, mFin_lane m c g l ⟨h.val, by omega⟩ (by dsimp only; omega)]
  · rw [if_neg e, if_neg (by omega)]

/-- The new key's weights in their lanes. -/
theorem pNew_apply (h g : Fin 8) (l : Fin 128) :
    (if l.val % 8 = h.val then weights (mFin m c) (dNew m c) (ix2 g l) else 0) = if l.val = h.val then wNew m c h g else 0 := by
  rw [weights_apply, dNew_apply]
  by_cases e : l.val % 8 = h.val
  · rw [if_pos e]
    by_cases e' : l.val < 8
    · have hh : (⟨l.val, e'⟩ : Fin 8) = h := Fin.ext (by dsimp only; omega)
      rw [dif_pos e', if_pos (by omega), hh, mFin_lane m c g l ⟨h.val, by omega⟩ (by dsimp only; omega)]; rfl
    · rw [dif_neg e', if_neg (by omega), wt_bot]
  · rw [if_neg e, if_neg (by omega)]

/-- Four terms with the two in the middle exchanged. -/
theorem four_swap (A B C D : EReal) : A + B + C + D = (A + C) + (B + D) := by
  rw [add_add_add_comm, add_assoc (A + B)]

/-- The sum of the weights. -/
theorem den_eq (h g : Fin 8) :
    (∑ k : Fin 128, if k.val % 8 = h.val then lAt m c 16 (ix2 g k) + weights (mFin m c) (dNew m c) (ix2 g k) else 0)
      = (∑ t, wOld m c h g t) + wNew m c h g := by
  have e : ∀ k : Fin 128, (if k.val % 8 = h.val then lAt m c 16 (ix2 g k) + weights (mFin m c) (dNew m c) (ix2 g k) else 0)
      = (∑ r ∈ Finset.range 512, ((lane (wOld m c h g) h.val (512 * r + (256 * 0 + 128 * 0 + k.val)) + lane (wOld m c h g) h.val (512 * r + (256 * 0 + 128 * 1 + k.val)))
        + (lane (wOld m c h g) h.val (512 * r + (256 * 1 + 128 * 0 + k.val)) + lane (wOld m c h g) h.val (512 * r + (256 * 1 + 128 * 1 + k.val)))))
        + (if k.val = h.val then wNew m c h g else 0) := by
    intro k
    rw [← pNew_apply, lAt_eq m c _ 16 le_rfl]
    by_cases e : k.val % 8 = h.val
    · rw [if_pos e, if_pos e]
      refine congrArg₂ (· + ·) (Finset.sum_congr rfl fun r hr => ?_) rfl
      have hr' : r < 512 := Finset.mem_range.mp hr
      have w := fun a b => (if_pos e).symm.trans (wBlock_apply m c r hr' a b h g k)
      rw [w 0 0, w 0 1, w 1 0, w 1 1]
      exact four_swap _ _ _ _
    · rw [if_neg e, if_neg e, add_zero]
      refine (Finset.sum_eq_zero fun r hr => ?_).symm
      have hr' : r < 512 := Finset.mem_range.mp hr
      have w := fun (a b : Fin 2) => (wBlock_apply m c r hr' a b h g k).symm.trans (if_neg e)
      have w00 := w 0 0; have w01 := w 0 1; have w10 := w 1 0; have w11 := w 1 1
      dsimp only [Fin.val_zero, Fin.val_one] at w00 w01 w10 w11
      rw [w00, w01, w10, w11]; simp only [add_zero]
  rw [Finset.sum_congr rfl fun k _ => e k, Finset.sum_add_distrib, sum_lanes _ h.val h.isLt, Finset.sum_comm]
  refine congrArg₂ (· + ·) (Finset.sum_congr rfl fun r _ => ?_) ?_
  · rw [Finset.sum_add_distrib, Finset.sum_add_distrib, Finset.sum_add_distrib]
  · rw [Finset.sum_eq_single (⟨h.val, by omega⟩ : Fin 128)]
    · exact if_pos rfl
    · intro k _ hk; exact if_neg fun e => hk (Fin.ext e)
    · intro hn; exact absurd (Finset.mem_univ _) hn

/-- The value of an old token, dequantised. -/
def vOld (h : Fin 8) (d : Fin 128) (t : Fin 32768) : EReal := aVc m c (ix4 0 t h d) * aVs m c (ix1 h)

/-- A row of tile `r` of the value cache, in terms of the argument. -/
theorem val_apply (r : ℕ) (hr : r < 512) (k : Fin 512) (d : Fin 128) :
    tileOf (vBlk m c (pt (r / 32 + 16))) ⟨r % 32, Nat.mod_lt _ (by decide)⟩ (ix2 k d)
      = aVc m c (ix4 0 ⟨(512 * r + k.val) / 8, by omega⟩ ⟨k.val % 8, by omega⟩ d) := by
  rw [tileOf_apply, vBlk_apply m c (r / 32) (by omega), flat_apply]
  refine congrArg (aVc m c) (congrArg₂ (fun u v => ix4 0 u v d) (Fin.ext ?_) (Fin.ext ?_)) <;> dsimp only <;> omega

/-- One weighted value. -/
theorem lane_mul (h : Fin 8) (g : Fin 8) (d : Fin 128) (R : ℕ) (hR : R < 262144) (k : ℕ) (hk : k % 8 = R % 8) :
    lane (wOld m c h g) h.val R * (aVc m c (ix4 0 ⟨R / 8, by omega⟩ ⟨k % 8, by omega⟩ d) * aVs m c (ix1 ⟨k % 8, by omega⟩))
      = lane (fun t => wOld m c h g t * vOld m c h d t) h.val R := by
  unfold lane Cert.Value.tok vOld
  by_cases e : R % 8 = h.val
  · have hh : (⟨k % 8, by omega⟩ : Fin 8) = h := Fin.ext (by dsimp only; omega)
    rw [if_pos e, if_pos e, dif_pos (by omega), dif_pos (by omega), hh]
  · rw [if_neg e, if_neg e, zero_mul]

/-- What tile `r` adds to the upper left quarter of the accumulator: the weighted values of its first half. -/
theorem vTerm_low (r : ℕ) (hr : r < 512) (h g : Fin 8) (i : Fin 64) (hi : i.val = 8 * h.val + g.val) (d : Fin 128) :
    vTerm m c r ⟨i.val, by omega⟩ ⟨d.val, by omega⟩
      = ∑ l : Fin 128, lane (fun t => wOld m c h g t * vOld m c h d t) h.val (512 * r + (256 * 0 + 128 * 0 + l.val))
        + ∑ l : Fin 128, lane (fun t => wOld m c h g t * vOld m c h d t) h.val (512 * r + (256 * 0 + 128 * 1 + l.val)) := by
  have hd : i.val / 8 = h.val := by omega
  have hm : (⟨i.val % 8, by omega⟩ : Fin 8) = g := Fin.ext (by dsimp only; omega)
  unfold vTerm
  rw [sum_halves, vsBlk_eq]
  refine congrArg₂ (· + ·) (Finset.sum_congr rfl fun l _ => ?_) (Finset.sum_congr rfl fun l _ => ?_)
  · rw [tileWeights_00 _ _ _ _ i l, spreadHeads_apply, hd, hm, wBlock_apply m c r hr 0 0 h g l, dequant_left _ _ ⟨l.val, by omega⟩ d, tileScaleOf_apply,
      val_apply m c r hr]
    refine Eq.trans (congrArg₂ _ rfl (congrArg₂ _ (congrArg (aVc m c) ?_) (congrArg (aVs m c) (congrArg ix1 (Fin.ext ?_)))))
      (lane_mul m c h g d (512 * r + (256 * 0 + 128 * 0 + l.val)) (by omega) l.val (by omega))
    · exact congrArg₂ (fun u v => ix4 0 u v d) (Fin.ext (by dsimp only <;> omega)) (Fin.ext (by dsimp only))
    · dsimp only; omega
  · rw [tileWeights_10 _ _ _ _ i l, spreadHeads_apply, hd, hm, wBlock_apply m c r hr 1 0 h g l, dequant_left _ _ ⟨128 + l.val, by omega⟩ d, tileScaleOf_apply,
      val_apply m c r hr]
    refine Eq.trans (congrArg₂ _ rfl (congrArg₂ _ (congrArg (aVc m c) ?_) (congrArg (aVs m c) (congrArg ix1 (Fin.ext ?_)))))
      (lane_mul m c h g d (512 * r + (256 * 0 + 128 * 1 + l.val)) (by omega) (128 + l.val) (by omega))
    · exact congrArg₂ (fun u v => ix4 0 u v d) (Fin.ext (by dsimp only <;> omega)) (Fin.ext (by dsimp only))
    · dsimp only; omega

/-- What tile `r` adds to the lower right quarter of the accumulator: the weighted values of its second half. -/
theorem vTerm_high (r : ℕ) (hr : r < 512) (h g : Fin 8) (i : Fin 64) (hi : i.val = 8 * h.val + g.val) (d : Fin 128) :
    vTerm m c r ⟨64 + i.val, by omega⟩ ⟨128 + d.val, by omega⟩
      = ∑ l : Fin 128, lane (fun t => wOld m c h g t * vOld m c h d t) h.val (512 * r + (256 * 1 + 128 * 0 + l.val))
        + ∑ l : Fin 128, lane (fun t => wOld m c h g t * vOld m c h d t) h.val (512 * r + (256 * 1 + 128 * 1 + l.val)) := by
  have hd : i.val / 8 = h.val := by omega
  have hm : (⟨i.val % 8, by omega⟩ : Fin 8) = g := Fin.ext (by dsimp only; omega)
  unfold vTerm
  rw [sum_halves, vsBlk_eq]
  refine congrArg₂ (· + ·) (Finset.sum_congr rfl fun l _ => ?_) (Finset.sum_congr rfl fun l _ => ?_)
  · rw [tileWeights_01 _ _ _ _ i l, spreadHeads_apply, hd, hm, wBlock_apply m c r hr 0 1 h g l, dequant_right _ _ ⟨l.val, by omega⟩ d, tileScaleOf_apply,
      val_apply m c r hr]
    refine Eq.trans (congrArg₂ _ rfl (congrArg₂ _ (congrArg (aVc m c) ?_) (congrArg (aVs m c) (congrArg ix1 (Fin.ext ?_)))))
      (lane_mul m c h g d (512 * r + (256 * 1 + 128 * 0 + l.val)) (by omega) (256 + l.val) (by omega))
    · exact congrArg₂ (fun u v => ix4 0 u v d) (Fin.ext (by dsimp only <;> omega)) (Fin.ext (by dsimp only))
    · dsimp only; omega
  · rw [tileWeights_11 _ _ _ _ i l, spreadHeads_apply, hd, hm, wBlock_apply m c r hr 1 1 h g l, dequant_right _ _ ⟨128 + l.val, by omega⟩ d, tileScaleOf_apply,
      val_apply m c r hr]
    refine Eq.trans (congrArg₂ _ rfl (congrArg₂ _ (congrArg (aVc m c) ?_) (congrArg (aVs m c) (congrArg ix1 (Fin.ext ?_)))))
      (lane_mul m c h g d (512 * r + (256 * 1 + 128 * 1 + l.val)) (by omega) (256 + (128 + l.val)) (by omega))
    · exact congrArg₂ (fun u v => ix4 0 u v d) (Fin.ext (by dsimp only <;> omega)) (Fin.ext (by dsimp only))
    · dsimp only; omega

/-- The weighted sum of the values. -/
theorem num_eq (h g : Fin 8) (i : Fin 64) (hi : i.val = 8 * h.val + g.val) (d : Fin 128) :
    oAt m c 16 (ix2 ⟨i.val, by omega⟩ ⟨d.val, by omega⟩) + oAt m c 16 (ix2 ⟨64 + i.val, by omega⟩ ⟨128 + d.val, by omega⟩)
        + ∑ k : Fin 128, (if k.val % 8 = h.val then weights (mFin m c) (dNew m c) (ix2 g k) else 0) * vPair m c (ix3 0 k ⟨d.val, by omega⟩)
      = (∑ t, wOld m c h g t * vOld m c h d t) + wNew m c h g * (ReferenceIdeal.Gen.k0_pay3 (F := Ideal) (aVs m c) (aVn m c) (ix4 0 0 h d) * aVs m c (ix1 h)) := by
  refine congrArg₂ (· + ·) ?_ ?_
  · rw [oAt_eq m c _ _ 16 le_rfl, oAt_eq m c _ _ 16 le_rfl, sum_lanes _ h.val h.isLt, ← Finset.sum_add_distrib]
    refine Finset.sum_congr rfl fun r hr => ?_
    have hr' : r < 512 := Finset.mem_range.mp hr
    rw [vTerm_low m c r hr' h g i hi d, vTerm_high m c r hr' h g i hi d]
  · rw [Finset.sum_eq_single (⟨h.val, by omega⟩ : Fin 128)]
    · rw [pNew_apply m c h g ⟨h.val, by omega⟩, if_pos rfl]
      unfold vPair
      rw [newPair_apply, dif_pos h.isLt, rowScaleOf_apply, vsBlk_eq, vCodes_apply]
    · intro k _ hk
      rw [pNew_apply, if_neg fun e => hk (Fin.ext e), zero_mul]
    · intro hn; exact absurd (Finset.mem_univ _) hn

/-- The kernel's attention is the reference's. -/
theorem yOut_apply (h g : Fin 8) (i : Fin 64) (hi : i.val = 8 * h.val + g.val) (d : Fin 128) :
    yOut m c (ix2 i d) = ReferenceIdeal.Value.G7 (F := Ideal) (aX m c) (aKn m c) (aVn m c) (aKc m c) (aKs m c) (aVc m c) (aVs m c)
      (ix3 0 0 ⟨h.val * 1024 + g.val * 128 + d.val, by omega⟩) := by
  have hd : i.val / 8 = h.val := by omega
  have hm : (⟨i.val % 8, by omega⟩ : Fin 8) = g := Fin.ext (by dsimp only; omega)
  rw [ReferenceIdeal.Hand.G7_apply _ _ _ _ _ _ _ h g d (mFin m c (ix2 g ⟨h.val, by omega⟩)) (mFin_iff m c h g _ (by dsimp only; omega))]
  unfold yOut
  rw [finish_apply, hd, hm]
  exact congrArg₂ Ideal.div (num_eq m c h g i hi d) (den_eq m c h g)

end Cert.KernelIdeal.Hand

end
-- ==== Proof.Value.Main.lean ====
/- The kernel and the reference over the extended reals: from equal arguments, equal results. -/
module

public import proofs.«01_k».proof.Defs
public import proofs.«01_k».proof.Proof.Value.Attn

@[expose] public section

set_option maxRecDepth 16384
set_option synthInstance.maxSize 4096

noncomputable section

namespace Cert.KernelIdeal.Hand

open Idealize.ShloMosaic Idealize.ShloMosaic.TcCoe Idealize.SL.Sem Cert.KernelIdeal
open Facts₀

/-- The flat result at a position: the row of its head and query, at its column. -/
theorem flatten_apply (y : FVec Ideal S64x128 .bf16) (j : Fin 8192) :
    shapeCast S1x1x8192 y shapeCasts_S64x128_S1x1x8192 (ix3 0 0 j) = y (ix2 ⟨j.val / 128, by omega⟩ ⟨j.val % 128, by omega⟩) := by
  pointwise

/-- The codes with two unit axes in front. -/
theorem lift_apply (y : FVec Ideal S8x128 .fp8e4m3) (h : Fin 8) (d : Fin 128) :
    shapeCast S1x1x8x128 y shapeCasts_S8x128_S1x1x8x128 (ix4 0 0 h d) = y (ix2 h d) := by
  pointwise

/-- An array of shape 1×1×8192 is what it is along its last axis. -/
theorem ext_flat (u v : FVec Ideal S1x1x8192 .bf16) (h : ∀ j : Fin 8192, u (ix3 0 0 j) = v (ix3 0 0 j)) : u = v := by
  funext i
  idx_vars i
  obtain rfl : i0 = 0 := Subsingleton.elim _ _
  obtain rfl : i1 = 0 := Subsingleton.elim _ _
  exact h i2

/-- An array of shape 1×1×8×128 is what it is along its last two axes. -/
theorem ext_lift (u v : FVec Ideal S1x1x8x128 .fp8e4m3) (h : ∀ (a : Fin 8) (d : Fin 128), u (ix4 0 0 a d) = v (ix4 0 0 a d)) : u = v := by
  funext i
  idx_vars i
  obtain rfl : i0 = 0 := Subsingleton.elim _ _
  obtain rfl : i1 = 0 := Subsingleton.elim _ _
  exact h i2 i3

variable (m : (ℓ : Loc nD τ sig) → Buf (Elt Ideal) ℓ) (c : Dev nD)

/-- The attention result is the reference's. -/
theorem y_eq : shapeCast S1x1x8192 (yOut m c) shapeCasts_S64x128_S1x1x8192
    = ReferenceIdeal.Value.G7 (F := Ideal) (aX m c) (aKn m c) (aVn m c) (aKc m c) (aKs m c) (aVc m c) (aVs m c) :=
  ext_flat _ _ fun j =>
    (flatten_apply _ j).trans ((yOut_apply m c ⟨j.val / 1024, by omega⟩ ⟨j.val / 128 % 8, by omega⟩ _ (by dsimp only; omega) _).trans
      (congrArg (ReferenceIdeal.Value.G7 (F := Ideal) (aX m c) (aKn m c) (aVn m c) (aKc m c) (aKs m c) (aVc m c) (aVs m c))
        (congrArg (ix3 0 0) (Fin.ext (by dsimp only; omega)))))

/-- The new key's codes are the reference's. -/
theorem k_eq : shapeCast S1x1x8x128 (kCodes m c) shapeCasts_S8x128_S1x1x8x128
    = ReferenceIdeal.Value.G8 (F := Ideal) (aX m c) (aKn m c) (aVn m c) (aKc m c) (aKs m c) (aVc m c) (aVs m c) :=
  ext_lift _ _ fun h d => (lift_apply _ h d).trans (kCodes_apply m c h d)

/-- The new value's codes are the reference's. -/
theorem v_eq : shapeCast S1x1x8x128 (vCodes m c) shapeCasts_S8x128_S1x1x8x128
    = ReferenceIdeal.Value.G9 (F := Ideal) (aX m c) (aKn m c) (aVn m c) (aKc m c) (aKs m c) (aVc m c) (aVs m c) :=
  ext_lift _ _ fun h d => (lift_apply _ h d).trans (vCodes_apply m c h d)

/-- From equal arguments the kernel and the reference end with equal results, their arguments as they were. -/
theorem algebraic : algebraic_KernelIdeal_ReferenceIdeal := by
  intro m g m' g' _ hm
  refine ⟨fun c => ReferenceIdeal.Value.G7 (F := Ideal) (aX m c) (aKn m c) (aVn m c) (aKc m c) (aKs m c) (aVc m c) (aVs m c),
    fun c => ReferenceIdeal.Value.G8 (F := Ideal) (aX m c) (aKn m c) (aVn m c) (aKc m c) (aKs m c) (aVc m c) (aVs m c),
    fun c => aKs m c,
    fun c => ReferenceIdeal.Value.G9 (F := Ideal) (aX m c) (aKn m c) (aVn m c) (aKc m c) (aKs m c) (aVc m c) (aVs m c),
    fun c => aVs m c, (θ_run _ _ _).mono (fun r h c => ?_) (run_values m g),
    (θ_run _ _ _).mono (fun r h c => ?_) (ReferenceIdeal.Value.run m' g')⟩
  · obtain ⟨h6, h7, h8, h0, h1, h2, h3, h4, h5, hs⟩ := h c
    exact ⟨h6.trans (y_eq m c), h7.trans (k_eq m c), h4, h8.trans (v_eq m c), hs, h0, h1, h2, h3, h4, h5, hs⟩
  · obtain ⟨h7, h8, h9, h0, h1, h2, h3, h4, h5, h6⟩ := h c
    obtain ⟨e0, e1, e2, e3, e4, e5, e6⟩ := hm c
    rw [e0, e1, e2, e3, e4, e5, e6] at h7 h8 h9
    exact ⟨h7, h8, h4.trans e4, h9, h6.trans e6, h0, h1, h2, h3, h4, h5, h6⟩

end Cert.KernelIdeal.Hand

end
-- ==== Proof.lean ====
/- The certificate: the frames of the four programs, the rewrites from the compiled kernel and reference to the ideal ones, and the ideal kernel's results against the reference's. -/
module

public import proofs.«01_k».proof.Defs
public import proofs.«01_k».proof.Proof.Kernel.Run
public import proofs.«01_k».proof.Proof.KernelIdeal.Run
public import proofs.«01_k».proof.Proof.Gen.Reference.Frame
public import proofs.«01_k».proof.Proof.Gen.ReferenceIdeal.Frame
public import proofs.«01_k».proof.Proof.Gen.ReferenceIdeal.Value
public import proofs.«01_k».proof.Proof.Value.Main
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Reference.Gen.facts,
  fun m ρ _ => Cert.Kernel.Hand.frame m ρ,
  fun m ρ _ => Cert.KernelIdeal.Hand.frame m ρ,
  fun m ρ _ => Cert.ReferenceIdeal.Gen.frame m ρ,
  fun m ρ _ => Cert.Reference.Gen.frame m ρ,
  IdealRules.named_const.statement Cert.KernelIdeal.κ "exp2_scale" .f32 0x3E0293EE#32 (((Real.sqrt 128)⁻¹ * (Real.log 2)⁻¹ : ℝ) : EReal) rfl,
  IdealRules.named_const.statement Cert.ReferenceIdeal.κ "inv_sqrt_d" .f32 0x3DB504F3#32 (((Real.sqrt 128)⁻¹ : ℝ) : EReal) rfl,
  Cert.KernelIdeal.Hand.algebraic⟩

end Cert.Proof

end
